-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x4096 : Shape := ⟨3, ![4, 256, 4096]⟩
abbrev S4096x128 : Shape := ⟨2, ![4096, 128]⟩
abbrev S128x4096 : Shape := ⟨2, ![128, 4096]⟩
abbrev S4096x4096 : Shape := ⟨2, ![4096, 4096]⟩
abbrev S4096x2048 : Shape := ⟨2, ![4096, 2048]⟩
abbrev S4096x64 : Shape := ⟨2, ![4096, 64]⟩
abbrev S1024x4096 : Shape := ⟨2, ![1024, 4096]⟩
abbrev S1024x128 : Shape := ⟨2, ![1024, 128]⟩
abbrev S1x1024x4096 : Shape := ⟨3, ![1, 1024, 4096]⟩
abbrev S2x1024x4096 : Shape := ⟨3, ![2, 1024, 4096]⟩
abbrev S2x1024x32x128 : Shape := ⟨4, ![2, 1024, 32, 128]⟩
abbrev S32x2x1024x128 : Shape := ⟨4, ![32, 2, 1024, 128]⟩
abbrev S2x1024x128 : Shape := ⟨3, ![2, 1024, 128]⟩
abbrev S2 : Shape := ⟨1, ![2]⟩
abbrev S_ : Shape := ⟨0, ![]⟩
abbrev S1x1x1024x128 : Shape := ⟨4, ![1, 1, 1024, 128]⟩
abbrev S1x1024x128 : Shape := ⟨3, ![1, 1024, 128]⟩
abbrev S1 : Shape := ⟨1, ![1]⟩
abbrev S4x256x128 : Shape := ⟨3, ![4, 256, 128]⟩
abbrev S1024x64 : Shape := ⟨2, ![1024, 64]⟩
abbrev S4x256x64 : Shape := ⟨3, ![4, 256, 64]⟩
abbrev S4x256x256 : Shape := ⟨3, ![4, 256, 256]⟩
abbrev S4x256 : Shape := ⟨2, ![4, 256]⟩
abbrev S4x256x1 : Shape := ⟨3, ![4, 256, 1]⟩
abbrev S32x1024x128 : Shape := ⟨3, ![32, 1024, 128]⟩
abbrev S1024x32x128 : Shape := ⟨3, ![1024, 32, 128]⟩

abbrev nBuf : Space → Nat
  | .hbm => 75
  | .vmem => 11
  | .smem => 0
  | _ => 0

abbrev bufTy : (tb : Table) → Fin (tcTables nBuf tb) → BufTy
  | .hbm, ⟨0, _⟩ => ⟨S4x256x4096, .f32⟩
  | .hbm, ⟨1, _⟩ => ⟨S4096x128, .f32⟩
  | .hbm, ⟨2, _⟩ => ⟨S128x4096, .f32⟩
  | .hbm, ⟨3, _⟩ => ⟨S128x4096, .f32⟩
  | .hbm, ⟨4, _⟩ => ⟨S4096x4096, .f32⟩
  | .hbm, ⟨5, _⟩ => ⟨S4096x2048, .f32⟩
  | .hbm, ⟨6, _⟩ => ⟨S4096x64, .f32⟩
  | .hbm, ⟨7, _⟩ => ⟨S4096x4096, .f32⟩
  | .hbm, ⟨8, _⟩ => ⟨S1024x4096, .f32⟩
  | .hbm, ⟨9, _⟩ => ⟨S1024x128, .f32⟩
  | .hbm, ⟨10, _⟩ => ⟨S1024x4096, .f32⟩
  | .hbm, ⟨11, _⟩ => ⟨S1024x4096, .f32⟩
  | .hbm, ⟨12, _⟩ => ⟨S1x1024x4096, .f32⟩
  | .hbm, ⟨13, _⟩ => ⟨S1x1024x4096, .f32⟩
  | .hbm, ⟨14, _⟩ => ⟨S2x1024x4096, .f32⟩
  | .hbm, ⟨15, _⟩ => ⟨S2x1024x32x128, .f32⟩
  | .hbm, ⟨16, _⟩ => ⟨S32x2x1024x128, .f32⟩
  | .hbm, ⟨17, _⟩ => ⟨S2x1024x128, .f32⟩
  | .hbm, ⟨18, _⟩ => ⟨S1x1024x128, .f32⟩
  | .hbm, ⟨19, _⟩ => ⟨S1024x128, .f32⟩
  | .hbm, ⟨20, _⟩ => ⟨S4x256x128, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S4096x128, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S4096x64, .f32⟩
  | .hbm, ⟨45, _⟩ => ⟨S1024x128, .f32⟩
  | .hbm, ⟨46, _⟩ => ⟨S4x256x128, .f32⟩
  | .hbm, ⟨47, _⟩ => ⟨S1024x64, .f32⟩
  | .hbm, ⟨48, _⟩ => ⟨S4x256x64, .f32⟩
  | .hbm, ⟨49, _⟩ => ⟨S1024x64, .f32⟩
  | .hbm, ⟨50, _⟩ => ⟨S4x256x64, .f32⟩
  | .hbm, ⟨51, _⟩ => ⟨S4x256x256, .f32⟩
  | .hbm, ⟨52, _⟩ => ⟨S4x256x256, .f32⟩
  | .hbm, ⟨53, _⟩ => ⟨S4x256x256, .f32⟩
  | .hbm, ⟨54, _⟩ => ⟨S_, .f32⟩
  | .hbm, ⟨55, _⟩ => ⟨S4x256x256, .f32⟩
  | .hbm, ⟨56, _⟩ => ⟨S4x256x256, .f32⟩
  | .hbm, ⟨57, _⟩ => ⟨S_, .f32⟩
  | .hbm, ⟨58, _⟩ => ⟨S4x256, .f32⟩
  | .hbm, ⟨59, _⟩ => ⟨S4x256x1, .f32⟩
  | .hbm, ⟨60, _⟩ => ⟨S4x256x256, .f32⟩
  | .hbm, ⟨61, _⟩ => ⟨S4x256x256, .f32⟩
  | .hbm, ⟨62, _⟩ => ⟨S4x256x256, .f32⟩
  | .hbm, ⟨63, _⟩ => ⟨S_, .f32⟩
  | .hbm, ⟨64, _⟩ => ⟨S4x256, .f32⟩
  | .hbm, ⟨65, _⟩ => ⟨S4x256x1, .f32⟩
  | .hbm, ⟨66, _⟩ => ⟨S4x256x256, .f32⟩
  | .hbm, ⟨67, _⟩ => ⟨S4x256x256, .f32⟩
  | .hbm, ⟨68, _⟩ => ⟨S4x256x128, .f32⟩
  | .hbm, ⟨69, _⟩ => ⟨S1024x128, .f32⟩
  | .hbm, ⟨70, _⟩ => ⟨S32x1024x128, .f32⟩
  | .hbm, ⟨71, _⟩ => ⟨S1024x32x128, .f32⟩
  | .hbm, ⟨72, _⟩ => ⟨S1024x4096, .f32⟩
  | .hbm, ⟨73, _⟩ => ⟨S1024x4096, .f32⟩
  | .hbm, ⟨74, _⟩ => ⟨S4x256x4096, .f32⟩
  | .local _ .vmem, ⟨0, _⟩ => ⟨S32x2x1024x128, .f32⟩
  | .local _ .vmem, ⟨1, _⟩ => ⟨S2x1024x128, .f32⟩
  | .local _ .vmem, ⟨2, _⟩ => ⟨S2x1024x128, .f32⟩
  | .local _ .vmem, ⟨3, _⟩ => ⟨S2x1024x128, .f32⟩
  | .local _ .vmem, ⟨4, _⟩ => ⟨S4x256x256, .f32⟩
  | .local _ .vmem, ⟨5, _⟩ => ⟨S2x1024x128, .f32⟩
  | .local _ .vmem, ⟨6, _⟩ => ⟨S4x256x128, .f32⟩
  | .local _ .vmem, ⟨7, _⟩ => ⟨S1024x128, .f32⟩
  | .local _ .vmem, ⟨8, _⟩ => ⟨S32x1024x128, .f32⟩
  | .local _ .vmem, ⟨9, _⟩ => ⟨S2x1024x128, .f32⟩
  | .local _ .vmem, ⟨10, _⟩ => ⟨S2x1024x128, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 6 → Bool
  | ⟨0, _⟩ => true
  | ⟨1, _⟩ => true
  | ⟨2, _⟩ => false
  | ⟨3, _⟩ => true
  | ⟨4, _⟩ => true
  | ⟨5, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 6 23 bufScoped semScoped dmaSemScoped tileCredit tileCredit_eq_zero tileCredit_pos).withBarriers [(0, 2), (1, 5)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_c_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_scratch0 : Ref sig .tc := ⟨.vmem, 9, rfl⟩
abbrev cc2_scratch1 : Ref sig .tc := ⟨.vmem, 10, rfl⟩
abbrev cc0_sem0_0 : DmaSem sig := 0
abbrev cc0_sem1_0 : DmaSem sig := 1
abbrev cc1_sem0_0 : DmaSem sig := 10
abbrev cc1_sem1_0 : DmaSem sig := 11
abbrev cc1_sem2_0 : DmaSem sig := 12
abbrev cc2_sem0_0 : DmaSem sig := 13
abbrev cc2_sem1_0 : DmaSem sig := 14
abbrev barrier0 : Sem sig := 2
abbrev barrier1 : Sem sig := 5

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let v13 : Index := Scalar.indexCast v5
  let c0 : Index := 0#32
  let c0_10 : Index := 0#32
  let c0_11 : Index := 0#32
  ![v13.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let v19 : Index := Scalar.indexCast v7
  let c1 : Index := 1#32
  let c0_15 : Index := 0#32
  let c0_16 : Index := 0#32
  ![v19.toNat, 1, 0, 0]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_24 : BitVec 32 := 1#32
  let v25 : BitVec 32 := Scalar.muli v7 c1_i32_24
  let v26 : BitVec 32 := Scalar.addi c0_i32_25 v25
  v26.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_34 : BitVec 32 := 1#32
  let v35 : BitVec 32 := Scalar.muli v5 c1_i32_34
  let v36 : BitVec 32 := Scalar.addi c0_i32_35 v35
  v36.toNat
def k0_off3 (d0 : Dev nD) (c0_i32_60 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v59 : BitVec 32 := Scalar.addi v2 c64_i32
  let c2_i32_59 : BitVec 32 := 2#32
  let v60 : BitVec 32 := Scalar.subi v59 c2_i32_59
  let v61 : BitVec 32 := Scalar.subi v60 c0_i32_60
  let c32_i32_61 : BitVec 32 := 32#32
  let v62 : BitVec 32 := Scalar.remsi v61 c32_i32_61
  let v65 : Index := Scalar.indexCast v62
  let c0_65 : Index := 0#32
  let c0_66 : Index := 0#32
  let c0_67 : Index := 0#32
  ![v65.toNat, 0, 0, 0]
def k0_off4 (d0 : Dev nD) (c0_i32_91 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_90 : BitVec 32 := 2#32
  let v86 : BitVec 32 := Scalar.addi v2 c2_i32_90
  let v87 : BitVec 32 := Scalar.addi v86 c0_i32_91
  let c32_i32_92 : BitVec 32 := 32#32
  let v88 : BitVec 32 := Scalar.remsi v87 c32_i32_92
  let v91 : Index := Scalar.indexCast v88
  let c1_96 : Index := 1#32
  let c0_97 : Index := 0#32
  let c0_98 : Index := 0#32
  ![v91.toNat, 1, 0, 0]
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_103 : BitVec 32 := 1#32
  let v98 : BitVec 32 := Scalar.muli v5 c1_i32_103
  let v99 : BitVec 32 := Scalar.addi c0_i32_104 v98
  v99.toNat
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_106 : BitVec 32 := 1#32
  let v100 : BitVec 32 := Scalar.muli v7 c1_i32_106
  let v101 : BitVec 32 := Scalar.addi c0_i32_107 v100
  v101.toNat
def k0_dev7 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_116 : BitVec 32 := 1#32
  let v102 : BitVec 32 := Scalar.muli v7 c1_i32_116
  let v103 : BitVec 32 := Scalar.addi c0_i32_117 v102
  v103.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_126 : BitVec 32 := 1#32
  let v112 : BitVec 32 := Scalar.muli v5 c1_i32_126
  let v113 : BitVec 32 := Scalar.addi c0_i32_127 v112
  v113.toNat
def k0_dev9 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_196 : BitVec 32 := 1#32
  let v175 : BitVec 32 := Scalar.muli v5 c1_i32_196
  let v176 : BitVec 32 := Scalar.addi c0_i32_197 v175
  v176.toNat
def k0_dev10 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_199 : BitVec 32 := 1#32
  let v177 : BitVec 32 := Scalar.muli v7 c1_i32_199
  let v178 : BitVec 32 := Scalar.addi c0_i32_200 v177
  v178.toNat
def k0_dev11 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_209 : BitVec 32 := 1#32
  let v179 : BitVec 32 := Scalar.muli v7 c1_i32_209
  let v180 : BitVec 32 := Scalar.addi c0_i32_210 v179
  v180.toNat
def k0_dev12 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_219 : BitVec 32 := 1#32
  let v189 : BitVec 32 := Scalar.muli v5 c1_i32_219
  let v190 : BitVec 32 := Scalar.addi c0_i32_220 v189
  v190.toNat
def k0_dev13 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_289 : BitVec 32 := 1#32
  let v252 : BitVec 32 := Scalar.muli v5 c1_i32_289
  let v253 : BitVec 32 := Scalar.addi c0_i32_290 v252
  v253.toNat
def k0_dev14 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_292 : BitVec 32 := 1#32
  let v254 : BitVec 32 := Scalar.muli v7 c1_i32_292
  let v255 : BitVec 32 := Scalar.addi c0_i32_293 v254
  v255.toNat
def k0_dev15 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_302 : BitVec 32 := 1#32
  let v256 : BitVec 32 := Scalar.muli v7 c1_i32_302
  let v257 : BitVec 32 := Scalar.addi c0_i32_303 v256
  v257.toNat
def k0_dev16 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_312 : BitVec 32 := 1#32
  let v266 : BitVec 32 := Scalar.muli v5 c1_i32_312
  let v267 : BitVec 32 := Scalar.addi c0_i32_313 v266
  v267.toNat
def k0_dev17 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_381 : BitVec 32 := 1#32
  let v329 : BitVec 32 := Scalar.muli v5 c1_i32_381
  let v330 : BitVec 32 := Scalar.addi c0_i32_382 v329
  v330.toNat
def k0_dev18 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_384 : BitVec 32 := 1#32
  let v331 : BitVec 32 := Scalar.muli v7 c1_i32_384
  let v332 : BitVec 32 := Scalar.addi c0_i32_385 v331
  v332.toNat
def k0_dev19 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_394 : BitVec 32 := 1#32
  let v333 : BitVec 32 := Scalar.muli v7 c1_i32_394
  let v334 : BitVec 32 := Scalar.addi c0_i32_395 v333
  v334.toNat
def k0_dev20 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_404 : BitVec 32 := 1#32
  let v343 : BitVec 32 := Scalar.muli v5 c1_i32_404
  let v344 : BitVec 32 := Scalar.addi c0_i32_405 v343
  v344.toNat
def k0_dev21 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_473 : BitVec 32 := 1#32
  let v406 : BitVec 32 := Scalar.muli v5 c1_i32_473
  let v407 : BitVec 32 := Scalar.addi c0_i32_474 v406
  v407.toNat
def k0_dev22 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_476 : BitVec 32 := 1#32
  let v408 : BitVec 32 := Scalar.muli v7 c1_i32_476
  let v409 : BitVec 32 := Scalar.addi c0_i32_477 v408
  v409.toNat
def k0_dev23 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_486 : BitVec 32 := 1#32
  let v410 : BitVec 32 := Scalar.muli v7 c1_i32_486
  let v411 : BitVec 32 := Scalar.addi c0_i32_487 v410
  v411.toNat
def k0_dev24 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_496 : BitVec 32 := 1#32
  let v420 : BitVec 32 := Scalar.muli v5 c1_i32_496
  let v421 : BitVec 32 := Scalar.addi c0_i32_497 v420
  v421.toNat
def k0_dev25 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_565 : BitVec 32 := 1#32
  let v483 : BitVec 32 := Scalar.muli v5 c1_i32_565
  let v484 : BitVec 32 := Scalar.addi c0_i32_566 v483
  v484.toNat
def k0_dev26 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_568 : BitVec 32 := 1#32
  let v485 : BitVec 32 := Scalar.muli v7 c1_i32_568
  let v486 : BitVec 32 := Scalar.addi c0_i32_569 v485
  v486.toNat
def k0_dev27 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_578 : BitVec 32 := 1#32
  let v487 : BitVec 32 := Scalar.muli v7 c1_i32_578
  let v488 : BitVec 32 := Scalar.addi c0_i32_579 v487
  v488.toNat
def k0_dev28 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_588 : BitVec 32 := 1#32
  let v497 : BitVec 32 := Scalar.muli v5 c1_i32_588
  let v498 : BitVec 32 := Scalar.addi c0_i32_589 v497
  v498.toNat
def k0_dev29 (d0 : Dev nD) : Nat :=
  let c0_i32_658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_657 : BitVec 32 := 1#32
  let v560 : BitVec 32 := Scalar.muli v5 c1_i32_657
  let v561 : BitVec 32 := Scalar.addi c0_i32_658 v560
  v561.toNat
def k0_dev30 (d0 : Dev nD) : Nat :=
  let c0_i32_661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_660 : BitVec 32 := 1#32
  let v562 : BitVec 32 := Scalar.muli v7 c1_i32_660
  let v563 : BitVec 32 := Scalar.addi c0_i32_661 v562
  v563.toNat
def k0_dev31 (d0 : Dev nD) : Nat :=
  let c0_i32_671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_670 : BitVec 32 := 1#32
  let v564 : BitVec 32 := Scalar.muli v7 c1_i32_670
  let v565 : BitVec 32 := Scalar.addi c0_i32_671 v564
  v565.toNat
def k0_dev32 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_680 : BitVec 32 := 1#32
  let v574 : BitVec 32 := Scalar.muli v5 c1_i32_680
  let v575 : BitVec 32 := Scalar.addi c0_i32_681 v574
  v575.toNat
def k0_dev33 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_749 : BitVec 32 := 1#32
  let v637 : BitVec 32 := Scalar.muli v5 c1_i32_749
  let v638 : BitVec 32 := Scalar.addi c0_i32_750 v637
  v638.toNat
def k0_dev34 (d0 : Dev nD) : Nat :=
  let c0_i32_753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_752 : BitVec 32 := 1#32
  let v639 : BitVec 32 := Scalar.muli v7 c1_i32_752
  let v640 : BitVec 32 := Scalar.addi c0_i32_753 v639
  v640.toNat
def k0_dev35 (d0 : Dev nD) : Nat :=
  let c0_i32_763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_762 : BitVec 32 := 1#32
  let v641 : BitVec 32 := Scalar.muli v7 c1_i32_762
  let v642 : BitVec 32 := Scalar.addi c0_i32_763 v641
  v642.toNat
def k0_dev36 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_772 : BitVec 32 := 1#32
  let v651 : BitVec 32 := Scalar.muli v5 c1_i32_772
  let v652 : BitVec 32 := Scalar.addi c0_i32_773 v651
  v652.toNat
def k0_dev37 (d0 : Dev nD) : Nat :=
  let c0_i32_842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_841 : BitVec 32 := 1#32
  let v714 : BitVec 32 := Scalar.muli v5 c1_i32_841
  let v715 : BitVec 32 := Scalar.addi c0_i32_842 v714
  v715.toNat
def k0_dev38 (d0 : Dev nD) : Nat :=
  let c0_i32_845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_844 : BitVec 32 := 1#32
  let v716 : BitVec 32 := Scalar.muli v7 c1_i32_844
  let v717 : BitVec 32 := Scalar.addi c0_i32_845 v716
  v717.toNat
def k0_dev39 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_854 : BitVec 32 := 1#32
  let v718 : BitVec 32 := Scalar.muli v7 c1_i32_854
  let v719 : BitVec 32 := Scalar.addi c0_i32_855 v718
  v719.toNat
def k0_dev40 (d0 : Dev nD) : Nat :=
  let c0_i32_865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_864 : BitVec 32 := 1#32
  let v728 : BitVec 32 := Scalar.muli v5 c1_i32_864
  let v729 : BitVec 32 := Scalar.addi c0_i32_865 v728
  v729.toNat
def k0_dev41 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_933 : BitVec 32 := 1#32
  let v791 : BitVec 32 := Scalar.muli v5 c1_i32_933
  let v792 : BitVec 32 := Scalar.addi c0_i32_934 v791
  v792.toNat
def k0_dev42 (d0 : Dev nD) : Nat :=
  let c0_i32_937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_936 : BitVec 32 := 1#32
  let v793 : BitVec 32 := Scalar.muli v7 c1_i32_936
  let v794 : BitVec 32 := Scalar.addi c0_i32_937 v793
  v794.toNat
def k0_dev43 (d0 : Dev nD) : Nat :=
  let c0_i32_947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_946 : BitVec 32 := 1#32
  let v795 : BitVec 32 := Scalar.muli v7 c1_i32_946
  let v796 : BitVec 32 := Scalar.addi c0_i32_947 v795
  v796.toNat
def k0_dev44 (d0 : Dev nD) : Nat :=
  let c0_i32_957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_956 : BitVec 32 := 1#32
  let v805 : BitVec 32 := Scalar.muli v5 c1_i32_956
  let v806 : BitVec 32 := Scalar.addi c0_i32_957 v805
  v806.toNat
def k0_dev45 (d0 : Dev nD) : Nat :=
  let c0_i32_1026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1025 : BitVec 32 := 1#32
  let v868 : BitVec 32 := Scalar.muli v5 c1_i32_1025
  let v869 : BitVec 32 := Scalar.addi c0_i32_1026 v868
  v869.toNat
def k0_dev46 (d0 : Dev nD) : Nat :=
  let c0_i32_1029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1028 : BitVec 32 := 1#32
  let v870 : BitVec 32 := Scalar.muli v7 c1_i32_1028
  let v871 : BitVec 32 := Scalar.addi c0_i32_1029 v870
  v871.toNat
def k0_dev47 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1038 : BitVec 32 := 1#32
  let v872 : BitVec 32 := Scalar.muli v7 c1_i32_1038
  let v873 : BitVec 32 := Scalar.addi c0_i32_1039 v872
  v873.toNat
def k0_dev48 (d0 : Dev nD) : Nat :=
  let c0_i32_1049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1048 : BitVec 32 := 1#32
  let v882 : BitVec 32 := Scalar.muli v5 c1_i32_1048
  let v883 : BitVec 32 := Scalar.addi c0_i32_1049 v882
  v883.toNat
def k0_dev49 (d0 : Dev nD) : Nat :=
  let c0_i32_1118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1117 : BitVec 32 := 1#32
  let v945 : BitVec 32 := Scalar.muli v5 c1_i32_1117
  let v946 : BitVec 32 := Scalar.addi c0_i32_1118 v945
  v946.toNat
def k0_dev50 (d0 : Dev nD) : Nat :=
  let c0_i32_1121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1120 : BitVec 32 := 1#32
  let v947 : BitVec 32 := Scalar.muli v7 c1_i32_1120
  let v948 : BitVec 32 := Scalar.addi c0_i32_1121 v947
  v948.toNat
def k0_dev51 (d0 : Dev nD) : Nat :=
  let c0_i32_1131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1130 : BitVec 32 := 1#32
  let v949 : BitVec 32 := Scalar.muli v7 c1_i32_1130
  let v950 : BitVec 32 := Scalar.addi c0_i32_1131 v949
  v950.toNat
def k0_dev52 (d0 : Dev nD) : Nat :=
  let c0_i32_1141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1140 : BitVec 32 := 1#32
  let v959 : BitVec 32 := Scalar.muli v5 c1_i32_1140
  let v960 : BitVec 32 := Scalar.addi c0_i32_1141 v959
  v960.toNat
def k0_dev53 (d0 : Dev nD) : Nat :=
  let c0_i32_1210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1209 : BitVec 32 := 1#32
  let v1022 : BitVec 32 := Scalar.muli v5 c1_i32_1209
  let v1023 : BitVec 32 := Scalar.addi c0_i32_1210 v1022
  v1023.toNat
def k0_dev54 (d0 : Dev nD) : Nat :=
  let c0_i32_1213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1212 : BitVec 32 := 1#32
  let v1024 : BitVec 32 := Scalar.muli v7 c1_i32_1212
  let v1025 : BitVec 32 := Scalar.addi c0_i32_1213 v1024
  v1025.toNat
def k0_dev55 (d0 : Dev nD) : Nat :=
  let c0_i32_1223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1222 : BitVec 32 := 1#32
  let v1026 : BitVec 32 := Scalar.muli v7 c1_i32_1222
  let v1027 : BitVec 32 := Scalar.addi c0_i32_1223 v1026
  v1027.toNat
def k0_dev56 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1232 : BitVec 32 := 1#32
  let v1036 : BitVec 32 := Scalar.muli v5 c1_i32_1232
  let v1037 : BitVec 32 := Scalar.addi c0_i32_1233 v1036
  v1037.toNat
def k0_dev57 (d0 : Dev nD) : Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1301 : BitVec 32 := 1#32
  let v1099 : BitVec 32 := Scalar.muli v5 c1_i32_1301
  let v1100 : BitVec 32 := Scalar.addi c0_i32_1302 v1099
  v1100.toNat
def k0_dev58 (d0 : Dev nD) : Nat :=
  let c0_i32_1305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1304 : BitVec 32 := 1#32
  let v1101 : BitVec 32 := Scalar.muli v7 c1_i32_1304
  let v1102 : BitVec 32 := Scalar.addi c0_i32_1305 v1101
  v1102.toNat
def k0_dev59 (d0 : Dev nD) : Nat :=
  let c0_i32_1315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1314 : BitVec 32 := 1#32
  let v1103 : BitVec 32 := Scalar.muli v7 c1_i32_1314
  let v1104 : BitVec 32 := Scalar.addi c0_i32_1315 v1103
  v1104.toNat
def k0_dev60 (d0 : Dev nD) : Nat :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1324 : BitVec 32 := 1#32
  let v1113 : BitVec 32 := Scalar.muli v5 c1_i32_1324
  let v1114 : BitVec 32 := Scalar.addi c0_i32_1325 v1113
  v1114.toNat
def k0_dev61 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1393 : BitVec 32 := 1#32
  let v1176 : BitVec 32 := Scalar.muli v5 c1_i32_1393
  let v1177 : BitVec 32 := Scalar.addi c0_i32_1394 v1176
  v1177.toNat
def k0_dev62 (d0 : Dev nD) : Nat :=
  let c0_i32_1397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1396 : BitVec 32 := 1#32
  let v1178 : BitVec 32 := Scalar.muli v7 c1_i32_1396
  let v1179 : BitVec 32 := Scalar.addi c0_i32_1397 v1178
  v1179.toNat
def k0_dev63 (d0 : Dev nD) : Nat :=
  let c0_i32_1407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1406 : BitVec 32 := 1#32
  let v1180 : BitVec 32 := Scalar.muli v7 c1_i32_1406
  let v1181 : BitVec 32 := Scalar.addi c0_i32_1407 v1180
  v1181.toNat
def k0_dev64 (d0 : Dev nD) : Nat :=
  let c0_i32_1417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1416 : BitVec 32 := 1#32
  let v1190 : BitVec 32 := Scalar.muli v5 c1_i32_1416
  let v1191 : BitVec 32 := Scalar.addi c0_i32_1417 v1190
  v1191.toNat
def k0_dev65 (d0 : Dev nD) : Nat :=
  let c0_i32_1486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1485 : BitVec 32 := 1#32
  let v1253 : BitVec 32 := Scalar.muli v5 c1_i32_1485
  let v1254 : BitVec 32 := Scalar.addi c0_i32_1486 v1253
  v1254.toNat
def k0_dev66 (d0 : Dev nD) : Nat :=
  let c0_i32_1489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1488 : BitVec 32 := 1#32
  let v1255 : BitVec 32 := Scalar.muli v7 c1_i32_1488
  let v1256 : BitVec 32 := Scalar.addi c0_i32_1489 v1255
  v1256.toNat
def k0_dev67 (d0 : Dev nD) : Nat :=
  let c0_i32_1499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1498 : BitVec 32 := 1#32
  let v1257 : BitVec 32 := Scalar.muli v7 c1_i32_1498
  let v1258 : BitVec 32 := Scalar.addi c0_i32_1499 v1257
  v1258.toNat
def k0_dev68 (d0 : Dev nD) : Nat :=
  let c0_i32_1509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1508 : BitVec 32 := 1#32
  let v1267 : BitVec 32 := Scalar.muli v5 c1_i32_1508
  let v1268 : BitVec 32 := Scalar.addi c0_i32_1509 v1267
  v1268.toNat
def k0_dev69 (d0 : Dev nD) : Nat :=
  let c0_i32_1578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1577 : BitVec 32 := 1#32
  let v1330 : BitVec 32 := Scalar.muli v5 c1_i32_1577
  let v1331 : BitVec 32 := Scalar.addi c0_i32_1578 v1330
  v1331.toNat
def k0_dev70 (d0 : Dev nD) : Nat :=
  let c0_i32_1581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1580 : BitVec 32 := 1#32
  let v1332 : BitVec 32 := Scalar.muli v7 c1_i32_1580
  let v1333 : BitVec 32 := Scalar.addi c0_i32_1581 v1332
  v1333.toNat
def k0_dev71 (d0 : Dev nD) : Nat :=
  let c0_i32_1591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1590 : BitVec 32 := 1#32
  let v1334 : BitVec 32 := Scalar.muli v7 c1_i32_1590
  let v1335 : BitVec 32 := Scalar.addi c0_i32_1591 v1334
  v1335.toNat
def k0_dev72 (d0 : Dev nD) : Nat :=
  let c0_i32_1601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1600 : BitVec 32 := 1#32
  let v1344 : BitVec 32 := Scalar.muli v5 c1_i32_1600
  let v1345 : BitVec 32 := Scalar.addi c0_i32_1601 v1344
  v1345.toNat
def k0_dev73 (d0 : Dev nD) : Nat :=
  let c0_i32_1670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1669 : BitVec 32 := 1#32
  let v1407 : BitVec 32 := Scalar.muli v5 c1_i32_1669
  let v1408 : BitVec 32 := Scalar.addi c0_i32_1670 v1407
  v1408.toNat
def k0_dev74 (d0 : Dev nD) : Nat :=
  let c0_i32_1673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1672 : BitVec 32 := 1#32
  let v1409 : BitVec 32 := Scalar.muli v7 c1_i32_1672
  let v1410 : BitVec 32 := Scalar.addi c0_i32_1673 v1409
  v1410.toNat
def k0_dev75 (d0 : Dev nD) : Nat :=
  let c0_i32_1683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1682 : BitVec 32 := 1#32
  let v1411 : BitVec 32 := Scalar.muli v7 c1_i32_1682
  let v1412 : BitVec 32 := Scalar.addi c0_i32_1683 v1411
  v1412.toNat
def k0_dev76 (d0 : Dev nD) : Nat :=
  let c0_i32_1693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1692 : BitVec 32 := 1#32
  let v1421 : BitVec 32 := Scalar.muli v5 c1_i32_1692
  let v1422 : BitVec 32 := Scalar.addi c0_i32_1693 v1421
  v1422.toNat
def k0_dev77 (d0 : Dev nD) : Nat :=
  let c0_i32_1762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1761 : BitVec 32 := 1#32
  let v1484 : BitVec 32 := Scalar.muli v5 c1_i32_1761
  let v1485 : BitVec 32 := Scalar.addi c0_i32_1762 v1484
  v1485.toNat
def k0_dev78 (d0 : Dev nD) : Nat :=
  let c0_i32_1765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1764 : BitVec 32 := 1#32
  let v1486 : BitVec 32 := Scalar.muli v7 c1_i32_1764
  let v1487 : BitVec 32 := Scalar.addi c0_i32_1765 v1486
  v1487.toNat
def k0_dev79 (d0 : Dev nD) : Nat :=
  let c0_i32_1775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1774 : BitVec 32 := 1#32
  let v1488 : BitVec 32 := Scalar.muli v7 c1_i32_1774
  let v1489 : BitVec 32 := Scalar.addi c0_i32_1775 v1488
  v1489.toNat
def k0_dev80 (d0 : Dev nD) : Nat :=
  let c0_i32_1785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1784 : BitVec 32 := 1#32
  let v1498 : BitVec 32 := Scalar.muli v5 c1_i32_1784
  let v1499 : BitVec 32 := Scalar.addi c0_i32_1785 v1498
  v1499.toNat
def k0_dev81 (d0 : Dev nD) : Nat :=
  let c0_i32_1854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1853 : BitVec 32 := 1#32
  let v1561 : BitVec 32 := Scalar.muli v5 c1_i32_1853
  let v1562 : BitVec 32 := Scalar.addi c0_i32_1854 v1561
  v1562.toNat
def k0_dev82 (d0 : Dev nD) : Nat :=
  let c0_i32_1857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1856 : BitVec 32 := 1#32
  let v1563 : BitVec 32 := Scalar.muli v7 c1_i32_1856
  let v1564 : BitVec 32 := Scalar.addi c0_i32_1857 v1563
  v1564.toNat
def k0_dev83 (d0 : Dev nD) : Nat :=
  let c0_i32_1867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1866 : BitVec 32 := 1#32
  let v1565 : BitVec 32 := Scalar.muli v7 c1_i32_1866
  let v1566 : BitVec 32 := Scalar.addi c0_i32_1867 v1565
  v1566.toNat
def k0_dev84 (d0 : Dev nD) : Nat :=
  let c0_i32_1877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1876 : BitVec 32 := 1#32
  let v1575 : BitVec 32 := Scalar.muli v5 c1_i32_1876
  let v1576 : BitVec 32 := Scalar.addi c0_i32_1877 v1575
  v1576.toNat
def k0_dev85 (d0 : Dev nD) : Nat :=
  let c0_i32_1946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1945 : BitVec 32 := 1#32
  let v1638 : BitVec 32 := Scalar.muli v5 c1_i32_1945
  let v1639 : BitVec 32 := Scalar.addi c0_i32_1946 v1638
  v1639.toNat
def k0_dev86 (d0 : Dev nD) : Nat :=
  let c0_i32_1949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1948 : BitVec 32 := 1#32
  let v1640 : BitVec 32 := Scalar.muli v7 c1_i32_1948
  let v1641 : BitVec 32 := Scalar.addi c0_i32_1949 v1640
  v1641.toNat
def k0_dev87 (d0 : Dev nD) : Nat :=
  let c0_i32_1959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1958 : BitVec 32 := 1#32
  let v1642 : BitVec 32 := Scalar.muli v7 c1_i32_1958
  let v1643 : BitVec 32 := Scalar.addi c0_i32_1959 v1642
  v1643.toNat
def k0_dev88 (d0 : Dev nD) : Nat :=
  let c0_i32_1969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1968 : BitVec 32 := 1#32
  let v1652 : BitVec 32 := Scalar.muli v5 c1_i32_1968
  let v1653 : BitVec 32 := Scalar.addi c0_i32_1969 v1652
  v1653.toNat
def k0_dev89 (d0 : Dev nD) : Nat :=
  let c0_i32_2038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2037 : BitVec 32 := 1#32
  let v1715 : BitVec 32 := Scalar.muli v5 c1_i32_2037
  let v1716 : BitVec 32 := Scalar.addi c0_i32_2038 v1715
  v1716.toNat
def k0_dev90 (d0 : Dev nD) : Nat :=
  let c0_i32_2041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2040 : BitVec 32 := 1#32
  let v1717 : BitVec 32 := Scalar.muli v7 c1_i32_2040
  let v1718 : BitVec 32 := Scalar.addi c0_i32_2041 v1717
  v1718.toNat
def k0_dev91 (d0 : Dev nD) : Nat :=
  let c0_i32_2051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2050 : BitVec 32 := 1#32
  let v1719 : BitVec 32 := Scalar.muli v7 c1_i32_2050
  let v1720 : BitVec 32 := Scalar.addi c0_i32_2051 v1719
  v1720.toNat
def k0_dev92 (d0 : Dev nD) : Nat :=
  let c0_i32_2061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2060 : BitVec 32 := 1#32
  let v1729 : BitVec 32 := Scalar.muli v5 c1_i32_2060
  let v1730 : BitVec 32 := Scalar.addi c0_i32_2061 v1729
  v1730.toNat
def k0_dev93 (d0 : Dev nD) : Nat :=
  let c0_i32_2130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2129 : BitVec 32 := 1#32
  let v1792 : BitVec 32 := Scalar.muli v5 c1_i32_2129
  let v1793 : BitVec 32 := Scalar.addi c0_i32_2130 v1792
  v1793.toNat
def k0_dev94 (d0 : Dev nD) : Nat :=
  let c0_i32_2133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2132 : BitVec 32 := 1#32
  let v1794 : BitVec 32 := Scalar.muli v7 c1_i32_2132
  let v1795 : BitVec 32 := Scalar.addi c0_i32_2133 v1794
  v1795.toNat
def k0_dev95 (d0 : Dev nD) : Nat :=
  let c0_i32_2143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2142 : BitVec 32 := 1#32
  let v1796 : BitVec 32 := Scalar.muli v7 c1_i32_2142
  let v1797 : BitVec 32 := Scalar.addi c0_i32_2143 v1796
  v1797.toNat
def k0_dev96 (d0 : Dev nD) : Nat :=
  let c0_i32_2153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2152 : BitVec 32 := 1#32
  let v1806 : BitVec 32 := Scalar.muli v5 c1_i32_2152
  let v1807 : BitVec 32 := Scalar.addi c0_i32_2153 v1806
  v1807.toNat
def k0_dev97 (d0 : Dev nD) : Nat :=
  let c0_i32_2222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2221 : BitVec 32 := 1#32
  let v1869 : BitVec 32 := Scalar.muli v5 c1_i32_2221
  let v1870 : BitVec 32 := Scalar.addi c0_i32_2222 v1869
  v1870.toNat
def k0_dev98 (d0 : Dev nD) : Nat :=
  let c0_i32_2225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2224 : BitVec 32 := 1#32
  let v1871 : BitVec 32 := Scalar.muli v7 c1_i32_2224
  let v1872 : BitVec 32 := Scalar.addi c0_i32_2225 v1871
  v1872.toNat
def k0_dev99 (d0 : Dev nD) : Nat :=
  let c0_i32_2235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2234 : BitVec 32 := 1#32
  let v1873 : BitVec 32 := Scalar.muli v7 c1_i32_2234
  let v1874 : BitVec 32 := Scalar.addi c0_i32_2235 v1873
  v1874.toNat
def k0_dev100 (d0 : Dev nD) : Nat :=
  let c0_i32_2245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2244 : BitVec 32 := 1#32
  let v1883 : BitVec 32 := Scalar.muli v5 c1_i32_2244
  let v1884 : BitVec 32 := Scalar.addi c0_i32_2245 v1883
  v1884.toNat
def k0_dev101 (d0 : Dev nD) : Nat :=
  let c0_i32_2314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2313 : BitVec 32 := 1#32
  let v1946 : BitVec 32 := Scalar.muli v5 c1_i32_2313
  let v1947 : BitVec 32 := Scalar.addi c0_i32_2314 v1946
  v1947.toNat
def k0_dev102 (d0 : Dev nD) : Nat :=
  let c0_i32_2317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2316 : BitVec 32 := 1#32
  let v1948 : BitVec 32 := Scalar.muli v7 c1_i32_2316
  let v1949 : BitVec 32 := Scalar.addi c0_i32_2317 v1948
  v1949.toNat
def k0_dev103 (d0 : Dev nD) : Nat :=
  let c0_i32_2327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2326 : BitVec 32 := 1#32
  let v1950 : BitVec 32 := Scalar.muli v7 c1_i32_2326
  let v1951 : BitVec 32 := Scalar.addi c0_i32_2327 v1950
  v1951.toNat
def k0_dev104 (d0 : Dev nD) : Nat :=
  let c0_i32_2337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2336 : BitVec 32 := 1#32
  let v1960 : BitVec 32 := Scalar.muli v5 c1_i32_2336
  let v1961 : BitVec 32 := Scalar.addi c0_i32_2337 v1960
  v1961.toNat
def k0_dev105 (d0 : Dev nD) : Nat :=
  let c0_i32_2406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2405 : BitVec 32 := 1#32
  let v2023 : BitVec 32 := Scalar.muli v5 c1_i32_2405
  let v2024 : BitVec 32 := Scalar.addi c0_i32_2406 v2023
  v2024.toNat
def k0_dev106 (d0 : Dev nD) : Nat :=
  let c0_i32_2409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2408 : BitVec 32 := 1#32
  let v2025 : BitVec 32 := Scalar.muli v7 c1_i32_2408
  let v2026 : BitVec 32 := Scalar.addi c0_i32_2409 v2025
  v2026.toNat
def k0_dev107 (d0 : Dev nD) : Nat :=
  let c0_i32_2419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2418 : BitVec 32 := 1#32
  let v2027 : BitVec 32 := Scalar.muli v7 c1_i32_2418
  let v2028 : BitVec 32 := Scalar.addi c0_i32_2419 v2027
  v2028.toNat
def k0_dev108 (d0 : Dev nD) : Nat :=
  let c0_i32_2429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2428 : BitVec 32 := 1#32
  let v2037 : BitVec 32 := Scalar.muli v5 c1_i32_2428
  let v2038 : BitVec 32 := Scalar.addi c0_i32_2429 v2037
  v2038.toNat
def k0_dev109 (d0 : Dev nD) : Nat :=
  let c0_i32_2498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2497 : BitVec 32 := 1#32
  let v2100 : BitVec 32 := Scalar.muli v5 c1_i32_2497
  let v2101 : BitVec 32 := Scalar.addi c0_i32_2498 v2100
  v2101.toNat
def k0_dev110 (d0 : Dev nD) : Nat :=
  let c0_i32_2501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2500 : BitVec 32 := 1#32
  let v2102 : BitVec 32 := Scalar.muli v7 c1_i32_2500
  let v2103 : BitVec 32 := Scalar.addi c0_i32_2501 v2102
  v2103.toNat
def k0_dev111 (d0 : Dev nD) : Nat :=
  let c0_i32_2511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2510 : BitVec 32 := 1#32
  let v2104 : BitVec 32 := Scalar.muli v7 c1_i32_2510
  let v2105 : BitVec 32 := Scalar.addi c0_i32_2511 v2104
  v2105.toNat
def k0_dev112 (d0 : Dev nD) : Nat :=
  let c0_i32_2521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2520 : BitVec 32 := 1#32
  let v2114 : BitVec 32 := Scalar.muli v5 c1_i32_2520
  let v2115 : BitVec 32 := Scalar.addi c0_i32_2521 v2114
  v2115.toNat
def k0_dev113 (d0 : Dev nD) : Nat :=
  let c0_i32_2590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2589 : BitVec 32 := 1#32
  let v2177 : BitVec 32 := Scalar.muli v5 c1_i32_2589
  let v2178 : BitVec 32 := Scalar.addi c0_i32_2590 v2177
  v2178.toNat
def k0_dev114 (d0 : Dev nD) : Nat :=
  let c0_i32_2593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2592 : BitVec 32 := 1#32
  let v2179 : BitVec 32 := Scalar.muli v7 c1_i32_2592
  let v2180 : BitVec 32 := Scalar.addi c0_i32_2593 v2179
  v2180.toNat
def k0_dev115 (d0 : Dev nD) : Nat :=
  let c0_i32_2603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2602 : BitVec 32 := 1#32
  let v2181 : BitVec 32 := Scalar.muli v7 c1_i32_2602
  let v2182 : BitVec 32 := Scalar.addi c0_i32_2603 v2181
  v2182.toNat
def k0_dev116 (d0 : Dev nD) : Nat :=
  let c0_i32_2613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2612 : BitVec 32 := 1#32
  let v2191 : BitVec 32 := Scalar.muli v5 c1_i32_2612
  let v2192 : BitVec 32 := Scalar.addi c0_i32_2613 v2191
  v2192.toNat
def k0_dev117 (d0 : Dev nD) : Nat :=
  let c0_i32_2682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2681 : BitVec 32 := 1#32
  let v2254 : BitVec 32 := Scalar.muli v5 c1_i32_2681
  let v2255 : BitVec 32 := Scalar.addi c0_i32_2682 v2254
  v2255.toNat
def k0_dev118 (d0 : Dev nD) : Nat :=
  let c0_i32_2685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2684 : BitVec 32 := 1#32
  let v2256 : BitVec 32 := Scalar.muli v7 c1_i32_2684
  let v2257 : BitVec 32 := Scalar.addi c0_i32_2685 v2256
  v2257.toNat
def k0_dev119 (d0 : Dev nD) : Nat :=
  let c0_i32_2695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2694 : BitVec 32 := 1#32
  let v2258 : BitVec 32 := Scalar.muli v7 c1_i32_2694
  let v2259 : BitVec 32 := Scalar.addi c0_i32_2695 v2258
  v2259.toNat
def k0_dev120 (d0 : Dev nD) : Nat :=
  let c0_i32_2705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2704 : BitVec 32 := 1#32
  let v2268 : BitVec 32 := Scalar.muli v5 c1_i32_2704
  let v2269 : BitVec 32 := Scalar.addi c0_i32_2705 v2268
  v2269.toNat
def k0_dev121 (d0 : Dev nD) : Nat :=
  let c0_i32_2774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2773 : BitVec 32 := 1#32
  let v2331 : BitVec 32 := Scalar.muli v5 c1_i32_2773
  let v2332 : BitVec 32 := Scalar.addi c0_i32_2774 v2331
  v2332.toNat
def k0_dev122 (d0 : Dev nD) : Nat :=
  let c0_i32_2777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2776 : BitVec 32 := 1#32
  let v2333 : BitVec 32 := Scalar.muli v7 c1_i32_2776
  let v2334 : BitVec 32 := Scalar.addi c0_i32_2777 v2333
  v2334.toNat
def k0_dev123 (d0 : Dev nD) : Nat :=
  let c0_i32_2787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2786 : BitVec 32 := 1#32
  let v2335 : BitVec 32 := Scalar.muli v7 c1_i32_2786
  let v2336 : BitVec 32 := Scalar.addi c0_i32_2787 v2335
  v2336.toNat
def k0_dev124 (d0 : Dev nD) : Nat :=
  let c0_i32_2797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2796 : BitVec 32 := 1#32
  let v2345 : BitVec 32 := Scalar.muli v5 c1_i32_2796
  let v2346 : BitVec 32 := Scalar.addi c0_i32_2797 v2345
  v2346.toNat
abbrev stage0_0 : Fin 1 → Memref sig .tc .vmem S32x2x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

abbrev stage1_0 : Fin 1 → Memref sig .tc .vmem S4x256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := .none

def k2_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k2_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k2_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v15 : Index := Scalar.indexCast v2
  let c0_11 : Index := 0#32
  let c0_12 : Index := 0#32
  ![v15.toNat, 0, 0]
def k2_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_27 : BitVec 32 := 1#32
  let v29 : BitVec 32 := Scalar.muli v7 c1_i32_27
  let v30 : BitVec 32 := Scalar.addi c0_i32_28 v29
  v30.toNat
def k2_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_37 : BitVec 32 := 1#32
  let v39 : BitVec 32 := Scalar.muli v5 c1_i32_37
  let v40 : BitVec 32 := Scalar.addi c0_i32_38 v39
  v40.toNat
def k2_off2 (d0 : Dev nD) (c0_i32_64 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_62 : BitVec 32 := 32#32
  let v63 : BitVec 32 := Scalar.addi v2 c32_i32_62
  let c1_i32_63 : BitVec 32 := 1#32
  let v64 : BitVec 32 := Scalar.subi v63 c1_i32_63
  let v65 : BitVec 32 := Scalar.subi v64 c0_i32_64
  let c32_i32_65 : BitVec 32 := 32#32
  let v66 : BitVec 32 := Scalar.remsi v65 c32_i32_65
  let v69 : Index := Scalar.indexCast v66
  let c0_68 : Index := 0#32
  let c0_69 : Index := 0#32
  ![v69.toNat, 0, 0]
def k2_off3 (d0 : Dev nD) (c0_i32_90 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_89 : BitVec 32 := 1#32
  let v87 : BitVec 32 := Scalar.addi v2 c1_i32_89
  let v88 : BitVec 32 := Scalar.addi v87 c0_i32_90
  let c32_i32_91 : BitVec 32 := 32#32
  let v89 : BitVec 32 := Scalar.remsi v88 c32_i32_91
  let v92 : Index := Scalar.indexCast v89
  let c0_95 : Index := 0#32
  let c0_96 : Index := 0#32
  ![v92.toNat, 0, 0]
def k2_dev5 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_98 : BitVec 32 := 1#32
  let v96 : BitVec 32 := Scalar.muli v5 c1_i32_98
  let v97 : BitVec 32 := Scalar.addi c0_i32_99 v96
  v97.toNat
def k2_dev6 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_101 : BitVec 32 := 1#32
  let v98 : BitVec 32 := Scalar.muli v7 c1_i32_101
  let v99 : BitVec 32 := Scalar.addi c0_i32_102 v98
  v99.toNat
def k2_dev7 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_111 : BitVec 32 := 1#32
  let v100 : BitVec 32 := Scalar.muli v7 c1_i32_111
  let v101 : BitVec 32 := Scalar.addi c0_i32_112 v100
  v101.toNat
def k2_dev8 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_121 : BitVec 32 := 1#32
  let v110 : BitVec 32 := Scalar.muli v5 c1_i32_121
  let v111 : BitVec 32 := Scalar.addi c0_i32_122 v110
  v111.toNat
def k2_dev9 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_183 : BitVec 32 := 1#32
  let v167 : BitVec 32 := Scalar.muli v5 c1_i32_183
  let v168 : BitVec 32 := Scalar.addi c0_i32_184 v167
  v168.toNat
def k2_dev10 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_186 : BitVec 32 := 1#32
  let v169 : BitVec 32 := Scalar.muli v7 c1_i32_186
  let v170 : BitVec 32 := Scalar.addi c0_i32_187 v169
  v170.toNat
def k2_dev11 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_196 : BitVec 32 := 1#32
  let v171 : BitVec 32 := Scalar.muli v7 c1_i32_196
  let v172 : BitVec 32 := Scalar.addi c0_i32_197 v171
  v172.toNat
def k2_dev12 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_206 : BitVec 32 := 1#32
  let v181 : BitVec 32 := Scalar.muli v5 c1_i32_206
  let v182 : BitVec 32 := Scalar.addi c0_i32_207 v181
  v182.toNat
def k2_dev13 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_268 : BitVec 32 := 1#32
  let v238 : BitVec 32 := Scalar.muli v5 c1_i32_268
  let v239 : BitVec 32 := Scalar.addi c0_i32_269 v238
  v239.toNat
def k2_dev14 (d0 : Dev nD) : Nat :=
  let c0_i32_272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_271 : BitVec 32 := 1#32
  let v240 : BitVec 32 := Scalar.muli v7 c1_i32_271
  let v241 : BitVec 32 := Scalar.addi c0_i32_272 v240
  v241.toNat
def k2_dev15 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_281 : BitVec 32 := 1#32
  let v242 : BitVec 32 := Scalar.muli v7 c1_i32_281
  let v243 : BitVec 32 := Scalar.addi c0_i32_282 v242
  v243.toNat
def k2_dev16 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_291 : BitVec 32 := 1#32
  let v252 : BitVec 32 := Scalar.muli v5 c1_i32_291
  let v253 : BitVec 32 := Scalar.addi c0_i32_292 v252
  v253.toNat
def k2_dev17 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_352 : BitVec 32 := 1#32
  let v309 : BitVec 32 := Scalar.muli v5 c1_i32_352
  let v310 : BitVec 32 := Scalar.addi c0_i32_353 v309
  v310.toNat
def k2_dev18 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_355 : BitVec 32 := 1#32
  let v311 : BitVec 32 := Scalar.muli v7 c1_i32_355
  let v312 : BitVec 32 := Scalar.addi c0_i32_356 v311
  v312.toNat
def k2_dev19 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_365 : BitVec 32 := 1#32
  let v313 : BitVec 32 := Scalar.muli v7 c1_i32_365
  let v314 : BitVec 32 := Scalar.addi c0_i32_366 v313
  v314.toNat
def k2_dev20 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_375 : BitVec 32 := 1#32
  let v323 : BitVec 32 := Scalar.muli v5 c1_i32_375
  let v324 : BitVec 32 := Scalar.addi c0_i32_376 v323
  v324.toNat
def k2_dev21 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_436 : BitVec 32 := 1#32
  let v380 : BitVec 32 := Scalar.muli v5 c1_i32_436
  let v381 : BitVec 32 := Scalar.addi c0_i32_437 v380
  v381.toNat
def k2_dev22 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_439 : BitVec 32 := 1#32
  let v382 : BitVec 32 := Scalar.muli v7 c1_i32_439
  let v383 : BitVec 32 := Scalar.addi c0_i32_440 v382
  v383.toNat
def k2_dev23 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_449 : BitVec 32 := 1#32
  let v384 : BitVec 32 := Scalar.muli v7 c1_i32_449
  let v385 : BitVec 32 := Scalar.addi c0_i32_450 v384
  v385.toNat
def k2_dev24 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_459 : BitVec 32 := 1#32
  let v394 : BitVec 32 := Scalar.muli v5 c1_i32_459
  let v395 : BitVec 32 := Scalar.addi c0_i32_460 v394
  v395.toNat
def k2_dev25 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_520 : BitVec 32 := 1#32
  let v451 : BitVec 32 := Scalar.muli v5 c1_i32_520
  let v452 : BitVec 32 := Scalar.addi c0_i32_521 v451
  v452.toNat
def k2_dev26 (d0 : Dev nD) : Nat :=
  let c0_i32_524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_523 : BitVec 32 := 1#32
  let v453 : BitVec 32 := Scalar.muli v7 c1_i32_523
  let v454 : BitVec 32 := Scalar.addi c0_i32_524 v453
  v454.toNat
def k2_dev27 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_533 : BitVec 32 := 1#32
  let v455 : BitVec 32 := Scalar.muli v7 c1_i32_533
  let v456 : BitVec 32 := Scalar.addi c0_i32_534 v455
  v456.toNat
def k2_dev28 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_543 : BitVec 32 := 1#32
  let v465 : BitVec 32 := Scalar.muli v5 c1_i32_543
  let v466 : BitVec 32 := Scalar.addi c0_i32_544 v465
  v466.toNat
def k2_dev29 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_604 : BitVec 32 := 1#32
  let v522 : BitVec 32 := Scalar.muli v5 c1_i32_604
  let v523 : BitVec 32 := Scalar.addi c0_i32_605 v522
  v523.toNat
def k2_dev30 (d0 : Dev nD) : Nat :=
  let c0_i32_608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_607 : BitVec 32 := 1#32
  let v524 : BitVec 32 := Scalar.muli v7 c1_i32_607
  let v525 : BitVec 32 := Scalar.addi c0_i32_608 v524
  v525.toNat
def k2_dev31 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_617 : BitVec 32 := 1#32
  let v526 : BitVec 32 := Scalar.muli v7 c1_i32_617
  let v527 : BitVec 32 := Scalar.addi c0_i32_618 v526
  v527.toNat
def k2_dev32 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_627 : BitVec 32 := 1#32
  let v536 : BitVec 32 := Scalar.muli v5 c1_i32_627
  let v537 : BitVec 32 := Scalar.addi c0_i32_628 v536
  v537.toNat
def k2_dev33 (d0 : Dev nD) : Nat :=
  let c0_i32_689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_688 : BitVec 32 := 1#32
  let v593 : BitVec 32 := Scalar.muli v5 c1_i32_688
  let v594 : BitVec 32 := Scalar.addi c0_i32_689 v593
  v594.toNat
def k2_dev34 (d0 : Dev nD) : Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_691 : BitVec 32 := 1#32
  let v595 : BitVec 32 := Scalar.muli v7 c1_i32_691
  let v596 : BitVec 32 := Scalar.addi c0_i32_692 v595
  v596.toNat
def k2_dev35 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_701 : BitVec 32 := 1#32
  let v597 : BitVec 32 := Scalar.muli v7 c1_i32_701
  let v598 : BitVec 32 := Scalar.addi c0_i32_702 v597
  v598.toNat
def k2_dev36 (d0 : Dev nD) : Nat :=
  let c0_i32_712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_711 : BitVec 32 := 1#32
  let v607 : BitVec 32 := Scalar.muli v5 c1_i32_711
  let v608 : BitVec 32 := Scalar.addi c0_i32_712 v607
  v608.toNat
def k2_dev37 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_772 : BitVec 32 := 1#32
  let v664 : BitVec 32 := Scalar.muli v5 c1_i32_772
  let v665 : BitVec 32 := Scalar.addi c0_i32_773 v664
  v665.toNat
def k2_dev38 (d0 : Dev nD) : Nat :=
  let c0_i32_776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_775 : BitVec 32 := 1#32
  let v666 : BitVec 32 := Scalar.muli v7 c1_i32_775
  let v667 : BitVec 32 := Scalar.addi c0_i32_776 v666
  v667.toNat
def k2_dev39 (d0 : Dev nD) : Nat :=
  let c0_i32_786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_785 : BitVec 32 := 1#32
  let v668 : BitVec 32 := Scalar.muli v7 c1_i32_785
  let v669 : BitVec 32 := Scalar.addi c0_i32_786 v668
  v669.toNat
def k2_dev40 (d0 : Dev nD) : Nat :=
  let c0_i32_796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_795 : BitVec 32 := 1#32
  let v678 : BitVec 32 := Scalar.muli v5 c1_i32_795
  let v679 : BitVec 32 := Scalar.addi c0_i32_796 v678
  v679.toNat
def k2_dev41 (d0 : Dev nD) : Nat :=
  let c0_i32_857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_856 : BitVec 32 := 1#32
  let v735 : BitVec 32 := Scalar.muli v5 c1_i32_856
  let v736 : BitVec 32 := Scalar.addi c0_i32_857 v735
  v736.toNat
def k2_dev42 (d0 : Dev nD) : Nat :=
  let c0_i32_860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_859 : BitVec 32 := 1#32
  let v737 : BitVec 32 := Scalar.muli v7 c1_i32_859
  let v738 : BitVec 32 := Scalar.addi c0_i32_860 v737
  v738.toNat
def k2_dev43 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_869 : BitVec 32 := 1#32
  let v739 : BitVec 32 := Scalar.muli v7 c1_i32_869
  let v740 : BitVec 32 := Scalar.addi c0_i32_870 v739
  v740.toNat
def k2_dev44 (d0 : Dev nD) : Nat :=
  let c0_i32_880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_879 : BitVec 32 := 1#32
  let v749 : BitVec 32 := Scalar.muli v5 c1_i32_879
  let v750 : BitVec 32 := Scalar.addi c0_i32_880 v749
  v750.toNat
def k2_dev45 (d0 : Dev nD) : Nat :=
  let c0_i32_941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_940 : BitVec 32 := 1#32
  let v806 : BitVec 32 := Scalar.muli v5 c1_i32_940
  let v807 : BitVec 32 := Scalar.addi c0_i32_941 v806
  v807.toNat
def k2_dev46 (d0 : Dev nD) : Nat :=
  let c0_i32_944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_943 : BitVec 32 := 1#32
  let v808 : BitVec 32 := Scalar.muli v7 c1_i32_943
  let v809 : BitVec 32 := Scalar.addi c0_i32_944 v808
  v809.toNat
def k2_dev47 (d0 : Dev nD) : Nat :=
  let c0_i32_954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_953 : BitVec 32 := 1#32
  let v810 : BitVec 32 := Scalar.muli v7 c1_i32_953
  let v811 : BitVec 32 := Scalar.addi c0_i32_954 v810
  v811.toNat
def k2_dev48 (d0 : Dev nD) : Nat :=
  let c0_i32_964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_963 : BitVec 32 := 1#32
  let v820 : BitVec 32 := Scalar.muli v5 c1_i32_963
  let v821 : BitVec 32 := Scalar.addi c0_i32_964 v820
  v821.toNat
def k2_dev49 (d0 : Dev nD) : Nat :=
  let c0_i32_1025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1024 : BitVec 32 := 1#32
  let v877 : BitVec 32 := Scalar.muli v5 c1_i32_1024
  let v878 : BitVec 32 := Scalar.addi c0_i32_1025 v877
  v878.toNat
def k2_dev50 (d0 : Dev nD) : Nat :=
  let c0_i32_1028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1027 : BitVec 32 := 1#32
  let v879 : BitVec 32 := Scalar.muli v7 c1_i32_1027
  let v880 : BitVec 32 := Scalar.addi c0_i32_1028 v879
  v880.toNat
def k2_dev51 (d0 : Dev nD) : Nat :=
  let c0_i32_1038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1037 : BitVec 32 := 1#32
  let v881 : BitVec 32 := Scalar.muli v7 c1_i32_1037
  let v882 : BitVec 32 := Scalar.addi c0_i32_1038 v881
  v882.toNat
def k2_dev52 (d0 : Dev nD) : Nat :=
  let c0_i32_1048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1047 : BitVec 32 := 1#32
  let v891 : BitVec 32 := Scalar.muli v5 c1_i32_1047
  let v892 : BitVec 32 := Scalar.addi c0_i32_1048 v891
  v892.toNat
def k2_dev53 (d0 : Dev nD) : Nat :=
  let c0_i32_1109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1108 : BitVec 32 := 1#32
  let v948 : BitVec 32 := Scalar.muli v5 c1_i32_1108
  let v949 : BitVec 32 := Scalar.addi c0_i32_1109 v948
  v949.toNat
def k2_dev54 (d0 : Dev nD) : Nat :=
  let c0_i32_1112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1111 : BitVec 32 := 1#32
  let v950 : BitVec 32 := Scalar.muli v7 c1_i32_1111
  let v951 : BitVec 32 := Scalar.addi c0_i32_1112 v950
  v951.toNat
def k2_dev55 (d0 : Dev nD) : Nat :=
  let c0_i32_1122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1121 : BitVec 32 := 1#32
  let v952 : BitVec 32 := Scalar.muli v7 c1_i32_1121
  let v953 : BitVec 32 := Scalar.addi c0_i32_1122 v952
  v953.toNat
def k2_dev56 (d0 : Dev nD) : Nat :=
  let c0_i32_1132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1131 : BitVec 32 := 1#32
  let v962 : BitVec 32 := Scalar.muli v5 c1_i32_1131
  let v963 : BitVec 32 := Scalar.addi c0_i32_1132 v962
  v963.toNat
def k2_dev57 (d0 : Dev nD) : Nat :=
  let c0_i32_1193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1192 : BitVec 32 := 1#32
  let v1019 : BitVec 32 := Scalar.muli v5 c1_i32_1192
  let v1020 : BitVec 32 := Scalar.addi c0_i32_1193 v1019
  v1020.toNat
def k2_dev58 (d0 : Dev nD) : Nat :=
  let c0_i32_1196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1195 : BitVec 32 := 1#32
  let v1021 : BitVec 32 := Scalar.muli v7 c1_i32_1195
  let v1022 : BitVec 32 := Scalar.addi c0_i32_1196 v1021
  v1022.toNat
def k2_dev59 (d0 : Dev nD) : Nat :=
  let c0_i32_1206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1205 : BitVec 32 := 1#32
  let v1023 : BitVec 32 := Scalar.muli v7 c1_i32_1205
  let v1024 : BitVec 32 := Scalar.addi c0_i32_1206 v1023
  v1024.toNat
def k2_dev60 (d0 : Dev nD) : Nat :=
  let c0_i32_1216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1215 : BitVec 32 := 1#32
  let v1033 : BitVec 32 := Scalar.muli v5 c1_i32_1215
  let v1034 : BitVec 32 := Scalar.addi c0_i32_1216 v1033
  v1034.toNat
def k2_dev61 (d0 : Dev nD) : Nat :=
  let c0_i32_1277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1276 : BitVec 32 := 1#32
  let v1090 : BitVec 32 := Scalar.muli v5 c1_i32_1276
  let v1091 : BitVec 32 := Scalar.addi c0_i32_1277 v1090
  v1091.toNat
def k2_dev62 (d0 : Dev nD) : Nat :=
  let c0_i32_1285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1284 : BitVec 32 := 1#32
  let v1092 : BitVec 32 := Scalar.muli v7 c1_i32_1284
  let v1093 : BitVec 32 := Scalar.addi c0_i32_1285 v1092
  v1093.toNat
abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
-- ==== ReferenceIdeal.lean ====
abbrev S4x256x4096 : Shape := ⟨3, ![4, 256, 4096]⟩
abbrev S4096x4096 : Shape := ⟨2, ![4096, 4096]⟩
abbrev S4096x2048 : Shape := ⟨2, ![4096, 2048]⟩
abbrev S4096x64 : Shape := ⟨2, ![4096, 64]⟩
abbrev S4x256x32x128 : Shape := ⟨4, ![4, 256, 32, 128]⟩
abbrev S4x256x2048 : Shape := ⟨3, ![4, 256, 2048]⟩
abbrev S4x256x32x64 : Shape := ⟨4, ![4, 256, 32, 64]⟩
abbrev S4x256x64 : Shape := ⟨3, ![4, 256, 64]⟩
abbrev S4x256x1x64 : Shape := ⟨4, ![4, 256, 1, 64]⟩
abbrev S4x32x256x256 : Shape := ⟨4, ![4, 32, 256, 256]⟩
abbrev S_ : Shape := ⟨0, ![]⟩
abbrev S4x32x256 : Shape := ⟨3, ![4, 32, 256]⟩
abbrev S4x32x256x1 : Shape := ⟨4, ![4, 32, 256, 1]⟩
abbrev S4x32x128x256 : Shape := ⟨4, ![4, 32, 128, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x2048, .f32⟩
  | .hbm, ⟨6, _⟩ => ⟨S4096x64, .f32⟩
  | .hbm, ⟨7, _⟩ => ⟨S4096x4096, .f32⟩
  | .hbm, ⟨8, _⟩ => ⟨S4x256x4096, .f32⟩
  | .hbm, ⟨9, _⟩ => ⟨S4x256x4096, .f32⟩
  | .hbm, ⟨10, _⟩ => ⟨S4x256x32x128, .f32⟩
  | .hbm, ⟨11, _⟩ => ⟨S4x256x4096, .f32⟩
  | .hbm, ⟨12, _⟩ => ⟨S4x256x32x128, .f32⟩
  | .hbm, ⟨13, _⟩ => ⟨S4x256x4096, .f32⟩
  | .hbm, ⟨14, _⟩ => ⟨S4x256x32x128, .f32⟩
  | .hbm, ⟨15, _⟩ => ⟨S4x256x2048, .f32⟩
  | .hbm, ⟨16, _⟩ => ⟨S4x256x32x64, .f32⟩
  | .hbm, ⟨17, _⟩ => ⟨S4x256x64, .f32⟩
  | .hbm, ⟨18, _⟩ => ⟨S4x256x1x64, .f32⟩
  | .hbm, ⟨19, _⟩ => ⟨S4x32x256x256, .f32⟩
  | .hbm, ⟨20, _⟩ => ⟨S4x256x32x64, .f32⟩
  | .hbm, ⟨21, _⟩ => ⟨S4x32x256x256, .f32⟩
  | .hbm, ⟨22, _⟩ => ⟨S4x32x256x256, .f32⟩
  | .hbm, ⟨23, _⟩ => ⟨S_, .f32⟩
  | .hbm, ⟨24, _⟩ => ⟨S4x32x256x256, .f32⟩
  | .hbm, ⟨25, _⟩ => ⟨S4x32x256x256, .f32⟩
  | .hbm, ⟨26, _⟩ => ⟨S_, .f32⟩
  | .hbm, ⟨27, _⟩ => ⟨S4x32x256, .f32⟩
  | .hbm, ⟨28, _⟩ => ⟨S4x32x256x1, .f32⟩
  | .hbm, ⟨29, _⟩ => ⟨S4x32x256x256, .f32⟩
  | .hbm, ⟨30, _⟩ => ⟨S4x32x256x256, .f32⟩
  | .hbm, ⟨31, _⟩ => ⟨S4x32x256x256, .f32⟩
  | .hbm, ⟨32, _⟩ => ⟨S_, .f32⟩
  | .hbm, ⟨33, _⟩ => ⟨S4x32x256, .f32⟩
  | .hbm, ⟨34, _⟩ => ⟨S4x32x256x1, .f32⟩
  | .hbm, ⟨35, _⟩ => ⟨S4x32x256x256, .f32⟩
  | .hbm, ⟨36, _⟩ => ⟨S4x32x256x256, .f32⟩
  | .hbm, ⟨37, _⟩ => ⟨S4x32x128x256, .f32⟩
  | .hbm, ⟨38, _⟩ => ⟨S4x256x32x128, .f32⟩
  | .hbm, ⟨39, _⟩ => ⟨S4x256x4096, .f32⟩
  | .hbm, ⟨40, _⟩ => ⟨S4x256x4096, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Steps.lean ====
/- The two ring kernels as chains of steps. A lane is one direction of a ring: a buffer of two slots,
   a pair of sending and a pair of receiving semaphores, and a credit semaphore. Each kernel drives two
   lanes in step; here its printed text is shown to be a prologue followed by its steps. -/
module

public import proofs.«01_k».proof.Proof.Gen.KernelIdeal
public import proofs.«01_k».proof.Proof.Gen.KernelIdeal.Skeleton

@[expose] public section

set_option maxRecDepth 65536

noncomputable section

namespace Cert.KernelIdeal.Ring

open Idealize.ShloMosaic Idealize.SL.Sem
open Cert.KernelIdeal Cert.KernelIdeal.Gen

variable {F : FTy → Type} [FloatOps F]

/-- The programs of a ring kernel, which return nothing. -/
abbrev KP (F : FTy → Type) : Type 1 := Prog (TpuEff nD τ sig (Elt F) Λ₀ .tc) PUnit

/-- A slot lies in the two-slot buffer. -/
theorem slotInb : ∀ (b : ℕ) (_ : b < 2), ∀ a, (![b, 0, 0] : Fin 3 → ℕ) a + S1x1024x128.size a ≤ S2x1024x128.size a := by
  decide

/-- A semaphore's place lies in the pair. -/
theorem semInb : ∀ (b : ℕ) (_ : b < 2), ∀ a, (![b] : Fin 1 → ℕ) a + S1.size a ≤ S2.size a := by
  decide

/-- The rectangle of slot `b`. -/
abbrev slotRect (b : ℕ) (hb : b < 2) : Rect S2x1024x128 :=
  Rect.unit (s := S2x1024x128) ![b, 0, 0] S1x1024x128.size (slotInb b hb)

/-- Slot `b` of a two-slot buffer, as a buffer of its own. -/
abbrev slot (m : Memref sig .tc .vmem S2x1024x128 .f32) (b : ℕ) (hb : b < 2) : Memref sig .tc .vmem S1024x128 .f32 :=
  (m.slice (slotRect b hb) (fun _ => rfl)).squeeze S1024x128 squeezes_S1x1024x128_S1024x128

/-- Semaphore `b` of a pair. -/
abbrev dsem (a : DmaSems sig S2) (b : ℕ) (hb : b < 2) : DmaSem sig :=
  ((a.slice (Rect.unit (s := S2) ![b] S1.size (semInb b hb))).squeeze S_ squeezes_S1_S_).sem

/-- A step's parity is a slot. -/
theorem par (s : ℕ) : s % 2 < 2 := Nat.mod_lt _ (by decide)

/-- A lane's buffer and semaphores, as a kernel is handed them. -/
structure LaneRefs where
  comm : Memref sig .tc .vmem S2x1024x128 .f32
  ss : DmaSems sig S2
  rs : DmaSems sig S2
  cr : Sems sig S_

/-- The transfer of step `s`: from the slot of its parity to the neighbour's other slot. -/
def sendOp (L : LaneRefs) (s : ℕ) (dev : Dev nD) (k : KP F) : KP F :=
  .op (.enqueueDma (slot L.comm (s % 2) (par s))
    (.remote (Dev.tc dev) (slot L.comm ((s + 1) % 2) (par (s + 1))) (.dma (dsem L.ss (s % 2) (par s))))
    (.dma (dsem L.rs ((s + 1) % 2) (par (s + 1)))) ((View.wordExact_bits rfl).reshape _ _)
    ((View.wordExact_bits rfl).reshape _ _) ⟨⟨rfl, Or.inl rfl⟩, trivial⟩) fun _ => k

/-- The wait for the transfer of step `s` to have left. -/
def waitS (L : LaneRefs) (s : ℕ) (k : KP F) : KP F :=
  .op (.waitDma2 (dsem L.ss (s % 2) (par s)) (slot L.comm ((s + 1) % 2) (par (s + 1))) (slot L.comm (s % 2) (par s))
    ((View.wordExact_bits rfl).reshape _ _) ((View.wordExact_bits rfl).reshape _ _)) fun _ => k

/-- The wait for the neighbour's transfer of step `s` to have landed. -/
def waitR (L : LaneRefs) (s : ℕ) (k : KP F) : KP F :=
  .op (.waitDma2 (dsem L.rs ((s + 1) % 2) (par (s + 1))) (slot L.comm (s % 2) (par s)) (slot L.comm ((s + 1) % 2) (par (s + 1)))
    ((View.wordExact_bits rfl).reshape _ _) ((View.wordExact_bits rfl).reshape _ _)) fun _ => k

/-- One unit signalled at a neighbour. -/
def sig1 (dev : Dev nD) (s : Sem sig) (k : KP F) : KP F := semSignalWord dev s 1#32 >>= fun _ => k

/-- Units waited for. -/
def waitN (s : Sem sig) (n : BitVec 32) (k : KP F) : KP F := semWaitWord s n >>= fun _ => k

/-- A slot read. -/
def loadSlot (m : Memref sig .tc .vmem S2x1024x128 .f32) (b : ℕ) (hb : b < 2) (k : Vec F S1x1024x128 .f32 → KP F) : KP F :=
  .op (.load m (slotRect b hb).toLoadRect (View.loadsAt_vmem h_S1x1024x128)) k

/-- A slot read for nothing, then overwritten. -/
def storeSlot (m : Memref sig .tc .vmem S2x1024x128 .f32) (b : ℕ) (hb : b < 2) (v : Vec F S1x1024x128 .f32) (k : KP F) : KP F :=
  .op (.load m (slotRect b hb).toLoadRect (View.loadsAt_vmem h_S1x1024x128)) fun _ =>
  .op (.store m (slotRect b hb) v Finset.univ (View.stores_vmem_bits_univ h_S1x1024x128 rfl) (.inl rfl)) fun _ => k

/-- A row of the partial products read. -/
def loadKv (m : Memref sig .tc .vmem S32x2x1024x128 .f32) (off : Fin 4 → ℕ)
    (hoff : ∀ a, off a + S1x1x1024x128.size a ≤ S32x2x1024x128.size a) (k : Vec F S1x1x1024x128 .f32 → KP F) : KP F :=
  .op (.load m (Rect.unit (s := S32x2x1024x128) off S1x1x1024x128.size hoff).toLoadRect (View.loadsAt_vmem h_S1x1x1024x128)) k

/-- What a step stores: the slot's contents plus the device's own row. -/
def addRow (v : Vec F S1x1024x128 .f32) (w : Vec F S1x1x1024x128 .f32) : FVec F S1x1024x128 .f32 :=
  shapeCast S1x1024x128 (addf (shapeCast S1024x128 v shapeCasts_S1x1024x128_S1024x128 : FVec F S1024x128 .f32)
    (shapeCast S1024x128 w shapeCasts_S1x1x1024x128_S1024x128)) shapeCasts_S1024x128_S1x1024x128

/-- What the prologue stores: the device's own row. -/
def firstRow (w : Vec F S1x1x1024x128 .f32) : FVec F S1x1024x128 .f32 :=
  shapeCast S1x1024x128 (shapeCast S1024x128 w shapeCasts_S1x1x1024x128_S1024x128 : FVec F S1024x128 .f32)
    shapeCasts_S1024x128_S1x1024x128

/-- The barrier with both neighbours. -/
def barrier (b : Sem sig) (dL dR : Dev nD) (k : KP F) : KP F := sig1 dL b <| sig1 dR b <| waitN b 2#32 k

/-- The first row placed in slot 0. -/
def firstOp (kv : Memref sig .tc .vmem S32x2x1024x128 .f32) (L : LaneRefs) (off : Fin 4 → ℕ)
    (hoff : ∀ a, off a + S1x1x1024x128.size a ≤ S32x2x1024x128.size a) (k : KP F) : KP F :=
  loadKv kv off hoff fun w => storeSlot L.comm 0 (by decide) (firstRow w) k

/-- The addition of step `s` into a slot of `m`. -/
def addOp (kv : Memref sig .tc .vmem S32x2x1024x128 .f32) (L : LaneRefs) (s : ℕ) (off : Fin 4 → ℕ)
    (hoff : ∀ a, off a + S1x1x1024x128.size a ≤ S32x2x1024x128.size a)
    (m : Memref sig .tc .vmem S2x1024x128 .f32) (b : ℕ) (hb : b < 2) (k : KP F) : KP F :=
  loadSlot L.comm ((s + 1) % 2) (par (s + 1)) fun v => loadKv kv off hoff fun w => storeSlot m b hb (addRow v w) k

/-- The credits of both lanes. -/
def credits (A B : LaneRefs) (k : KP F) : KP F := waitN A.cr.sem 1#32 <| waitN B.cr.sem 1#32 k

/-- The transfers and additions of step `s` of the reduce-scatter. -/
def rsMove (kv : Memref sig .tc .vmem S32x2x1024x128 .f32) (A B : LaneRefs) (c : Dev nD) (s : Fin 31) (dA dB : Dev nD)
    (mA mB : Memref sig .tc .vmem S2x1024x128 .f32) (bA bB : ℕ) (hA : bA < 2) (hB : bB < 2) (k : KP F) : KP F :=
  sendOp A s.val dA <| sendOp B s.val dB <| waitS A s.val <| waitR A s.val <|
  addOp kv A s.val (k0_off3 c (BitVec.ofNat 32 s.val)) (k0_off3_inb c s) mA bA hA <| waitS B s.val <| waitR B s.val <|
  addOp kv B s.val (k0_off4 c (BitVec.ofNat 32 s.val)) (k0_off4_inb c s) mB bB hB k

/-- A step of the reduce-scatter before the last, after its credits. -/
def rsStep (kv : Memref sig .tc .vmem S32x2x1024x128 .f32) (A B : LaneRefs) (c : Dev nD) (s : Fin 31) (dA dB cA cB : Dev nD) (k : KP F) : KP F :=
  rsMove kv A B c s dA dB A.comm B.comm ((s.val + 1) % 2) ((s.val + 1) % 2) (par _) (par _) <|
  sig1 cA A.cr.sem <| sig1 cB B.cr.sem <| credits A B k

/-- The reduce-scatter: the barrier, the first rows, and its thirty-one steps. -/
def rsProg (kv : Memref sig .tc .vmem S32x2x1024x128 .f32) (out : Memref sig .tc .vmem S2x1024x128 .f32) (A B : LaneRefs) : KP F :=
  .op .deviceId fun c => barrier (SemArray.scalar (sig.barrier 0 rfl) : Sems sig S_).sem ⟨k0_dev1 c, k0_dev1_lt c⟩ ⟨k0_dev2 c, k0_dev2_lt c⟩ <|
  firstOp kv A (k0_off1 c) (k0_off1_inb c) <| firstOp kv B (k0_off2 c) (k0_off2_inb c) <|
  rsStep kv A B c 0 ⟨k0_dev3 c, k0_dev3_lt c⟩ ⟨k0_dev4 c, k0_dev4_lt c⟩ ⟨k0_dev5 c, k0_dev5_lt c⟩ ⟨k0_dev6 c, k0_dev6_lt c⟩ <|
  rsStep kv A B c 1 ⟨k0_dev7 c, k0_dev7_lt c⟩ ⟨k0_dev8 c, k0_dev8_lt c⟩ ⟨k0_dev9 c, k0_dev9_lt c⟩ ⟨k0_dev10 c, k0_dev10_lt c⟩ <|
  rsStep kv A B c 2 ⟨k0_dev11 c, k0_dev11_lt c⟩ ⟨k0_dev12 c, k0_dev12_lt c⟩ ⟨k0_dev13 c, k0_dev13_lt c⟩ ⟨k0_dev14 c, k0_dev14_lt c⟩ <|
  rsStep kv A B c 3 ⟨k0_dev15 c, k0_dev15_lt c⟩ ⟨k0_dev16 c, k0_dev16_lt c⟩ ⟨k0_dev17 c, k0_dev17_lt c⟩ ⟨k0_dev18 c, k0_dev18_lt c⟩ <|
  rsStep kv A B c 4 ⟨k0_dev19 c, k0_dev19_lt c⟩ ⟨k0_dev20 c, k0_dev20_lt c⟩ ⟨k0_dev21 c, k0_dev21_lt c⟩ ⟨k0_dev22 c, k0_dev22_lt c⟩ <|
  rsStep kv A B c 5 ⟨k0_dev23 c, k0_dev23_lt c⟩ ⟨k0_dev24 c, k0_dev24_lt c⟩ ⟨k0_dev25 c, k0_dev25_lt c⟩ ⟨k0_dev26 c, k0_dev26_lt c⟩ <|
  rsStep kv A B c 6 ⟨k0_dev27 c, k0_dev27_lt c⟩ ⟨k0_dev28 c, k0_dev28_lt c⟩ ⟨k0_dev29 c, k0_dev29_lt c⟩ ⟨k0_dev30 c, k0_dev30_lt c⟩ <|
  rsStep kv A B c 7 ⟨k0_dev31 c, k0_dev31_lt c⟩ ⟨k0_dev32 c, k0_dev32_lt c⟩ ⟨k0_dev33 c, k0_dev33_lt c⟩ ⟨k0_dev34 c, k0_dev34_lt c⟩ <|
  rsStep kv A B c 8 ⟨k0_dev35 c, k0_dev35_lt c⟩ ⟨k0_dev36 c, k0_dev36_lt c⟩ ⟨k0_dev37 c, k0_dev37_lt c⟩ ⟨k0_dev38 c, k0_dev38_lt c⟩ <|
  rsStep kv A B c 9 ⟨k0_dev39 c, k0_dev39_lt c⟩ ⟨k0_dev40 c, k0_dev40_lt c⟩ ⟨k0_dev41 c, k0_dev41_lt c⟩ ⟨k0_dev42 c, k0_dev42_lt c⟩ <|
  rsStep kv A B c 10 ⟨k0_dev43 c, k0_dev43_lt c⟩ ⟨k0_dev44 c, k0_dev44_lt c⟩ ⟨k0_dev45 c, k0_dev45_lt c⟩ ⟨k0_dev46 c, k0_dev46_lt c⟩ <|
  rsStep kv A B c 11 ⟨k0_dev47 c, k0_dev47_lt c⟩ ⟨k0_dev48 c, k0_dev48_lt c⟩ ⟨k0_dev49 c, k0_dev49_lt c⟩ ⟨k0_dev50 c, k0_dev50_lt c⟩ <|
  rsStep kv A B c 12 ⟨k0_dev51 c, k0_dev51_lt c⟩ ⟨k0_dev52 c, k0_dev52_lt c⟩ ⟨k0_dev53 c, k0_dev53_lt c⟩ ⟨k0_dev54 c, k0_dev54_lt c⟩ <|
  rsStep kv A B c 13 ⟨k0_dev55 c, k0_dev55_lt c⟩ ⟨k0_dev56 c, k0_dev56_lt c⟩ ⟨k0_dev57 c, k0_dev57_lt c⟩ ⟨k0_dev58 c, k0_dev58_lt c⟩ <|
  rsStep kv A B c 14 ⟨k0_dev59 c, k0_dev59_lt c⟩ ⟨k0_dev60 c, k0_dev60_lt c⟩ ⟨k0_dev61 c, k0_dev61_lt c⟩ ⟨k0_dev62 c, k0_dev62_lt c⟩ <|
  rsStep kv A B c 15 ⟨k0_dev63 c, k0_dev63_lt c⟩ ⟨k0_dev64 c, k0_dev64_lt c⟩ ⟨k0_dev65 c, k0_dev65_lt c⟩ ⟨k0_dev66 c, k0_dev66_lt c⟩ <|
  rsStep kv A B c 16 ⟨k0_dev67 c, k0_dev67_lt c⟩ ⟨k0_dev68 c, k0_dev68_lt c⟩ ⟨k0_dev69 c, k0_dev69_lt c⟩ ⟨k0_dev70 c, k0_dev70_lt c⟩ <|
  rsStep kv A B c 17 ⟨k0_dev71 c, k0_dev71_lt c⟩ ⟨k0_dev72 c, k0_dev72_lt c⟩ ⟨k0_dev73 c, k0_dev73_lt c⟩ ⟨k0_dev74 c, k0_dev74_lt c⟩ <|
  rsStep kv A B c 18 ⟨k0_dev75 c, k0_dev75_lt c⟩ ⟨k0_dev76 c, k0_dev76_lt c⟩ ⟨k0_dev77 c, k0_dev77_lt c⟩ ⟨k0_dev78 c, k0_dev78_lt c⟩ <|
  rsStep kv A B c 19 ⟨k0_dev79 c, k0_dev79_lt c⟩ ⟨k0_dev80 c, k0_dev80_lt c⟩ ⟨k0_dev81 c, k0_dev81_lt c⟩ ⟨k0_dev82 c, k0_dev82_lt c⟩ <|
  rsStep kv A B c 20 ⟨k0_dev83 c, k0_dev83_lt c⟩ ⟨k0_dev84 c, k0_dev84_lt c⟩ ⟨k0_dev85 c, k0_dev85_lt c⟩ ⟨k0_dev86 c, k0_dev86_lt c⟩ <|
  rsStep kv A B c 21 ⟨k0_dev87 c, k0_dev87_lt c⟩ ⟨k0_dev88 c, k0_dev88_lt c⟩ ⟨k0_dev89 c, k0_dev89_lt c⟩ ⟨k0_dev90 c, k0_dev90_lt c⟩ <|
  rsStep kv A B c 22 ⟨k0_dev91 c, k0_dev91_lt c⟩ ⟨k0_dev92 c, k0_dev92_lt c⟩ ⟨k0_dev93 c, k0_dev93_lt c⟩ ⟨k0_dev94 c, k0_dev94_lt c⟩ <|
  rsStep kv A B c 23 ⟨k0_dev95 c, k0_dev95_lt c⟩ ⟨k0_dev96 c, k0_dev96_lt c⟩ ⟨k0_dev97 c, k0_dev97_lt c⟩ ⟨k0_dev98 c, k0_dev98_lt c⟩ <|
  rsStep kv A B c 24 ⟨k0_dev99 c, k0_dev99_lt c⟩ ⟨k0_dev100 c, k0_dev100_lt c⟩ ⟨k0_dev101 c, k0_dev101_lt c⟩ ⟨k0_dev102 c, k0_dev102_lt c⟩ <|
  rsStep kv A B c 25 ⟨k0_dev103 c, k0_dev103_lt c⟩ ⟨k0_dev104 c, k0_dev104_lt c⟩ ⟨k0_dev105 c, k0_dev105_lt c⟩ ⟨k0_dev106 c, k0_dev106_lt c⟩ <|
  rsStep kv A B c 26 ⟨k0_dev107 c, k0_dev107_lt c⟩ ⟨k0_dev108 c, k0_dev108_lt c⟩ ⟨k0_dev109 c, k0_dev109_lt c⟩ ⟨k0_dev110 c, k0_dev110_lt c⟩ <|
  rsStep kv A B c 27 ⟨k0_dev111 c, k0_dev111_lt c⟩ ⟨k0_dev112 c, k0_dev112_lt c⟩ ⟨k0_dev113 c, k0_dev113_lt c⟩ ⟨k0_dev114 c, k0_dev114_lt c⟩ <|
  rsStep kv A B c 28 ⟨k0_dev115 c, k0_dev115_lt c⟩ ⟨k0_dev116 c, k0_dev116_lt c⟩ ⟨k0_dev117 c, k0_dev117_lt c⟩ ⟨k0_dev118 c, k0_dev118_lt c⟩ <|
  rsStep kv A B c 29 ⟨k0_dev119 c, k0_dev119_lt c⟩ ⟨k0_dev120 c, k0_dev120_lt c⟩ ⟨k0_dev121 c, k0_dev121_lt c⟩ ⟨k0_dev122 c, k0_dev122_lt c⟩ <|
  rsMove kv A B c 30 ⟨k0_dev123 c, k0_dev123_lt c⟩ ⟨k0_dev124 c, k0_dev124_lt c⟩ out out 0 1 (by decide) (by decide) (.ret ⟨⟩)

/-- The printed reduce-scatter is that chain. -/
theorem cc0_body_eq_rsProg : cc0_body (F := F) = fun a0 _ a1 _ a2 _ a3 _ a4 a5 a6 a7 a8 a9 =>
    rsProg a0 a1 ⟨a2, a4, a5, a8⟩ ⟨a3, a6, a7, a9⟩ := by
  rfl

/-- The device's block read. -/
def loadX (m : Memref sig .tc .vmem S1024x128 .f32) (k : Vec F S1024x128 .f32 → KP F) : KP F :=
  .op (.load m (Rect.unit (s := S1024x128) ![0, 0] S1024x128.size inb_S1024x128_S1024x128_0_0).toLoadRect (View.loadsAt_vmem h_S1024x128)) k

/-- A block of the gathered array read for nothing, then overwritten. -/
def storeBlk (m : Memref sig .tc .vmem S32x1024x128 .f32) (off : Fin 3 → ℕ)
    (hoff : ∀ a, off a + S1x1024x128.size a ≤ S32x1024x128.size a) (v : Vec F S1x1024x128 .f32) (k : KP F) : KP F :=
  .op (.load m (Rect.unit (s := S32x1024x128) off S1x1024x128.size hoff).toLoadRect (View.loadsAt_vmem h_S1x1024x128)) fun _ =>
  .op (.store m (Rect.unit (s := S32x1024x128) off S1x1024x128.size hoff) v Finset.univ (View.stores_vmem_bits_univ h_S1x1024x128 rfl) (.inl rfl)) fun _ => k

/-- The device's block as a slot's contents. -/
def rowX (v : Vec F S1024x128 .f32) : FVec F S1x1024x128 .f32 :=
  shapeCast S1x1024x128 (shapeCast S1024x128 v shapeCasts_S1024x128_S1024x128 : FVec F S1024x128 .f32) shapeCasts_S1024x128_S1x1024x128

/-- A slot's contents as a block of the gathered array. -/
def rowS (v : Vec F S1x1024x128 .f32) : FVec F S1x1024x128 .f32 :=
  shapeCast S1x1024x128 (shapeCast S1024x128 v shapeCasts_S1x1024x128_S1024x128 : FVec F S1024x128 .f32) shapeCasts_S1024x128_S1x1024x128

/-- The block that step `s` brought, copied out. -/
def copyOp (L : LaneRefs) (s : ℕ) (out : Memref sig .tc .vmem S32x1024x128 .f32) (off : Fin 3 → ℕ)
    (hoff : ∀ a, off a + S1x1024x128.size a ≤ S32x1024x128.size a) (k : KP F) : KP F :=
  loadSlot L.comm ((s + 1) % 2) (par (s + 1)) fun v => storeBlk out off hoff (rowS v) k

/-- The transfers and copies of step `h` of the all-gather before the last. -/
def agMove (out : Memref sig .tc .vmem S32x1024x128 .f32) (A B : LaneRefs) (c : Dev nD) (h : Fin 15) (dA dB : Dev nD) (k : KP F) : KP F :=
  sendOp A h.val dA <| sendOp B h.val dB <| waitS A h.val <| waitR A h.val <|
  copyOp A h.val out (k2_off2 c (BitVec.ofNat 32 h.val)) (k2_off2_inb c h.castSucc) <| waitS B h.val <| waitR B h.val <|
  copyOp B h.val out (k2_off3 c (BitVec.ofNat 32 h.val)) (k2_off3_inb c h) k

/-- The all-gather: the barrier, the device's own block, and its sixteen steps. -/
def agProg (x : Memref sig .tc .vmem S1024x128 .f32) (out : Memref sig .tc .vmem S32x1024x128 .f32) (A B : LaneRefs) : KP F :=
  .op .deviceId fun c => barrier (SemArray.scalar (sig.barrier 1 rfl) : Sems sig S_).sem ⟨k2_dev1 c, k2_dev1_lt c⟩ ⟨k2_dev2 c, k2_dev2_lt c⟩ <|
  loadX x fun v => storeBlk out (k2_off1 c) (k2_off1_inb c) (rowX v) <|
  loadX x fun v => storeSlot A.comm 0 (by decide) (rowX v) <|
  loadX x fun v => storeSlot B.comm 0 (by decide) (rowX v) <|
  agMove out A B c 0 ⟨k2_dev3 c, k2_dev3_lt c⟩ ⟨k2_dev4 c, k2_dev4_lt c⟩ <|
  sig1 ⟨k2_dev5 c, k2_dev5_lt c⟩ A.cr.sem <| sig1 ⟨k2_dev6 c, k2_dev6_lt c⟩ B.cr.sem <| credits A B <|
  agMove out A B c 1 ⟨k2_dev7 c, k2_dev7_lt c⟩ ⟨k2_dev8 c, k2_dev8_lt c⟩ <|
  sig1 ⟨k2_dev9 c, k2_dev9_lt c⟩ A.cr.sem <| sig1 ⟨k2_dev10 c, k2_dev10_lt c⟩ B.cr.sem <| credits A B <|
  agMove out A B c 2 ⟨k2_dev11 c, k2_dev11_lt c⟩ ⟨k2_dev12 c, k2_dev12_lt c⟩ <|
  sig1 ⟨k2_dev13 c, k2_dev13_lt c⟩ A.cr.sem <| sig1 ⟨k2_dev14 c, k2_dev14_lt c⟩ B.cr.sem <| credits A B <|
  agMove out A B c 3 ⟨k2_dev15 c, k2_dev15_lt c⟩ ⟨k2_dev16 c, k2_dev16_lt c⟩ <|
  sig1 ⟨k2_dev17 c, k2_dev17_lt c⟩ A.cr.sem <| sig1 ⟨k2_dev18 c, k2_dev18_lt c⟩ B.cr.sem <| credits A B <|
  agMove out A B c 4 ⟨k2_dev19 c, k2_dev19_lt c⟩ ⟨k2_dev20 c, k2_dev20_lt c⟩ <|
  sig1 ⟨k2_dev21 c, k2_dev21_lt c⟩ A.cr.sem <| sig1 ⟨k2_dev22 c, k2_dev22_lt c⟩ B.cr.sem <| credits A B <|
  agMove out A B c 5 ⟨k2_dev23 c, k2_dev23_lt c⟩ ⟨k2_dev24 c, k2_dev24_lt c⟩ <|
  sig1 ⟨k2_dev25 c, k2_dev25_lt c⟩ A.cr.sem <| sig1 ⟨k2_dev26 c, k2_dev26_lt c⟩ B.cr.sem <| credits A B <|
  agMove out A B c 6 ⟨k2_dev27 c, k2_dev27_lt c⟩ ⟨k2_dev28 c, k2_dev28_lt c⟩ <|
  sig1 ⟨k2_dev29 c, k2_dev29_lt c⟩ A.cr.sem <| sig1 ⟨k2_dev30 c, k2_dev30_lt c⟩ B.cr.sem <| credits A B <|
  agMove out A B c 7 ⟨k2_dev31 c, k2_dev31_lt c⟩ ⟨k2_dev32 c, k2_dev32_lt c⟩ <|
  sig1 ⟨k2_dev33 c, k2_dev33_lt c⟩ A.cr.sem <| sig1 ⟨k2_dev34 c, k2_dev34_lt c⟩ B.cr.sem <| credits A B <|
  agMove out A B c 8 ⟨k2_dev35 c, k2_dev35_lt c⟩ ⟨k2_dev36 c, k2_dev36_lt c⟩ <|
  sig1 ⟨k2_dev37 c, k2_dev37_lt c⟩ A.cr.sem <| sig1 ⟨k2_dev38 c, k2_dev38_lt c⟩ B.cr.sem <| credits A B <|
  agMove out A B c 9 ⟨k2_dev39 c, k2_dev39_lt c⟩ ⟨k2_dev40 c, k2_dev40_lt c⟩ <|
  sig1 ⟨k2_dev41 c, k2_dev41_lt c⟩ A.cr.sem <| sig1 ⟨k2_dev42 c, k2_dev42_lt c⟩ B.cr.sem <| credits A B <|
  agMove out A B c 10 ⟨k2_dev43 c, k2_dev43_lt c⟩ ⟨k2_dev44 c, k2_dev44_lt c⟩ <|
  sig1 ⟨k2_dev45 c, k2_dev45_lt c⟩ A.cr.sem <| sig1 ⟨k2_dev46 c, k2_dev46_lt c⟩ B.cr.sem <| credits A B <|
  agMove out A B c 11 ⟨k2_dev47 c, k2_dev47_lt c⟩ ⟨k2_dev48 c, k2_dev48_lt c⟩ <|
  sig1 ⟨k2_dev49 c, k2_dev49_lt c⟩ A.cr.sem <| sig1 ⟨k2_dev50 c, k2_dev50_lt c⟩ B.cr.sem <| credits A B <|
  agMove out A B c 12 ⟨k2_dev51 c, k2_dev51_lt c⟩ ⟨k2_dev52 c, k2_dev52_lt c⟩ <|
  sig1 ⟨k2_dev53 c, k2_dev53_lt c⟩ A.cr.sem <| sig1 ⟨k2_dev54 c, k2_dev54_lt c⟩ B.cr.sem <| credits A B <|
  agMove out A B c 13 ⟨k2_dev55 c, k2_dev55_lt c⟩ ⟨k2_dev56 c, k2_dev56_lt c⟩ <|
  sig1 ⟨k2_dev57 c, k2_dev57_lt c⟩ A.cr.sem <| sig1 ⟨k2_dev58 c, k2_dev58_lt c⟩ B.cr.sem <| credits A B <|
  agMove out A B c 14 ⟨k2_dev59 c, k2_dev59_lt c⟩ ⟨k2_dev60 c, k2_dev60_lt c⟩ <|
  sig1 ⟨k2_dev61 c, k2_dev61_lt c⟩ A.cr.sem <| waitN A.cr.sem 1#32 <|
  sendOp A 15 ⟨k2_dev62 c, k2_dev62_lt c⟩ <| waitS A 15 <| waitR A 15 <|
  copyOp A 15 out (k2_off2 c (BitVec.ofNat 32 15)) (k2_off2_inb c 15) (.ret ⟨⟩)

/-- The printed all-gather is that chain. -/
theorem cc2_body_eq_agProg : cc2_body (F := F) = fun a0 _ a1 _ a2 _ a3 _ a4 a5 a6 a7 a8 a9 =>
    agProg a0 a1 ⟨a2, a4, a5, a8⟩ ⟨a3, a6, a7, a9⟩ := by
  rfl

end Cert.KernelIdeal.Ring
-- ==== Proof.Lane.lean ====
/- The protocol of one lane, for the four lanes of the two ring kernels. A lane sends a block around the
   ring step by step between two slots: the slot of the step's parity goes to the neighbour's other slot.
   Here: the lanes and the devices they join, the semaphores as cells, what each cell's units hand over
   (`rd`), what a device owes, the order of the waits, and one rule per operation of a step. -/
module

public import proofs.«01_k».proof.Proof.Steps
public import Idealize.ShloMosaic.Lib.Pipeline.Launch
public import Idealize.ShloMosaic.Lib.Pipeline.Regions
public import Idealize.ShloMosaic.Lib.Pipeline.RegionTalk
public import Idealize.ShloMosaic.Lib.Tactic
public import Mathlib.Order.Interval.Finset.Nat
public import Mathlib.Algebra.BigOperators.Intervals

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

/-- One copy of the rounds algebra over the machine's cells, duties named by `Bool`. -/
abbrev UR : Type := URounds (GSem nD τ sig) Bool

/-- The pipelines' copy and the rings'. -/
abbrev UU : Type := URounds (GSem nD τ sig) Unit × UR

local notation "𝕄" => MT nD τ sig ℕ (Elt F) ℕ UU ℕ

/-- The rings' copy inside the machine's algebra. -/
abbrev ER : Emb UR (MT nD τ sig ℕ (Elt F) ℕ UU ℕ) := embR

/-- The kernels' variants: none. -/
abbrev 𝒱₀ : Variants := Variants.none

/-! ## Lanes and neighbours -/

/-- A lane: which of the two rings (the reduce-scatter's or the all-gather's), and which way round. -/
abbrev Ln : Type := Bool × Bool

set_option backward.proofsInPublic true in
/-- The device after `c`, -/
def nxt (c : Dev nD) : Dev nD := ⟨(c.val + 1) % 32, Nat.mod_lt _ (by decide)⟩
set_option backward.proofsInPublic true in
/-- and the device before. -/
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide

/-- The device a lane sends to, -/
def tgt (ℓ : Ln) (c : Dev nD) : Dev nD := if ℓ.2 then prv c else nxt c
/-- and the one it receives from. -/
def fro (ℓ : Ln) (c : Dev nD) : Dev nD := if ℓ.2 then nxt c else prv c

theorem fro_tgt (ℓ : Ln) (c : Dev nD) : fro ℓ (tgt ℓ c) = c := by
  unfold fro tgt; cases ℓ.2 <;> simp [prv_nxt, nxt_prv]
theorem tgt_fro (ℓ : Ln) (c : Dev nD) : tgt ℓ (fro ℓ c) = c := by
  unfold fro tgt; cases ℓ.2 <;> simp [prv_nxt, nxt_prv]

/-- A lane's neighbours as a permutation of the devices. -/
def ring (ℓ : Ln) : Dev nD ≃ Dev nD := ⟨tgt ℓ, fro ℓ, fro_tgt ℓ, tgt_fro ℓ⟩

/-- The transfers a lane makes. -/
def T : Ln → ℕ
  | (false, _) => 31
  | (true, false) => 16
  | (true, true) => 15

/-- A lane's buffer and semaphores. -/
def lane : Ln → LaneRefs
  | (false, false) => ⟨Memref.whole cc0_scratch0, cc0_scratch2, cc0_scratch3, cc0_scratch6⟩
  | (false, true) => ⟨Memref.whole cc0_scratch1, cc0_scratch4, cc0_scratch5, cc0_scratch7⟩
  | (true, false) => ⟨Memref.whole cc2_scratch0, cc2_scratch2, cc2_scratch3, cc2_scratch6⟩
  | (true, true) => ⟨Memref.whole cc2_scratch1, cc2_scratch4, cc2_scratch5, cc2_scratch7⟩

/-- The slot of a number's parity. -/
abbrev sl (s : ℕ) : Fin 2 := ⟨s % 2, par s⟩

theorem sl_two (s : ℕ) : sl (s + 1 + 1) = sl s := Fin.ext (by show (s + 1 + 1) % 2 = s % 2; omega)

/-! ## Cells -/

/-- What a semaphore is for: the barrier of a ring; a lane's sends from a slot, its receipts into a slot, its credits. -/
inductive Kd where
  | bar (q : Bool)
  | send (ℓ : Ln) (b : Fin 2)
  | recv (ℓ : Ln) (b : Fin 2)
  | cred (ℓ : Ln)
deriving DecidableEq

instance : Fintype Kd where
  elems := Finset.univ.image Kd.bar ∪ Finset.univ.image (fun x : Ln × Fin 2 => Kd.send x.1 x.2)
    ∪ Finset.univ.image (fun x : Ln × Fin 2 => Kd.recv x.1 x.2) ∪ Finset.univ.image Kd.cred
  complete x := by cases x <;> simp

/-- The barrier semaphore of each ring. -/
def barSem : Bool → Sem sig
  | false => (SemArray.scalar (sig.barrier 0 rfl) : Sems sig S_).sem
  | true => (SemArray.scalar (sig.barrier 1 rfl) : Sems sig S_).sem

/-- The semaphore. -/
def loc : Kd → SemLoc sig
  | .bar q => .reg (barSem q)
  | .send ℓ b => .dma (dsem (lane ℓ).ss b.val b.isLt)
  | .recv ℓ b => .dma (dsem (lane ℓ).rs b.val b.isLt)
  | .cred ℓ => .reg (lane ℓ).cr.sem

/-- What a semaphore is for, if the rings use it. -/
def kindOf (g : SemLoc sig) : Option Kd :=
  ([.bar false, .bar true] ++
    ([(false, false), (false, true), (true, false), (true, true)] : List Ln).flatMap
      fun ℓ => [.send ℓ 0, .send ℓ 1, .recv ℓ 0, .recv ℓ 1, .cred ℓ] : List Kd).find? fun k => decide (loc k = g)

theorem kindOf_loc (k : Kd) : kindOf (loc k) = some k := by
  revert k; decide +kernel

/-- Device `c`'s cell of a kind. -/
abbrev cell (c : Dev nD) (k : Kd) : GSem nD τ sig := ((c : Thread nD τ), loc k)

theorem loc_inj {k k' : Kd} (h : loc k = loc k') : k = k' :=
  Option.some.inj ((kindOf_loc k).symm.trans ((congrArg kindOf h).trans (kindOf_loc k')))

theorem cell_inj {c c' : Dev nD} {k k' : Kd} (h : cell c k = cell c' k') : c = c' ∧ k = k' :=
  ⟨congrArg (fun g : GSem nD τ sig => g.1.1) h, loc_inj (congrArg (fun g : GSem nD τ sig => g.2) h)⟩

/-- What a transfer of a slot credits. -/
abbrev N : ℕ := (slot (lane (false, false)).comm 0 (by decide)).view.dmaCredit

theorem N_pos : 0 < N := View.dmaCredit_pos _ (by decide)

theorem credit_slot (ℓ : Ln) (b : ℕ) (hb : b < 2) : (slot (lane ℓ).comm b hb).view.dmaCredit = N := by
  rcases ℓ with ⟨_ | _, _ | _⟩ <;> rfl

theorem amount_slot (ℓ : Ln) (b : ℕ) (hb : b < 2) (s : DmaSem sig) : (slot (lane ℓ).comm b hb).view.amount (.dma s) = N :=
  credit_slot ℓ b hb

/-! ## Contents of a slot -/

/-- Device `c` holds slot `b` of the lane's buffer, reading `X`; -/
def slotAt (c : Dev nD) (ℓ : Ln) (b : Fin 2) (X : Vec F S1x1024x128 .f32) : sProp 𝕄 :=
  iprop(∃ f : Buf (Elt F) (((lane ℓ).comm.access (slotRect b.val b.isLt)).loc (c : Thread nD τ)),
    ⌜((lane ℓ).comm.access (slotRect b.val b.isLt)).read (Elt F) f = X⌝
      ∗ ((lane ℓ).comm.access (slotRect b.val b.isLt)).loc (c : Thread nD τ)
          ↦[((lane ℓ).comm.access (slotRect b.val b.isLt)).set]{fullShare} f)

/-- at anything. -/
def slotAny (c : Dev nD) (ℓ : Ln) (b : Fin 2) : sProp 𝕄 := iprop(∃ X, slotAt (F := F) c ℓ b X)

omit [FloatOps F] in
instance slotAt_storable (c : Dev nD) (ℓ : Ln) (b : Fin 2) (X : Vec F S1x1024x128 .f32) :
    BI.Storable (upEmb : UEmb _ 𝕄) (slotAt (F := F) c ℓ b X) := by unfold slotAt; infer_instance
omit [FloatOps F] in
instance slotAny_storable (c : Dev nD) (ℓ : Ln) (b : Fin 2) :
    BI.Storable (upEmb : UEmb _ 𝕄) (slotAny (F := F) c ℓ b) := by unfold slotAny; infer_instance

/-! ## The schedule -/

/-- The duties of round `r` of a cell: at a barrier one per neighbour; else one as long as the lane has a transfer for it. -/
def dut : Kd → ℕ → Finset Bool
  | .bar _, r => if r = 0 then Finset.univ else ∅
  | .send ℓ b, r => if 2 * r + b.val < T ℓ then {false} else ∅
  | .recv ℓ b, r => if 2 * r + (1 - b.val) < T ℓ then {false} else ∅
  | .cred ℓ, r => if r + 1 < T ℓ then {false} else ∅

/-- The units of a duty. -/
def amt : Kd → ℕ
  | .bar _ => 1
  | .send _ _ => N
  | .recv _ _ => N
  | .cred _ => 1

-- What device `c` sends on a lane at a step.
variable (A : Ln → ℕ → Dev nD → Vec F S1x1024x128 .f32)

/-- What a duty's units hand device `c`. A neighbour's signal at the barrier: the slot that `c`'s first transfer to it
    fills. A transfer out: the slot it left. A transfer in: the slot it filled, and that the sender has had its credits.
    A credit: the neighbour's slot that the next transfer fills. -/
def pay (c : Dev nD) : Kd → ℕ → Bool → sProp 𝕄
  | .bar q, _, d => iprop(slotAny (F := F) (tgt (q, d) c) (q, d) 1 ∗ reached ER (cell (tgt (q, d) c) (.recv (q, d) 1)) 0)
  | .send ℓ b, r, _ => slotAt c ℓ b (A ℓ (2 * r + b.val) c)
  | .recv ℓ b, r, _ => iprop(slotAt c ℓ b (A ℓ (2 * r + (1 - b.val)) (fro ℓ c)) ∗ reached ER (cell (fro ℓ c) (.cred ℓ)) (2 * r + (1 - b.val)))
  | .cred ℓ, r, _ => iprop(slotAny (F := F) (tgt ℓ c) ℓ (sl r) ∗ reached ER (cell (tgt ℓ c) (.recv ℓ (sl r))) ((r + 1) / 2))

instance pay_storable (c : Dev nD) (k : Kd) (r : ℕ) (d : Bool) : BI.Storable (upEmb : UEmb _ 𝕄) (pay A c k r d) := by
  cases k <;> unfold pay <;> infer_instance

/-- The schedule of all cells of both rings. -/
def rd : Rounds.Schedule (GSem nD τ sig) Bool 𝕄 where
  duties g r := if g.1.2 = .tc then (kindOf g.2).elim ∅ fun k => dut k r else ∅
  amount g _ _ := (kindOf g.2).elim 1 amt
  payload g r d := (kindOf g.2).elim iprop(emp) fun k => pay A g.1.1 k r d
  amount_pos g _ _ _ := by
    cases kindOf g.2 with
    | none => exact Nat.one_pos
    | some k => cases k <;> first | exact Nat.one_pos | exact N_pos
  unitless _ := False

instance rd_storable (g : GSem nD τ sig) (r : ℕ) (d : Bool) : BI.Storable (upEmb : UEmb _ 𝕄) ((rd A).payload g r d) := by
  show BI.Storable upEmb ((kindOf g.2).elim iprop(emp) fun k => pay A g.1.1 k r d)
  cases kindOf g.2 <;> dsimp only [Option.elim] <;> infer_instance

section Sched
variable (c : Dev nD) (k : Kd) (r : ℕ) (d : Bool)

theorem duties_cell : (rd A).duties (cell c k) r = dut k r := by
  dsimp only [rd]; rw [if_pos rfl, kindOf_loc]; rfl
theorem amount_cell : (rd A).amount (cell c k) r d = amt k := by dsimp only [rd]; rw [kindOf_loc]; rfl
theorem payload_cell : (rd A).payload (cell c k) r d = pay A c k r d := by dsimp only [rd]; rw [kindOf_loc]; rfl

theorem mem_duties (h : dut k r = {d}) : d ∈ (rd A).duties (cell c k) r := by rw [duties_cell, h]; exact Finset.mem_singleton_self _

/-- A cell of one duty in a round expects that duty's units, -/
theorem expect_one (h : dut k r = {d}) : (rd A).expect (cell c k) r = amt k := by
  unfold Schedule.expect Schedule.amountOf; rw [duties_cell, h, Finset.sum_singleton, amount_cell]
/-- which hand over its payload. -/
theorem rest_one (h : dut k r = {d}) :
    bigSep ((rd A).duties (cell c k) r \ ∅) (fun u => (rd A).payload (cell c k) r u) = pay A c k r d := by
  rw [Finset.sdiff_empty, duties_cell, h, bigSep_singleton, payload_cell]
end Sched

theorem dut_send {ℓ : Ln} {s : ℕ} (h : s < T ℓ) : dut (.send ℓ (sl s)) (s / 2) = {false} :=
  if_pos (by show 2 * (s / 2) + s % 2 < T ℓ; omega)
theorem dut_recv {ℓ : Ln} {s : ℕ} (h : s < T ℓ) : dut (.recv ℓ (sl (s + 1))) (s / 2) = {false} :=
  if_pos (by show 2 * (s / 2) + (1 - (s + 1) % 2) < T ℓ; omega)
theorem dut_cred {ℓ : Ln} {s : ℕ} (h : s + 1 < T ℓ) : dut (.cred ℓ) s = {false} := if_pos h

theorem pay_send (c : Dev nD) (ℓ : Ln) (s : ℕ) : pay A c (.send ℓ (sl s)) (s / 2) false = slotAt c ℓ (sl s) (A ℓ s c) := by
  have h : 2 * (s / 2) + s % 2 = s := by omega
  show slotAt c ℓ (sl s) (A ℓ (2 * (s / 2) + s % 2) c) = _
  rw [h]
theorem pay_recv (c : Dev nD) (ℓ : Ln) (s : ℕ) : pay A c (.recv ℓ (sl (s + 1))) (s / 2) false
    = iprop(slotAt c ℓ (sl (s + 1)) (A ℓ s (fro ℓ c)) ∗ reached ER (cell (fro ℓ c) (.cred ℓ)) s) := by
  have h : 2 * (s / 2) + (1 - (s + 1) % 2) = s := by omega
  show iprop(slotAt c ℓ (sl (s + 1)) (A ℓ (2 * (s / 2) + (1 - (s + 1) % 2)) (fro ℓ c))
    ∗ reached ER (cell (fro ℓ c) (.cred ℓ)) (2 * (s / 2) + (1 - (s + 1) % 2))) = _
  rw [h]

/-! ## The order of the waits -/

/-- Where a ring's waits begin in the order of all waits; -/
def base (q : Bool) : ℕ := if q then 256 else 0
/-- the barrier's place, -/
def ixBar (q : Bool) : ℕ := base q + 1
/-- the place of the credit waited for before step `s`, -/
def ixCred (ℓ : Ln) (s : ℕ) : ℕ := base ℓ.1 + 4 * s + 1 + ℓ.2.toNat
/-- and of the receipt of step `s`. -/
def ixRecv (ℓ : Ln) (s : ℕ) : ℕ := base ℓ.1 + 4 * s + 3 + ℓ.2.toNat

/-- The places at a cell, -/
def L (g : GSem nD τ sig) : Finset ℕ := if g.1.2 = .tc then Finset.range 512 else ∅
/-- each its own level. -/
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 512 := if_pos rfl

/-- Everything owed lies above place `n`. -/
def Above (n : ℕ) (O : CellTallies nD τ sig ℕ) : Prop := ∀ g i, 0 < O g i → g.1.2 = .tc ∧ n < i ∧ i < 512

theorem Above.zero (n : ℕ) : Above n 0 := fun g i h => absurd h (Nat.lt_irrefl 0)
theorem Above.add {n : ℕ} {O O' : CellTallies nD τ sig ℕ} (h : Above n O) (h' : Above n O') : Above n (O + O') := fun g i hp => by
  rcases Nat.eq_zero_or_pos (O g i) with h0 | h0
  · refine h' g i ?_
    have : (O + O') g i = O g i + O' g i := rfl
    omega
  · exact h g i h0
theorem Above.mono {n n' : ℕ} {O : CellTallies nD τ sig ℕ} (hn : n' ≤ n) (h : Above n O) : Above n' O :=
  fun g i hp => ⟨(h g i hp).1, lt_of_le_of_lt hn (h g i hp).2.1, (h g i hp).2.2⟩
theorem Above.tally {n : ℕ} (c : Dev nD) (k : Kd) (i u : ℕ) (h : n < i) (h' : i < 512) : Above n (tallyAt (cell c k) i u) := fun g j hp => by
  rw [tallyAt_apply] at hp
  by_cases hg : g = cell c k ∧ j = i
  · rw [hg.1, hg.2]; exact ⟨rfl, h, h'⟩
  · rw [if_neg hg] at hp; exact absurd hp (Nat.lt_irrefl 0)
theorem Above.sum {n : ℕ} (S : Finset ℕ) (f : ℕ → CellTallies nD τ sig ℕ) (h : ∀ t ∈ S, Above n (f t)) : Above n (∑ t ∈ S, f t) := by
  classical
  induction S using Finset.induction_on with
  | empty => exact Above.zero n
  | insert a S ha ih =>
    rw [Finset.sum_insert ha]
    exact (h a (Finset.mem_insert_self _ _)).add (ih fun t ht => h t (Finset.mem_insert_of_mem ht))

omit [FloatOps F] in
/-- A wait is allowed below everything owed. -/
theorem mayWait (c : Dev nD) (k : Kd) (n : ℕ) (hn : n < 512) {O : CellTallies nD τ sig ℕ} (h : Above n O) :
    (levAts L lv : sProp 𝕄) ⊢ MayWait (c : Thread nD τ) (loc k) n O :=
  MayOwe.of_cut (L := L) (lev := lv) n (fun p hp => by rw [Finset.mem_singleton.mp hp, L_tc]; exact Finset.mem_range.mpr hn)
    (fun g i hg => by unfold L; rw [if_pos (h g i hg).1]; exact Finset.mem_range.mpr (h g i hg).2.2)
    (fun p hp => by rw [Finset.mem_singleton.mp hp]; exact le_rfl)
    (fun g i hg => (h g i hg).2.1)

/-- What device `c` owes its neighbours of the transfers from step `s` on, -/
def owSend (ℓ : Ln) (c : Dev nD) (s : ℕ) : CellTallies nD τ sig ℕ :=
  ∑ t ∈ Finset.Ico s (T ℓ), tallyAt (cell (tgt ℓ c) (.recv ℓ (sl (t + 1)))) (ixRecv ℓ t) N
/-- and of the credits after those steps. -/
def owCred (ℓ : Ln) (c : Dev nD) (s : ℕ) : CellTallies nD τ sig ℕ :=
  ∑ t ∈ Finset.Ico s (T ℓ - 1), tallyAt (cell (fro ℓ c) (.cred ℓ)) (ixCred ℓ (t + 1)) 1

theorem owSend_step {ℓ : Ln} (c : Dev nD) {s : ℕ} (h : s < T ℓ) :
    owSend ℓ c s = owSend ℓ c (s + 1) + tallyAt (cell (tgt ℓ c) (.recv ℓ (sl (s + 1)))) (ixRecv ℓ s) N := by
  unfold owSend; rw [Finset.sum_eq_sum_Ico_succ_bot h, add_comm]
theorem owCred_step {ℓ : Ln} (c : Dev nD) {s : ℕ} (h : s + 1 < T ℓ) :
    owCred ℓ c s = owCred ℓ c (s + 1) + tallyAt (cell (fro ℓ c) (.cred ℓ)) (ixCred ℓ (s + 1)) 1 := by
  unfold owCred; rw [Finset.sum_eq_sum_Ico_succ_bot (by omega), add_comm]

theorem T_le (ℓ : Ln) : T ℓ ≤ 31 := by rcases ℓ with ⟨_ | _, _ | _⟩ <;> decide

theorem ix_lt (ℓ : Ln) {s : ℕ} (h : s < 32) : ixRecv ℓ s < 512 ∧ ixCred ℓ s < 512 := by
  rcases ℓ with ⟨_ | _, _ | _⟩ <;> simp [ixRecv, ixCred, base] <;> omega

theorem above_owSend (ℓ : Ln) (c : Dev nD) (s n : ℕ) (h : n < ixRecv ℓ s) : Above n (owSend ℓ c s) :=
  Above.sum _ _ fun t ht => by
    have h1 := Finset.mem_Ico.mp ht
    have h2 := T_le ℓ
    refine Above.tally _ _ _ _ (lt_of_lt_of_le h ?_) (ix_lt ℓ (by omega)).1
    unfold ixRecv; omega
theorem above_owCred (ℓ : Ln) (c : Dev nD) (s n : ℕ) (h : n < ixCred ℓ (s + 1)) : Above n (owCred ℓ c s) :=
  Above.sum _ _ fun t ht => by
    have h1 := Finset.mem_Ico.mp ht
    have h2 := T_le ℓ
    refine Above.tally _ _ _ _ (lt_of_lt_of_le h ?_) (ix_lt ℓ (by omega)).2
    unfold ixCred; omega

end Cert.KernelIdeal.Ring
-- ==== Proof.LaneOps.lean ====
/- One rule per operation of a lane's step: the transfer, the two waits, the credit given, the credit
   waited for, and the reads and writes of a slot. -/
module

public import proofs.«01_k».proof.Proof.Lane
public import Idealize.ShloMosaic.Lib.ViewIndex

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A ring kernel's program on device `c`, run to the postcondition `Q`. -/
abbrev WP (c : Dev nD) (p : KP F) (Q : PUnit → sProp 𝕄) : sProp 𝕄 :=
  wp frame (wpE (defs₀ (F := F)) 𝒱₀ (c : Thread nD τ) none) Set.univ p Q

/-- What device `c` owes, whatever it has waited for. -/
def owing (c : Dev nD) (O : CellTallies nD τ sig ℕ) : sProp 𝕄 := iprop(∃ W, owes (c : Thread nD τ) O W)

-- What device `c` sends on a lane at a step.
variable (A : Ln → ℕ → Dev nD → Vec F S1x1024x128 .f32)

/-- The shared facts: every cell's invariant, and the order of the waits. -/
def ctx (κ : GSem nD τ sig → ℕ) : sProp 𝕄 :=
  iprop(bigSep (Finset.univ : Finset (Dev nD × Kd)) (fun x => cellInv ER (rd A) (κ (cell x.1 x.2)) (cell x.1 x.2)) ∗ levAts L lv)

instance ctx_persistent (κ : GSem nD τ sig → ℕ) : BI.Persistent (ctx A κ) := by unfold ctx; infer_instance

theorem ctx_cell (κ : GSem nD τ sig → ℕ) (c : Dev nD) (k : Kd) : ctx A κ ⊢ cellInv ER (rd A) (κ (cell c k)) (cell c k) := by
  have h : bigSep (Finset.univ : Finset (Dev nD × Kd)) (fun x => cellInv ER (rd A) (κ (cell x.1 x.2)) (cell x.1 x.2))
      ⊢ cellInv ER (rd A) (κ (cell c k)) (cell c k) := bigSep_elim (Finset.mem_univ (c, k))
  unfold ctx
  iintro ⟨H, -⟩
  iapply h; iexact H

theorem ctx_wait (κ : GSem nD τ sig → ℕ) (c : Dev nD) (k : Kd) (n : ℕ) (hn : n < 512) {O : CellTallies nD τ sig ℕ} (h : Above n O) :
    ctx A κ ⊢ MayWait (c : Thread nD τ) (loc k) n O := by
  unfold ctx
  iintro ⟨-, H⟩
  iapply (mayWait c k n hn h); iexact H

variable (κ : GSem nD τ sig → ℕ) (c : Dev nD) (ℓ : Ln) (s : ℕ)

omit [FloatOps F] in
/-- Through a slot taken as a buffer of its own, reading is reading the slot, -/
theorem slot_landed (b b' : Fin 2) (c' : Dev nD) (fs : Buf (Elt F) (((lane ℓ).comm.access (slotRect b.val b.isLt)).loc (c : Thread nD τ)))
    (fd : Buf (Elt F) (((lane ℓ).comm.access (slotRect b'.val b'.isLt)).loc (c' : Thread nD τ))) :
    ((lane ℓ).comm.access (slotRect b'.val b'.isLt)).read (Elt F)
      ((slot (lane ℓ).comm b'.val b'.isLt).view.write (Elt F) fd ((slot (lane ℓ).comm b.val b.isLt).view.read (Elt F) fs) Finset.univ)
      = ((lane ℓ).comm.access (slotRect b.val b.isLt)).read (Elt F) fs := by
  funext y
  obtain ⟨x, rfl⟩ := (Shape.reshapeEquiv (s := S1x1024x128) (s' := S1024x128)
    squeezes_S1x1024x128_S1024x128.numel_eq).surjective y
  exact View.read_write_reshape (v := (lane ℓ).comm.access (slotRect b'.val b'.isLt)) (s' := S1024x128)
    squeezes_S1x1024x128_S1024x128.numel_eq fd
    ((slot (lane ℓ).comm b.val b.isLt).view.read (Elt F) fs) x

theorem slot_set (m : Memref sig .tc .vmem S2x1024x128 .f32) (b : ℕ) (hb : b < 2) : (slot m b hb).view.set = (m.access (slotRect b hb)).set :=
  View.set_reshape _ _

variable {k : KP F} {O : CellTallies nD τ sig ℕ}

/-- The transfer of step `s`. It takes the slot of the step's parity and the neighbour's other slot, which the neighbour
    will get back filled. -/
theorem wp_sendOp {Q : PUnit → sProp 𝕄} {dev : Dev nD} (hs : s < T ℓ) (hdev : dev = tgt ℓ c) :
    iprop(ctx A κ ∗ slotAt c ℓ (sl s) (A ℓ s c) ∗ slotAny (F := F) (tgt ℓ c) ℓ (sl (s + 1))
        ∗ reached ER (cell (tgt ℓ c) (.recv ℓ (sl (s + 1)))) (s / 2) ∗ reached ER (cell c (.cred ℓ)) s
        ∗ reached ER (cell c (.send ℓ (sl s))) (s / 2)
        ∗ dutyTok ER (cell c (.send ℓ (sl s))) (s / 2) false ∗ dutyTok ER (cell (tgt ℓ c) (.recv ℓ (sl (s + 1)))) (s / 2) false
        ∗ owing c (O + tallyAt (cell (tgt ℓ c) (.recv ℓ (sl (s + 1)))) (ixRecv ℓ s) N))
      ⊢ iprop(((cred (tallyAt (cell c (.send ℓ (sl s))) 0 N) ∗ owing c O) -∗ WP c k Q) -∗ WP c (sendOp (lane ℓ) s dev k) Q) := by
  subst hdev
  unfold slotAny slotAt owing sendOp
  iintro ⟨#Hctx, ⟨%fs, %hfs, Hs⟩, ⟨%X, %fd, -, Hd⟩, #Hr2, #Hrc, #Hr1, Ht1, Ht2, %W, HO⟩ Hk
  iapply (Rounds.wp_send_pointsTo_with 𝒱₀ ER (rd A) (c : Thread nD τ) none (κ₁ := κ (cell c (.send ℓ (sl s))))
      (κ₂ := κ (cell (tgt ℓ c) (.recv ℓ (sl (s + 1))))) (c' := (tgt ℓ c : Thread nD τ))
      (src := slot (lane ℓ).comm (s % 2) (par s)) (dst := slot (lane ℓ).comm ((s + 1) % 2) (par (s + 1)))
      (sS := loc (.send ℓ (sl s))) (sem := loc (.recv ℓ (sl (s + 1))))
      (r₁ := s / 2) (r₂ := s / 2) (d₁ := false) (d₂ := false) (fs := fs) (fd := fd) (q := fullShare)
      (F := reached ER (cell c (.cred ℓ)) s)
      (mem_duties A c (.send ℓ (sl s)) _ _ (dut_send hs)) (mem_duties A (tgt ℓ c) (.recv ℓ (sl (s + 1))) _ _ (dut_recv hs))
      (ixRecv ℓ s) 0 N (amount_slot ℓ _ _ _) (amount_cell A c (.send ℓ (sl s)) _ _) (amount_cell A (tgt ℓ c) (.recv ℓ (sl (s + 1))) _ _)
      O rfl (W := W)
      (by
        refine BIBase.Entails.trans ?_ (Entails.of_eq ((payload_cell A c (.send ℓ (sl s)) _ _).trans (pay_send A c ℓ s)).symm)
        unfold slotAt
        iintro H
        iexists fs
        isplitr; · ipureintro; exact hfs
        rw [slot_set]
        iexact H)
      (by
        refine BIBase.Entails.trans ?_ (Entails.of_eq ((payload_cell A (tgt ℓ c) (.recv ℓ (sl (s + 1))) _ _).trans (pay_recv A (tgt ℓ c) ℓ s)).symm)
        rw [fro_tgt]
        unfold slotAt
        iintro ⟨H, #Hr⟩
        isplitl [H]
        · iexists _
          isplitr; rotate_left
          · rw [slot_set]; iexact H
          · ipureintro; exact (slot_landed c ℓ (sl s) (sl (s + 1)) (tgt ℓ c) fs fd).trans hfs
        iexact Hr)) $$ [Hs Hd HO Ht1 Ht2]
  · isplitr; · iapply (ctx_cell A κ c (.send ℓ (sl s))); iexact Hctx
    isplitr; · iapply (ctx_cell A κ (tgt ℓ c) (.recv ℓ (sl (s + 1)))); iexact Hctx
    isplitl [Hs]; · rw [slot_set]; iexact Hs
    isplitl [Hd]
    · isplitl [Hd]
      · rw [slot_set]; iexact Hd
      · iexact Hrc
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The wait for the transfer of step `s` to have left: the slot comes back. -/
theorem wp_waitS {Q : PUnit → sProp 𝕄} (hs : s < T ℓ) (hO : Above 0 O) :
    iprop(ctx A κ ∗ cred (tallyAt (cell c (.send ℓ (sl s))) 0 N) ∗ owing c O ∗ atPos ER (cell c (.send ℓ (sl s))) (s / 2) ∅ 0)
      ⊢ iprop(((owing c O ∗ atPos ER (cell c (.send ℓ (sl s))) (s / 2 + 1) ∅ 0 ∗ reached ER (cell c (.send ℓ (sl s))) (s / 2 + 1)
            ∗ slotAt c ℓ (sl s) (A ℓ s c)) -∗ WP c k Q) -∗ WP c (waitS (lane ℓ) s k) Q) := by
  unfold owing waitS
  iintro ⟨#Hctx, Hc, ⟨%W, HO⟩, Hp⟩ Hk
  iapply (Rounds.wp_wait_rest_token 𝒱₀ ER (rd A) (c : Thread nD τ) none (κ := κ (cell c (.send ℓ (sl s)))) (sm := loc (.send ℓ (sl s))) (k' := N)
      (fun K => (wpE_waitDma2_eq 𝒱₀ (c : Thread nD τ) none Set.univ K).trans (by rw [credit_slot]; rfl))
      (Set.mem_univ _) 0 (O := O) (W := W) (R := s / 2) (m := 0) (T := ∅)
      ((zero_add _).trans (expect_one A c (.send ℓ (sl s)) _ false (dut_send hs)).symm)) $$ [Hc HO Hp]
  · isplitr; · iapply (ctx_cell A κ c (.send ℓ (sl s))); iexact Hctx
    isplitl [Hc]; · iexact Hc
    isplitl [HO]; · iexact HO
    isplitr; · iapply (ctx_wait A κ c (.send ℓ (sl s)) 0 (by decide) hO); iexact Hctx
    iexact Hp
  iintro ⟨HO, Hp, #Hr, Hpay⟩
  ihave Hp2 := (Entails.of_eq ((rest_one A c (.send ℓ (sl s)) _ false (dut_send hs)).trans (pay_send A c ℓ s))) $$ Hpay
  iapply Hk
  isplitl [HO]; · iexists _; iexact HO
  isplitl [Hp]; · iexact Hp
  isplitr; · iexact Hr
  iexact Hp2

/-- The wait for the neighbour's transfer of step `s` to have landed: the other slot comes back filled. -/
theorem wp_waitR {Q : PUnit → sProp 𝕄} (hs : s < T ℓ) (hO : Above (ixRecv ℓ s) O) :
    iprop(ctx A κ ∗ cred (tallyAt (cell c (.recv ℓ (sl (s + 1)))) (ixRecv ℓ s) N) ∗ owing c O
        ∗ atPos ER (cell c (.recv ℓ (sl (s + 1)))) (s / 2) ∅ 0)
      ⊢ iprop(((owing c O ∗ atPos ER (cell c (.recv ℓ (sl (s + 1)))) (s / 2 + 1) ∅ 0
            ∗ reached ER (cell c (.recv ℓ (sl (s + 1)))) (s / 2 + 1)
            ∗ slotAt c ℓ (sl (s + 1)) (A ℓ s (fro ℓ c)) ∗ reached ER (cell (fro ℓ c) (.cred ℓ)) s) -∗ WP c k Q)
          -∗ WP c (waitR (lane ℓ) s k) Q) := by
  unfold owing waitR
  iintro ⟨#Hctx, Hc, ⟨%W, HO⟩, Hp⟩ Hk
  iapply (Rounds.wp_wait_rest_token 𝒱₀ ER (rd A) (c : Thread nD τ) none (κ := κ (cell c (.recv ℓ (sl (s + 1))))) (sm := loc (.recv ℓ (sl (s + 1)))) (k' := N)
      (fun K => (wpE_waitDma2_eq 𝒱₀ (c : Thread nD τ) none Set.univ K).trans (by rw [credit_slot]; rfl))
      (Set.mem_univ _) (ixRecv ℓ s) (O := O) (W := W) (R := s / 2) (m := 0) (T := ∅)
      ((zero_add _).trans (expect_one A c (.recv ℓ (sl (s + 1))) _ false (dut_recv hs)).symm)) $$ [Hc HO Hp]
  · isplitr; · iapply (ctx_cell A κ c (.recv ℓ (sl (s + 1)))); iexact Hctx
    isplitl [Hc]; · iexact Hc
    isplitl [HO]; · iexact HO
    isplitr
    · iapply (ctx_wait A κ c (.recv ℓ (sl (s + 1))) (ixRecv ℓ s) (ix_lt ℓ (by have := T_le ℓ; omega)).1 hO); iexact Hctx
    iexact Hp
  iintro ⟨HO, Hp, #Hr, Hpay⟩
  ihave Hp2 := (Entails.of_eq ((rest_one A c (.recv ℓ (sl (s + 1))) _ false (dut_recv hs)).trans (pay_recv A c ℓ s))) $$ Hpay
  icases Hp2 with ⟨Hsl, #Hrc⟩
  iapply Hk
  isplitl [HO]; · iexists _; iexact HO
  isplitl [Hp]; · iexact Hp
  isplitr; · iexact Hr
  isplitl [Hsl]; · iexact Hsl
  iexact Hrc

/-- The credit given after step `s`: the neighbour gets the slot that its next transfer fills. -/
theorem wp_sigCred {Q : PUnit → sProp 𝕄} {dev : Dev nD} (hs : s + 1 < T ℓ) (hdev : dev = fro ℓ c) :
    iprop(ctx A κ ∗ slotAny (F := F) c ℓ (sl s) ∗ reached ER (cell c (.recv ℓ (sl s))) ((s + 1) / 2)
        ∗ reached ER (cell (fro ℓ c) (.cred ℓ)) s ∗ dutyTok ER (cell (fro ℓ c) (.cred ℓ)) s false
        ∗ owing c (O + tallyAt (cell (fro ℓ c) (.cred ℓ)) (ixCred ℓ (s + 1)) 1))
      ⊢ iprop((owing c O -∗ WP c k Q) -∗ WP c (sig1 dev (lane ℓ).cr.sem k) Q) := by
  subst hdev
  unfold owing sig1
  simp only [semSignalWord, Prog.lift, Prog.bind_op, Prog.bind_ret, Prog.pure_eq_ret]
  have hpay : iprop(slotAny (F := F) c ℓ (sl s) ∗ reached ER (cell c (.recv ℓ (sl s))) ((s + 1) / 2))
      ⊢ (rd A).payload ((fro ℓ c : Thread nD τ), .reg (lane ℓ).cr.sem) s false := by
    refine BIBase.Entails.trans ?_ (Entails.of_eq (payload_cell A (fro ℓ c) (.cred ℓ) s false).symm)
    show _ ⊢ iprop(slotAny (F := F) (tgt ℓ (fro ℓ c)) ℓ (sl s) ∗ reached ER (cell (tgt ℓ (fro ℓ c)) (.recv ℓ (sl s))) ((s + 1) / 2))
    rw [tgt_fro]
  iintro ⟨#Hctx, Hs, #Hr, #Hrc, Ht, %W, HO⟩ Hk
  iapply (Rounds.wp_signal 𝒱₀ ER (rd A) (c : Thread nD τ) none (dst := (fro ℓ c : Thread nD τ)) (κ := κ (cell (fro ℓ c) (.cred ℓ)))
      (r := s) (d := false) (sem := (lane ℓ).cr.sem)
      (mem_duties A (fro ℓ c) (.cred ℓ) _ _ (dut_cred hs))
      (amount_cell A (fro ℓ c) (.cred ℓ) s false) (ixCred ℓ (s + 1)) O rfl (W := W)) $$ [HO Ht Hs]
  · isplitr; · iapply (ctx_cell A κ (fro ℓ c) (.cred ℓ)); iexact Hctx
    isplitl [HO]; · iexact HO
    isplitl [Ht]; · iexact Ht
    isplitl [Hs]
    · ihave Hp := hpay $$ [Hs]
      · isplitl [Hs]; · iexact Hs
        iexact Hr
      iexact Hp
    · iexact Hrc
  iintro HO
  iapply Hk
  iexists W; iexact HO

/-- The credit waited for after step `s`: the neighbour's slot that the next transfer fills. -/
theorem wp_waitCred {Q : PUnit → sProp 𝕄} (hs : s + 1 < T ℓ) (hO : Above (ixCred ℓ (s + 1)) O) :
    iprop(ctx A κ ∗ cred (tallyAt (cell c (.cred ℓ)) (ixCred ℓ (s + 1)) 1) ∗ owing c O ∗ atPos ER (cell c (.cred ℓ)) s ∅ 0)
      ⊢ iprop(((owing c O ∗ atPos ER (cell c (.cred ℓ)) (s + 1) ∅ 0 ∗ reached ER (cell c (.cred ℓ)) (s + 1)
            ∗ slotAny (F := F) (tgt ℓ c) ℓ (sl s) ∗ reached ER (cell (tgt ℓ c) (.recv ℓ (sl s))) ((s + 1) / 2)) -∗ WP c k Q)
          -∗ WP c (waitN (lane ℓ).cr.sem 1#32 k) Q) := by
  unfold owing waitN
  simp only [semWaitWord, Prog.lift, Prog.bind_op, Prog.bind_ret, Prog.pure_eq_ret]
  iintro ⟨#Hctx, Hc, ⟨%W, HO⟩, Hp⟩ Hk
  iapply (Rounds.wp_wait_rest_token 𝒱₀ ER (rd A) (c : Thread nD τ) none (κ := κ (cell c (.cred ℓ))) (sm := loc (.cred ℓ)) (k' := 1)
      (wpE_semWait_eq 𝒱₀ (c : Thread nD τ) none Set.univ)
      (Set.mem_univ _) (ixCred ℓ (s + 1)) (O := O) (W := W) (R := s) (m := 0) (T := ∅)
      ((zero_add _).trans (expect_one A c (.cred ℓ) _ false (dut_cred hs)).symm)) $$ [Hc HO Hp]
  · isplitr; · iapply (ctx_cell A κ c (.cred ℓ)); iexact Hctx
    isplitl [Hc]; · iexact Hc
    isplitl [HO]; · iexact HO
    isplitr
    · iapply (ctx_wait A κ c (.cred ℓ) (ixCred ℓ (s + 1)) (ix_lt ℓ (by have := T_le ℓ; omega)).2 hO); iexact Hctx
    iexact Hp
  iintro ⟨HO, Hp, #Hr, Hpay⟩
  ihave Hp2 := (Entails.of_eq (rest_one A c (.cred ℓ) _ false (dut_cred hs))) $$ Hpay
  unfold pay
  icases Hp2 with ⟨Hsl, #Hrc⟩
  iapply Hk
  isplitl [HO]; · iexists _; iexact HO
  isplitl [Hp]; · iexact Hp
  isplitr; · iexact Hr
  isplitl [Hsl]; · iexact Hsl
  iexact Hrc

/-- A slot read. -/
theorem wp_loadSlot {Q : PUnit → sProp 𝕄} (b : Fin 2) (X : Vec F S1x1024x128 .f32) {kv : Vec F S1x1024x128 .f32 → KP F} :
    slotAt c ℓ b X ⊢ iprop((slotAt c ℓ b X -∗ WP c (kv X) Q) -∗ WP c (loadSlot (lane ℓ).comm b.val b.isLt kv) Q) := by
  unfold slotAt loadSlot
  iintro ⟨%f, %hf, H⟩ Hk
  iapply (wp_load_rect 𝒱₀ (c : Thread nD τ) none Set.univ (m := (lane ℓ).comm) (r := slotRect b.val b.isLt) (q := fullShare) (f := f) subset_rfl) $$ H
  iintro H
  rw [hf]
  iapply Hk
  iexists f
  isplitr; · ipureintro; exact hf
  iexact H

/-- A slot overwritten. -/
theorem wp_storeSlot {Q : PUnit → sProp 𝕄} (b : Fin 2) (X : Vec F S1x1024x128 .f32) :
    slotAny (F := F) c ℓ b ⊢ iprop((slotAt c ℓ b X -∗ WP c k Q) -∗ WP c (storeSlot (lane ℓ).comm b.val b.isLt X k) Q) := by
  unfold slotAny slotAt storeSlot
  iintro ⟨%Y, %f, -, H⟩ Hk
  iapply (wp_load_rect 𝒱₀ (c : Thread nD τ) none Set.univ (m := (lane ℓ).comm) (r := slotRect b.val b.isLt) (q := fullShare) (f := f) subset_rfl) $$ H
  iintro H
  iapply (wp_store 𝒱₀ (c : Thread nD τ) none Set.univ (m := (lane ℓ).comm) (r := slotRect b.val b.isLt) (S := ((lane ℓ).comm.access (slotRect b.val b.isLt)).set) (f := f) (Mk := Finset.univ) subset_rfl) $$ H
  iintro H
  iapply Hk
  iexists _
  isplitr; rotate_left
  · iexact H
  · ipureintro; exact View.read_write_univ _ _

end Cert.KernelIdeal.Ring
-- ==== Proof.RingOps.lean ====
/- The reads and writes of a whole window's buffer, the barrier with both neighbours, and a lane's
   progress from step to step: what device `c` holds of a lane before a step (`ready`), with its transfer
   under way (`flying`), once the neighbour's has landed (`landed`), and after the credit (`turning`). -/
module

public import proofs.«01_k».proof.Proof.LaneOps
public import Idealize.ShloMosaic.Lib.VecWindow
public import Idealize.SL.BI.BigOpNat

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Reads and writes of a buffer held whole -/

/-- A read through a rectangle. -/
theorem wp_load_owns {s : Shape} {e : EltTy} (c : Dev nD) (m : Memref sig .tc .vmem s e) (r : Rect s) (q : PosShare TreeShare) (X : s.Idx → Elt F e)
    {hl : m.view.LoadsAt r} {k : (r.shape.Idx → Elt F e) → KP F} {Q : PUnit → sProp 𝕄} :
    (owns (c : Thread nD τ) m q X : sProp 𝕄)
      ⊢ iprop((owns (c : Thread nD τ) m q X -∗ WP c (k (View.ld X r)) Q) -∗ WP c (.op (.load m r.toLoadRect hl) k) Q) := by
  unfold owns
  iintro ⟨%f, %hf, H⟩ Hk
  iapply (wp_load_rect 𝒱₀ (c : Thread nD τ) none Set.univ (m := m) (r := r) (q := q) (f := f) (S := m.view.set)
    (by rw [View.set_slice]; exact Finset.map_subset_map.mpr (Finset.subset_univ _))) $$ H
  iintro H
  subst hf
  iapply Hk
  iexists f
  isplitr; · ipureintro; rfl
  iexact H

/-- A write through a unit-stride rectangle. -/
theorem wp_store_owns {s : Shape} {e : EltTy} (c : Dev nD) (m : Memref sig .tc .vmem s e) (off size : Fin s.rank → ℕ)
    (inb : ∀ a, off a + size a ≤ s.size a) (w : (Rect.unit off size inb).shape.Idx → Elt F e) (Y : s.Idx → Elt F e)
    {hx : (m.access (Rect.unit off size inb)).Stores Finset.univ} {hm} {k : PUnit → KP F} {Q : PUnit → sProp 𝕄} :
    (owns (c : Thread nD τ) m fullShare Y : sProp 𝕄)
      ⊢ iprop((owns (c : Thread nD τ) m fullShare (VecWindow.put Y off size w) -∗ WP c (k ⟨⟩) Q)
        -∗ WP c (.op (.store m (Rect.unit off size inb) w Finset.univ hx hm) k) Q) := by
  unfold owns
  iintro ⟨%f, %hf, H⟩ Hk
  iapply (wp_store 𝒱₀ (c : Thread nD τ) none Set.univ (m := m) (r := Rect.unit off size inb) (S := m.view.set) (f := f) (Mk := Finset.univ)
    (by rw [View.setOn_univ, View.set_slice]; exact Finset.map_subset_map.mpr (Finset.subset_univ _))) $$ H
  iintro H
  subst hf
  iapply Hk
  iexists _
  isplitr; rotate_left
  · iexact H
  · ipureintro
    exact View.read_writes_cons_put m.view f inb w [] rfl

-- What device `c` sends on a lane at a step.
variable (A : Ln → ℕ → Dev nD → Vec F S1x1024x128 .f32)
variable (κ : GSem nD τ sig → ℕ) (c : Dev nD)

/-! ## The barrier -/

/-- Device `c` at a round of a cell of its own. -/
def at_ (k : Kd) (r : ℕ) : sProp 𝕄 := iprop(atPos ER (cell c k) r ∅ 0 ∗ reached ER (cell c k) r)

theorem expect_bar (q : Bool) : (rd A).expect (cell c (.bar q)) 0 = 2 := by
  unfold Schedule.expect Schedule.amountOf; rw [duties_cell]
  show ∑ d ∈ (Finset.univ : Finset Bool), (rd A).amount (cell c (.bar q)) 0 d = 2
  rw [Finset.sum_congr rfl (fun d _ => amount_cell A c (.bar q) 0 d)]
  rfl

theorem rest_bar (q : Bool) :
    bigSep ((rd A).duties (cell c (.bar q)) 0 \ ∅) (fun u => (rd A).payload (cell c (.bar q)) 0 u)
      = iprop(pay A c (.bar q) 0 false ∗ pay A c (.bar q) 0 true) := by
  rw [Finset.sdiff_empty, duties_cell, show dut (.bar q) 0 = {false, true} from by cases q <;> decide,
    bigSep_insert (by decide), bigSep_singleton, payload_cell, payload_cell]
  rfl

/-- One neighbour signalled at the barrier: it gets the slot its first transfer fills. -/
theorem wp_sigBar {Q : PUnit → sProp 𝕄} {k : KP F} {O : CellTallies nD τ sig ℕ} (ℓ : Ln) {dev : Dev nD} (hdev : dev = fro ℓ c) :
    iprop(ctx A κ ∗ slotAny (F := F) c ℓ 1 ∗ reached ER (cell c (.recv ℓ 1)) 0
        ∗ reached ER (cell (fro ℓ c) (.bar ℓ.1)) 0 ∗ dutyTok ER (cell (fro ℓ c) (.bar ℓ.1)) 0 ℓ.2
        ∗ owing c (O + tallyAt (cell (fro ℓ c) (.bar ℓ.1)) (ixBar ℓ.1) 1))
      ⊢ iprop((owing c O -∗ WP c k Q) -∗ WP c (sig1 dev (barSem ℓ.1) k) Q) := by
  subst hdev
  unfold owing sig1
  simp only [semSignalWord, Prog.lift, Prog.bind_op, Prog.bind_ret, Prog.pure_eq_ret]
  have hpay : iprop(slotAny (F := F) c ℓ 1 ∗ reached ER (cell c (.recv ℓ 1)) 0)
      ⊢ (rd A).payload ((fro ℓ c : Thread nD τ), .reg (barSem ℓ.1)) 0 ℓ.2 := by
    refine BIBase.Entails.trans ?_ (Entails.of_eq (payload_cell A (fro ℓ c) (.bar ℓ.1) 0 ℓ.2).symm)
    show _ ⊢ iprop(slotAny (F := F) (tgt ℓ (fro ℓ c)) ℓ 1 ∗ reached ER (cell (tgt ℓ (fro ℓ c)) (.recv ℓ 1)) 0)
    rw [tgt_fro]
  iintro ⟨#Hctx, Hs, #Hr, #Hrc, Ht, %W, HO⟩ Hk
  iapply (Rounds.wp_signal 𝒱₀ ER (rd A) (c : Thread nD τ) none (dst := (fro ℓ c : Thread nD τ)) (κ := κ (cell (fro ℓ c) (.bar ℓ.1)))
      (r := 0) (d := ℓ.2) (sem := barSem ℓ.1)
      (by show ℓ.2 ∈ (rd A).duties (cell (fro ℓ c) (.bar ℓ.1)) 0; rw [duties_cell]; exact Finset.mem_univ ℓ.2)
      (amount_cell A (fro ℓ c) (.bar ℓ.1) 0 ℓ.2) (ixBar ℓ.1) O rfl (W := W)) $$ [HO Ht Hs]
  · isplitr; · iapply (ctx_cell A κ (fro ℓ c) (.bar ℓ.1)); iexact Hctx
    isplitl [HO]; · iexact HO
    isplitl [Ht]; · iexact Ht
    isplitl [Hs]
    · ihave Hp := hpay $$ [Hs]
      · isplitl [Hs]; · iexact Hs
        iexact Hr
      iexact Hp
    · iexact Hrc
  iintro HO
  iapply Hk
  iexists W; iexact HO

/-- The wait at the barrier: both neighbours' slots that the first transfers fill. -/
theorem wp_waitBar {Q : PUnit → sProp 𝕄} {k : KP F} {O : CellTallies nD τ sig ℕ} (q : Bool) (hO : Above (ixBar q) O) :
    iprop(ctx A κ ∗ cred (tallyAt (cell c (.bar q)) (ixBar q) 2) ∗ owing c O ∗ atPos ER (cell c (.bar q)) 0 ∅ 0)
      ⊢ iprop(((owing c O ∗ atPos ER (cell c (.bar q)) 1 ∅ 0
            ∗ (slotAny (F := F) (tgt (q, false) c) (q, false) 1 ∗ reached ER (cell (tgt (q, false) c) (.recv (q, false) 1)) 0)
            ∗ (slotAny (F := F) (tgt (q, true) c) (q, true) 1 ∗ reached ER (cell (tgt (q, true) c) (.recv (q, true) 1)) 0)) -∗ WP c k Q)
          -∗ WP c (waitN (barSem q) 2#32 k) Q) := by
  unfold owing waitN
  simp only [semWaitWord, Prog.lift, Prog.bind_op, Prog.bind_ret, Prog.pure_eq_ret]
  iintro ⟨#Hctx, Hc, ⟨%W, HO⟩, Hp⟩ Hk
  iapply (Rounds.wp_wait_rest_token 𝒱₀ ER (rd A) (c : Thread nD τ) none (κ := κ (cell c (.bar q))) (sm := loc (.bar q)) (k' := 2)
      (wpE_semWait_eq 𝒱₀ (c : Thread nD τ) none Set.univ)
      (Set.mem_univ _) (ixBar q) (O := O) (W := W) (R := 0) (m := 0) (T := ∅)
      ((zero_add _).trans (expect_bar A c q).symm)) $$ [Hc HO Hp]
  · isplitr; · iapply (ctx_cell A κ c (.bar q)); iexact Hctx
    isplitl [Hc]; · iexact Hc
    isplitl [HO]; · iexact HO
    isplitr
    · iapply (ctx_wait A κ c (.bar q) (ixBar q) (by cases q <;> decide) hO); iexact Hctx
    iexact Hp
  iintro ⟨HO, Hp, -, Hpay⟩
  ihave Hp2 := (Entails.of_eq (rest_bar A c q)) $$ Hpay
  unfold pay
  iapply Hk
  isplitl [HO]; · iexists _; iexact HO
  isplitl [Hp]; · iexact Hp
  iexact Hp2

/-! ## A lane's progress -/

variable (ℓ : Ln)

/-- For the transfer of step `t`: the units its twin will bring, and the right to fill the neighbour's slot and to empty the own. -/
def moveRes (t : ℕ) : sProp 𝕄 :=
  iprop(cred (tallyAt (cell c (.recv ℓ (sl (t + 1)))) (ixRecv ℓ t) N)
    ∗ dutyTok ER (cell (tgt ℓ c) (.recv ℓ (sl (t + 1)))) (t / 2) false ∗ dutyTok ER (cell c (.send ℓ (sl t))) (t / 2) false)

/-- For the credits after step `t`: the unit to come, and the right to give one. -/
def turnRes (t : ℕ) : sProp 𝕄 :=
  iprop(cred (tallyAt (cell c (.cred ℓ)) (ixCred ℓ (t + 1)) 1) ∗ dutyTok ER (cell (fro ℓ c) (.cred ℓ)) t false)

/-- What is left for the transfers from step `s` on, -/
def MR (s : ℕ) : sProp 𝕄 := bigSep (Finset.Ico s (T ℓ)) (moveRes (F := F) c ℓ)
/-- and for the credits. -/
def TR (s : ℕ) : sProp 𝕄 := bigSep (Finset.Ico s (T ℓ - 1)) (turnRes (F := F) c ℓ)

theorem MR_step {s : ℕ} (h : s < T ℓ) : MR (F := F) c ℓ s = iprop(moveRes c ℓ s ∗ MR c ℓ (s + 1)) := bigSep_Ico_succ_bot h _
theorem TR_step {s : ℕ} (h : s + 1 < T ℓ) : TR (F := F) c ℓ s = iprop(turnRes c ℓ s ∗ TR c ℓ (s + 1)) :=
  bigSep_Ico_succ_bot (by omega : s < T ℓ - 1) _

/-- The positions before step `s`, the credits at round `r`. -/
def pos (s r : ℕ) : sProp 𝕄 :=
  iprop(at_ (F := F) c (.send ℓ (sl s)) (s / 2) ∗ at_ (F := F) c (.send ℓ (sl (s + 1))) ((s + 1) / 2)
    ∗ at_ (F := F) c (.recv ℓ (sl (s + 1))) (s / 2) ∗ at_ (F := F) c (.recv ℓ (sl s)) ((s + 1) / 2) ∗ at_ (F := F) c (.cred ℓ) r)

/-- Before step `s`: the slot to send, and the neighbour's slot to fill. -/
def ready (s : ℕ) : sProp 𝕄 :=
  iprop(slotAt c ℓ (sl s) (A ℓ s c) ∗ slotAny (F := F) (tgt ℓ c) ℓ (sl (s + 1)) ∗ reached ER (cell (tgt ℓ c) (.recv ℓ (sl (s + 1)))) (s / 2)
    ∗ pos c ℓ s s ∗ MR c ℓ s ∗ TR c ℓ s)
/-- The transfer of step `s` under way. -/
def flying (s : ℕ) : sProp 𝕄 :=
  iprop(cred (tallyAt (cell c (.send ℓ (sl s))) 0 N) ∗ cred (tallyAt (cell c (.recv ℓ (sl (s + 1)))) (ixRecv ℓ s) N)
    ∗ pos (F := F) c ℓ s s ∗ MR c ℓ (s + 1) ∗ TR c ℓ s)
/-- The transfers of step `s` done: the slot sent is free. -/
def landed (s : ℕ) : sProp 𝕄 :=
  iprop(slotAny (F := F) c ℓ (sl s) ∗ reached ER (cell (fro ℓ c) (.cred ℓ)) s ∗ pos c ℓ (s + 1) s ∗ MR c ℓ (s + 1) ∗ TR c ℓ s)
/-- The credit after step `s` given. -/
def turning (s : ℕ) : sProp 𝕄 :=
  iprop(cred (tallyAt (cell c (.cred ℓ)) (ixCred ℓ (s + 1)) 1) ∗ pos (F := F) c ℓ (s + 1) s ∗ MR c ℓ (s + 1) ∗ TR c ℓ (s + 1))

variable {Q : PUnit → sProp 𝕄} {k : KP F} {O : CellTallies nD τ sig ℕ} {s : ℕ}

/-- From `ready` to `flying`. -/
theorem lane_send {Q : PUnit → sProp 𝕄} {dev : Dev nD} (hs : s < T ℓ) (hdev : dev = tgt ℓ c) :
    iprop(ctx A κ ∗ ready A c ℓ s ∗ owing c (O + tallyAt (cell (tgt ℓ c) (.recv ℓ (sl (s + 1)))) (ixRecv ℓ s) N))
      ⊢ iprop(((flying c ℓ s ∗ owing c O) -∗ WP c k Q) -∗ WP c (sendOp (lane ℓ) s dev k) Q) := by
  unfold ready flying pos at_
  rw [MR_step c ℓ hs]; unfold moveRes
  iintro ⟨#Hctx, ⟨Hs, Hd, #Hrd, ⟨⟨Hp1, #Hr1⟩, Hp2, Hp3, Hp4, Hp5, #Hr5⟩, ⟨⟨Hcr, Ht2, Ht1⟩, HM⟩, HT⟩, HO⟩ Hk
  iapply (wp_sendOp A κ c ℓ s hs hdev) $$ [Hs Hd HO Ht1 Ht2]
  · isplitr; · iexact Hctx
    isplitl [Hs]; · iexact Hs
    isplitl [Hd]; · iexact Hd
    isplitr; · iexact Hrd
    isplitr; · iexact Hr5
    isplitr; · iexact Hr1
    isplitl [Ht1]; · iexact Ht1
    isplitl [Ht2]; · iexact Ht2
    iexact HO
  iintro ⟨Hcs, HO⟩
  iapply Hk
  isplitr [HO]
  · isplitl [Hcs]; · iexact Hcs
    isplitl [Hcr]; · iexact Hcr
    isplitr [HM HT]
    · isplitl [Hp1]
      · isplitl [Hp1]; · iexact Hp1
        iexact Hr1
      isplitl [Hp2]; · iexact Hp2
      isplitl [Hp3]; · iexact Hp3
      isplitl [Hp4]; · iexact Hp4
      isplitl [Hp5]; · iexact Hp5
      iexact Hr5
    isplitl [HM]; · iexact HM
    iexact HT
  iexact HO

/-- From `flying` to `landed`: the other slot is filled. -/
theorem lane_land {Q : PUnit → sProp 𝕄} (hs : s < T ℓ) (hO : Above (ixRecv ℓ s) O) :
    iprop(ctx A κ ∗ flying c ℓ s ∗ owing c O)
      ⊢ iprop(((landed c ℓ s ∗ slotAt c ℓ (sl (s + 1)) (A ℓ s (fro ℓ c)) ∗ owing c O) -∗ WP c k Q)
        -∗ WP c (waitS (lane ℓ) s (waitR (lane ℓ) s k)) Q) := by
  have h2 : (s + 1 + 1) / 2 = s / 2 + 1 := by omega
  unfold flying landed pos at_
  rw [sl_two, h2]
  iintro ⟨#Hctx, ⟨Hcs, Hcr, ⟨⟨Hp1, -⟩, Hp2, ⟨Hp3, -⟩, Hp4, Hp5⟩, HM, HT⟩, HO⟩ Hk
  iapply (wp_waitS A κ c ℓ s hs (Above.mono (Nat.zero_le _) hO)) $$ [Hcs HO Hp1]
  · isplitr; · iexact Hctx
    isplitl [Hcs]; · iexact Hcs
    isplitl [HO]; · iexact HO
    iexact Hp1
  iintro ⟨HO, Hp1, #Hr1, Hs⟩
  iapply (wp_waitR A κ c ℓ s hs hO) $$ [Hcr HO Hp3]
  · isplitr; · iexact Hctx
    isplitl [Hcr]; · iexact Hcr
    isplitl [HO]; · iexact HO
    iexact Hp3
  iintro ⟨HO, Hp3, #Hr3, Hs', #Hrc⟩
  iapply Hk
  isplitr [Hs' HO]
  · isplitl [Hs]; · unfold slotAny; iexists _; iexact Hs
    isplitr; · iexact Hrc
    isplitr [HM HT]
    · isplitl [Hp2]; · iexact Hp2
      isplitl [Hp1]
      · isplitl [Hp1]; · iexact Hp1
        iexact Hr1
      isplitl [Hp4]; · iexact Hp4
      isplitl [Hp3]
      · isplitl [Hp3]; · iexact Hp3
        iexact Hr3
      iexact Hp5
    isplitl [HM]; · iexact HM
    iexact HT
  isplitl [Hs']; · iexact Hs'
  iexact HO

/-- From `landed` to `turning`. -/
theorem lane_sig {Q : PUnit → sProp 𝕄} {dev : Dev nD} (hs : s + 1 < T ℓ) (hdev : dev = fro ℓ c) :
    iprop(ctx A κ ∗ landed c ℓ s ∗ owing c (O + tallyAt (cell (fro ℓ c) (.cred ℓ)) (ixCred ℓ (s + 1)) 1))
      ⊢ iprop(((turning c ℓ s ∗ owing c O) -∗ WP c k Q) -∗ WP c (sig1 dev (lane ℓ).cr.sem k) Q) := by
  unfold landed turning pos at_
  rw [TR_step c ℓ hs]; unfold turnRes
  rw [sl_two]
  iintro ⟨#Hctx, ⟨Hs, #Hrc, ⟨Hp1, Hp2, ⟨Hp3, #Hr3⟩, Hp4, Hp5⟩, HM, ⟨⟨Hcr, Ht⟩, HT⟩⟩, HO⟩ Hk
  iapply (wp_sigCred A κ c ℓ s hs hdev) $$ [Hs HO Ht]
  · isplitr; · iexact Hctx
    isplitl [Hs]; · iexact Hs
    isplitr; · iexact Hr3
    isplitr; · iexact Hrc
    isplitl [Ht]; · iexact Ht
    iexact HO
  iintro HO
  iapply Hk
  isplitr [HO]
  · isplitl [Hcr]; · iexact Hcr
    isplitr [HM HT]
    · isplitl [Hp1]; · iexact Hp1
      isplitl [Hp2]; · iexact Hp2
      isplitl [Hp3]
      · isplitl [Hp3]; · iexact Hp3
        iexact Hr3
      isplitl [Hp4]; · iexact Hp4
      iexact Hp5
    isplitl [HM]; · iexact HM
    iexact HT
  iexact HO

/-- From `turning` to the next step's `ready`, given the slot to send. -/
theorem lane_turn {Q : PUnit → sProp 𝕄} (hs : s + 1 < T ℓ) (hO : Above (ixCred ℓ (s + 1)) O) :
    iprop(ctx A κ ∗ turning c ℓ s ∗ slotAt c ℓ (sl (s + 1)) (A ℓ (s + 1) c) ∗ owing c O)
      ⊢ iprop(((ready A c ℓ (s + 1) ∗ owing c O) -∗ WP c k Q) -∗ WP c (waitN (lane ℓ).cr.sem 1#32 k) Q) := by
  unfold turning ready pos at_
  rw [sl_two]
  iintro ⟨#Hctx, ⟨Hcr, ⟨Hp1, Hp2, Hp3, Hp4, ⟨Hp5, -⟩⟩, HM, HT⟩, Hs, HO⟩ Hk
  iapply (wp_waitCred A κ c ℓ s hs hO) $$ [Hcr HO Hp5]
  · isplitr; · iexact Hctx
    isplitl [Hcr]; · iexact Hcr
    isplitl [HO]; · iexact HO
    iexact Hp5
  iintro ⟨HO, Hp5, #Hr5, Hd, #Hrd⟩
  iapply Hk
  isplitr [HO]
  · isplitl [Hs]; · iexact Hs
    isplitl [Hd]; · iexact Hd
    isplitr; · iexact Hrd
    isplitr [HM HT]
    · isplitl [Hp1]; · iexact Hp1
      isplitl [Hp2]; · iexact Hp2
      isplitl [Hp3]; · iexact Hp3
      isplitl [Hp4]; · iexact Hp4
      isplitl [Hp5]; · iexact Hp5
      iexact Hr5
    isplitl [HM]; · iexact HM
    iexact HT
  iexact HO

end Cert.KernelIdeal.Ring
-- ==== Proof.PairOps.lean ====
/- The two lanes of a ring in step: both transfers, and both credits; and the order of what is owed. -/
module

public import proofs.«01_k».proof.Proof.RingOps

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- What device `c` owes on ring `q` of the credits after step `a` on and the transfers from step `b` on, beside `R`. -/
def owed (q : Bool) (c : Dev nD) (R : CellTallies nD τ sig ℕ) (a b : ℕ) : CellTallies nD τ sig ℕ :=
  R + (owCred (q, false) c a + owCred (q, true) c a) + (owSend (q, false) c b + owSend (q, true) c b)

theorem above_owed (q : Bool) (c : Dev nD) {R : CellTallies nD τ sig ℕ} {a b n : ℕ} (hR : Above (base q + 200) R)
    (hn : n ≤ base q + 200) (ha : n < base q + 4 * (a + 1) + 1) (hb : n < base q + 4 * b + 3) : Above n (owed q c R a b) := by
  refine ((hR.mono hn).add (Above.add ?_ ?_)).add (Above.add ?_ ?_)
  · exact above_owCred _ _ _ _ (by unfold ixCred; simp only; omega)
  · exact above_owCred _ _ _ _ (by unfold ixCred; simp only; omega)
  · exact above_owSend _ _ _ _ (by unfold ixRecv; simp only; omega)
  · exact above_owSend _ _ _ _ (by unfold ixRecv; simp only; omega)

theorem ixRecv_le (ℓ : Ln) (s : ℕ) : ixRecv ℓ s ≤ base ℓ.1 + 4 * s + 4 := by
  unfold ixRecv; have := Bool.toNat_le ℓ.2; omega
theorem ixCred_le (ℓ : Ln) (s : ℕ) : ixCred ℓ s ≤ base ℓ.1 + 4 * s + 2 := by
  unfold ixCred; have := Bool.toNat_le ℓ.2; omega

-- What device `c` sends on a lane at a step.
variable (A : Ln → ℕ → Dev nD → Vec F S1x1024x128 .f32)
variable (κ : GSem nD τ sig → ℕ) (c : Dev nD)
variable {k : KP F} {s : ℕ}

/-- Both transfers of step `s`. -/
theorem pair_send {Q : PUnit → sProp 𝕄} (q : Bool) {R : CellTallies nD τ sig ℕ} {dA dB : Dev nD}
    (hA : s < T (q, false)) (hB : s < T (q, true)) (hdA : dA = tgt (q, false) c) (hdB : dB = tgt (q, true) c) :
    iprop(ctx A κ ∗ ready A c (q, false) s ∗ ready A c (q, true) s ∗ owing c (owed q c R s s))
      ⊢ iprop(((flying c (q, false) s ∗ flying c (q, true) s ∗ owing c (owed q c R s (s + 1))) -∗ WP c k Q)
        -∗ WP c (sendOp (lane (q, false)) s dA (sendOp (lane (q, true)) s dB k)) Q) := by
  have e : owed q c R s s = owed q c R s (s + 1)
      + tallyAt (cell (tgt (q, true) c) (.recv (q, true) (sl (s + 1)))) (ixRecv (q, true) s) N
      + tallyAt (cell (tgt (q, false) c) (.recv (q, false) (sl (s + 1)))) (ixRecv (q, false) s) N := by
    unfold owed; rw [owSend_step c hA, owSend_step c hB]; ac_rfl
  rw [e]
  iintro ⟨#Hctx, H1, H2, HO⟩ Hk
  iapply (lane_send A κ c (q, false) hA hdA) $$ [H1 HO]
  · isplitr; · iexact Hctx
    isplitl [H1]; · iexact H1
    iexact HO
  iintro ⟨H1, HO⟩
  iapply (lane_send A κ c (q, true) hB hdB) $$ [H2 HO]
  · isplitr; · iexact Hctx
    isplitl [H2]; · iexact H2
    iexact HO
  iintro ⟨H2, HO⟩
  iapply Hk
  isplitl [H1]; · iexact H1
  isplitl [H2]; · iexact H2
  iexact HO

/-- Both lanes' credits after step `s`. -/
theorem pair_turn {Q : PUnit → sProp 𝕄} (q : Bool) {R : CellTallies nD τ sig ℕ} (hR : Above (base q + 200) R) {dA dB : Dev nD}
    (hA : s + 1 < T (q, false)) (hB : s + 1 < T (q, true)) (hdA : dA = fro (q, false) c) (hdB : dB = fro (q, true) c) :
    iprop(ctx A κ ∗ landed c (q, false) s ∗ landed c (q, true) s ∗ slotAt c (q, false) (sl (s + 1)) (A (q, false) (s + 1) c)
        ∗ slotAt c (q, true) (sl (s + 1)) (A (q, true) (s + 1) c) ∗ owing c (owed q c R s (s + 1)))
      ⊢ iprop(((ready A c (q, false) (s + 1) ∗ ready A c (q, true) (s + 1) ∗ owing c (owed q c R (s + 1) (s + 1))) -∗ WP c k Q)
        -∗ WP c (sig1 dA (lane (q, false)).cr.sem (sig1 dB (lane (q, true)).cr.sem (credits (lane (q, false)) (lane (q, true)) k))) Q) := by
  have e : owed q c R s (s + 1) = owed q c R (s + 1) (s + 1)
      + tallyAt (cell (fro (q, true) c) (.cred (q, true))) (ixCred (q, true) (s + 1)) 1
      + tallyAt (cell (fro (q, false) c) (.cred (q, false))) (ixCred (q, false) (s + 1)) 1 := by
    unfold owed; rw [owCred_step c hA, owCred_step c hB]; ac_rfl
  have hT := T_le (q, false)
  have hle (d : Bool) : Above (ixCred (q, d) (s + 1)) (owed q c R (s + 1) (s + 1)) := by
    have h := ixCred_le (q, d) (s + 1)
    simp only at h
    exact above_owed q c hR (by omega) (by omega) (by omega)
  rw [e]
  unfold credits
  iintro ⟨#Hctx, H1, H2, Hs1, Hs2, HO⟩ Hk
  iapply (lane_sig A κ c (q, false) hA hdA) $$ [H1 HO]
  · isplitr; · iexact Hctx
    isplitl [H1]; · iexact H1
    iexact HO
  iintro ⟨H1, HO⟩
  iapply (lane_sig A κ c (q, true) hB hdB) $$ [H2 HO]
  · isplitr; · iexact Hctx
    isplitl [H2]; · iexact H2
    iexact HO
  iintro ⟨H2, HO⟩
  iapply (lane_turn A κ c (q, false) hA (hle false)) $$ [H1 Hs1 HO]
  · isplitr; · iexact Hctx
    isplitl [H1]; · iexact H1
    isplitl [Hs1]; · iexact Hs1
    iexact HO
  iintro ⟨H1, HO⟩
  iapply (lane_turn A κ c (q, true) hB (hle true)) $$ [H2 Hs2 HO]
  · isplitr; · iexact Hctx
    isplitl [H2]; · iexact H2
    isplitl [Hs2]; · iexact Hs2
    iexact HO
  iintro ⟨H2, HO⟩
  iapply Hk
  isplitl [H1]; · iexact H1
  isplitl [H2]; · iexact H2
  iexact HO

/-- The barrier: before it, the slots both neighbours' first transfers fill here; after it, those that the own first
    transfers fill there. -/
theorem pair_barrier {Q : PUnit → sProp 𝕄} (q : Bool) {R : CellTallies nD τ sig ℕ} (hR : Above (base q + 200) R) {dA dB : Dev nD}
    (hdA : dA = fro (q, false) c) (hdB : dB = fro (q, true) c) :
    iprop(ctx A κ ∗ (slotAny (F := F) c (q, false) 1 ∗ slotAny (F := F) c (q, true) 1)
        ∗ (reached ER (cell c (.recv (q, false) 1)) 0 ∗ reached ER (cell c (.recv (q, true) 1)) 0)
        ∗ (reached ER (cell (fro (q, false) c) (.bar q)) 0 ∗ reached ER (cell (fro (q, true) c) (.bar q)) 0)
        ∗ (dutyTok ER (cell (fro (q, false) c) (.bar q)) 0 false ∗ dutyTok ER (cell (fro (q, true) c) (.bar q)) 0 true)
        ∗ cred (tallyAt (cell c (.bar q)) (ixBar q) 2) ∗ atPos ER (cell c (.bar q)) 0 ∅ 0
        ∗ owing c (owed q c R 0 0 + tallyAt (cell (fro (q, true) c) (.bar q)) (ixBar q) 1
            + tallyAt (cell (fro (q, false) c) (.bar q)) (ixBar q) 1))
      ⊢ iprop(((owing c (owed q c R 0 0) ∗ atPos ER (cell c (.bar q)) 1 ∅ 0
            ∗ (slotAny (F := F) (tgt (q, false) c) (q, false) 1 ∗ reached ER (cell (tgt (q, false) c) (.recv (q, false) 1)) 0)
            ∗ (slotAny (F := F) (tgt (q, true) c) (q, true) 1 ∗ reached ER (cell (tgt (q, true) c) (.recv (q, true) 1)) 0)) -∗ WP c k Q)
        -∗ WP c (barrier (barSem q) dA dB k) Q) := by
  unfold barrier
  iintro ⟨#Hctx, ⟨Hs1, Hs2⟩, ⟨#Hr1, #Hr2⟩, ⟨#Hb1, #Hb2⟩, ⟨Ht1, Ht2⟩, Hc, Hp, HO⟩ Hk
  iapply (wp_sigBar A κ c (q, false) hdA) $$ [Hs1 Ht1 HO]
  · isplitr; · iexact Hctx
    isplitl [Hs1]; · iexact Hs1
    isplitr; · iexact Hr1
    isplitr; · iexact Hb1
    isplitl [Ht1]; · iexact Ht1
    iexact HO
  iintro HO
  iapply (wp_sigBar A κ c (q, true) hdB) $$ [Hs2 Ht2 HO]
  · isplitr; · iexact Hctx
    isplitl [Hs2]; · iexact Hs2
    isplitr; · iexact Hr2
    isplitr; · iexact Hb2
    isplitl [Ht2]; · iexact Ht2
    iexact HO
  iintro HO
  iapply (wp_waitBar A κ c q (above_owed q c hR (by unfold ixBar; omega) (by unfold ixBar; omega) (by unfold ixBar; omega))) $$ [Hc HO Hp]
  · isplitr; · iexact Hctx
    isplitl [Hc]; · iexact Hc
    isplitl [HO]; · iexact HO
    iexact Hp
  iexact Hk

/-- Once a transfer's wait is over, whatever else the ring owes lies above. -/
theorem above_land (q d : Bool) {R : CellTallies nD τ sig ℕ} (hR : Above (base q + 200) R) (hs : s < 31) :
    Above (ixRecv (q, d) s) (owed q c R s (s + 1)) := by
  have h := ixRecv_le (q, d) s
  simp only at h
  exact above_owed q c hR (by omega) (by omega) (by omega)

/-- A lane's state before its first transfer. -/
theorem ready_zero (ℓ : Ln) :
    iprop(slotAt c ℓ 0 (A ℓ 0 c) ∗ slotAny (F := F) (tgt ℓ c) ℓ 1 ∗ reached ER (cell (tgt ℓ c) (.recv ℓ 1)) 0
      ∗ pos c ℓ 0 0 ∗ MR c ℓ 0 ∗ TR c ℓ 0) = ready A c ℓ 0 := rfl

end Cert.KernelIdeal.Ring
-- ==== Proof.RsRun.lean ====
/- The reduce-scatter on device `c`, from its barrier to its result: what each lane sends at each step, one
   step, and all of them. -/
module

public import proofs.«01_k».proof.Proof.PairOps

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What the lanes send -/

/-- A row of the partial products. -/
abbrev kvRow (X : Vec F S32x2x1024x128 .f32) (off : Fin 4 → ℕ) (hoff : ∀ a, off a + S1x1x1024x128.size a ≤ S32x2x1024x128.size a) :
    Vec F S1x1x1024x128 .f32 := View.ld X (Rect.unit (s := S32x2x1024x128) off S1x1x1024x128.size hoff)

omit [FloatOps F] in
theorem kvRow_congr (X : Vec F S32x2x1024x128 .f32) {off off' : Fin 4 → ℕ} (h : off = off')
    (hoff : ∀ a, off a + S1x1x1024x128.size a ≤ S32x2x1024x128.size a) (hoff' : ∀ a, off' a + S1x1x1024x128.size a ≤ S32x2x1024x128.size a) :
    kvRow X off hoff = kvRow X off' hoff' := by subst h; rfl

theorem rowInb : ∀ (j : Dev nD) (d : Bool), ∀ a, (![j.val, d.toNat, 0, 0] : Fin 4 → ℕ) a + S1x1x1024x128.size a ≤ S32x2x1024x128.size a := by
  decide

/-- The row of head `j`, of the keys or of the values. -/
abbrev rowOf (X : Vec F S32x2x1024x128 .f32) (j : Dev nD) (d : Bool) : Vec F S1x1x1024x128 .f32 :=
  kvRow X ![j.val, d.toNat, 0, 0] (rowInb j d)

set_option backward.proofsInPublic true in
/-- The row added at step `s`. -/
def rowIx (d : Bool) (s : ℕ) (c : Dev nD) : Dev nD :=
  if d then ⟨(c.val + s + 2) % 32, Nat.mod_lt _ (by decide)⟩ else ⟨(c.val + 62 - s) % 32, Nat.mod_lt _ (by decide)⟩

/-- What device `c` sends at step `s` of the reduce-scatter (and, past the last step, its result): its own row first,
    then what it received plus its own row. -/
def rsA (kv : Dev nD → Vec F S32x2x1024x128 .f32) (d : Bool) : ℕ → Dev nD → Vec F S1x1024x128 .f32
  | 0 => fun c => firstRow (rowOf (kv c) (fro (false, d) c) d)
  | s + 1 => fun c => addRow (rsA kv d s (fro (false, d) c)) (rowOf (kv c) (rowIx d s c) d)

/-- What device `c` sends at step `s` of the all-gather: its own block first, then what it received. -/
def agA (x : Dev nD → Vec F S1024x128 .f32) (d : Bool) : ℕ → Dev nD → Vec F S1x1024x128 .f32
  | 0 => fun c => rowX (x c)
  | s + 1 => fun c => agA x d s (fro (true, d) c)

/-- What device `c` sends on a lane at a step. -/
def cont (kv : Dev nD → Vec F S32x2x1024x128 .f32) (x : Dev nD → Vec F S1024x128 .f32) : Ln → ℕ → Dev nD → Vec F S1x1024x128 .f32
  | (false, d) => rsA kv d
  | (true, d) => agA x d

variable (kv : Dev nD → Vec F S32x2x1024x128 .f32) (x : Dev nD → Vec F S1024x128 .f32)
variable (κ : GSem nD τ sig → ℕ) (c : Dev nD)

theorem off_first (d : Bool) : (![if d then (c.val + 1) % 32 else (c.val + 31) % 32, if d then 1 else 0, 0, 0] : Fin 4 → ℕ)
    = ![(fro (false, d) c).val, d.toNat, 0, 0] := by cases d <;> rfl

theorem rsA_zero (d : Bool) : rsA kv d 0 c = firstRow (rowOf (kv c) (fro (false, d) c) d) := by rw [rsA]

theorem first_K : firstRow (kvRow (kv c) (k0_off1 c) (k0_off1_inb c)) = cont kv x (false, false) 0 c := by
  rw [cont, rsA_zero]
  exact congrArg firstRow (kvRow_congr (kv c) ((k0_off1_eq c).trans (off_first c false)) _ _)
theorem first_V : firstRow (kvRow (kv c) (k0_off2 c) (k0_off2_inb c)) = cont kv x (false, true) 0 c := by
  rw [cont, rsA_zero]
  exact congrArg firstRow (kvRow_congr (kv c) ((k0_off2_eq c).trans (off_first c true)) _ _)
theorem add_K (s : Fin 31) : addRow (cont kv x (false, false) s.val (fro (false, false) c))
    (kvRow (kv c) (k0_off3 c (BitVec.ofNat 32 s.val)) (k0_off3_inb c s)) = cont kv x (false, false) (s.val + 1) c :=
  congrArg (addRow _) (kvRow_congr (kv c) (k0_off3_eq c s) _ _)
theorem add_V (s : Fin 31) : addRow (cont kv x (false, true) s.val (fro (false, true) c))
    (kvRow (kv c) (k0_off4 c (BitVec.ofNat 32 s.val)) (k0_off4_inb c s)) = cont kv x (false, true) (s.val + 1) c :=
  congrArg (addRow _) (kvRow_congr (kv c) (k0_off4_eq c s) _ _)

/-! ## One step -/

variable {k : KP F}

/-- The first row placed. -/
theorem wp_firstOp {Q : PUnit → sProp 𝕄} (ℓ : Ln) (m : Memref sig .tc .vmem S32x2x1024x128 .f32) (X : Vec F S32x2x1024x128 .f32)
    (off : Fin 4 → ℕ) (hoff : ∀ a, off a + S1x1x1024x128.size a ≤ S32x2x1024x128.size a) :
    iprop(owns (c : Thread nD τ) m fullShare X ∗ slotAny (F := F) c ℓ 0)
      ⊢ iprop(((owns (c : Thread nD τ) m fullShare X ∗ slotAt c ℓ 0 (firstRow (kvRow X off hoff))) -∗ WP c k Q)
        -∗ WP c (firstOp m (lane ℓ) off hoff k) Q) := by
  unfold firstOp loadKv
  iintro ⟨Hm, Hs⟩ Hk
  iapply (wp_load_owns c m _ fullShare X) $$ Hm
  iintro Hm
  iapply (wp_storeSlot c ℓ (0 : Fin 2) (firstRow (kvRow X off hoff))) $$ Hs
  iintro Hs
  iapply Hk
  isplitl [Hm]; · iexact Hm
  iexact Hs

/-- The addition of a step, left in the lane's slot. -/
theorem wp_addOp {Q : PUnit → sProp 𝕄} (ℓ : Ln) (s : ℕ) (m : Memref sig .tc .vmem S32x2x1024x128 .f32) (X : Vec F S32x2x1024x128 .f32)
    (off : Fin 4 → ℕ) (hoff : ∀ a, off a + S1x1x1024x128.size a ≤ S32x2x1024x128.size a) (v : Vec F S1x1024x128 .f32) :
    iprop(owns (c : Thread nD τ) m fullShare X ∗ slotAt c ℓ (sl (s + 1)) v)
      ⊢ iprop(((owns (c : Thread nD τ) m fullShare X ∗ slotAt c ℓ (sl (s + 1)) (addRow v (kvRow X off hoff))) -∗ WP c k Q)
        -∗ WP c (addOp m (lane ℓ) s off hoff (lane ℓ).comm ((s + 1) % 2) (par (s + 1)) k) Q) := by
  unfold addOp loadKv
  iintro ⟨Hm, Hs⟩ Hk
  iapply (wp_loadSlot c ℓ (sl (s + 1)) v) $$ Hs
  iintro Hs
  iapply (wp_load_owns c m _ fullShare X) $$ Hm
  iintro Hm
  iapply (wp_storeSlot c ℓ (sl (s + 1)) (addRow v (kvRow X off hoff))) $$ [Hs]
  · unfold slotAny; iexists v; iexact Hs
  iintro Hs
  iapply Hk
  isplitl [Hm]; · iexact Hm
  iexact Hs

/-- The last addition, left in the result. -/
theorem wp_addOut {Q : PUnit → sProp 𝕄} (ℓ : Ln) (s : ℕ) (m : Memref sig .tc .vmem S32x2x1024x128 .f32) (X : Vec F S32x2x1024x128 .f32)
    (off : Fin 4 → ℕ) (hoff : ∀ a, off a + S1x1x1024x128.size a ≤ S32x2x1024x128.size a) (v : Vec F S1x1024x128 .f32)
    (out : Memref sig .tc .vmem S2x1024x128 .f32) (Y : Vec F S2x1024x128 .f32) (b : ℕ) (hb : b < 2) :
    iprop(owns (c : Thread nD τ) m fullShare X ∗ slotAt c ℓ (sl (s + 1)) v ∗ owns (c : Thread nD τ) out fullShare Y)
      ⊢ iprop(((owns (c : Thread nD τ) m fullShare X ∗ slotAt c ℓ (sl (s + 1)) v
          ∗ owns (c : Thread nD τ) out fullShare (VecWindow.put Y ![b, 0, 0] S1x1024x128.size (addRow v (kvRow X off hoff)))) -∗ WP c k Q)
        -∗ WP c (addOp m (lane ℓ) s off hoff out b hb k) Q) := by
  unfold addOp loadKv storeSlot
  iintro ⟨Hm, Hs, Ho⟩ Hk
  iapply (wp_loadSlot c ℓ (sl (s + 1)) v) $$ Hs
  iintro Hs
  iapply (wp_load_owns c m _ fullShare X) $$ Hm
  iintro Hm
  iapply (wp_load_owns c out _ fullShare Y) $$ Ho
  iintro Ho
  iapply (wp_store_owns c out ![b, 0, 0] S1x1024x128.size (slotInb b hb) (addRow v (kvRow X off hoff)) Y) $$ Ho
  iintro Ho
  iapply Hk
  isplitl [Hm]; · iexact Hm
  isplitl [Hs]; · iexact Hs
  iexact Ho

/-- Before step `s` of the reduce-scatter, owing `R` beside it. -/
def rsInv (m : Memref sig .tc .vmem S32x2x1024x128 .f32) (R : CellTallies nD τ sig ℕ) (s : ℕ) : sProp 𝕄 :=
  iprop(ctx (cont kv x) κ ∗ owns (c : Thread nD τ) m fullShare (kv c) ∗ ready (cont kv x) c (false, false) s ∗ ready (cont kv x) c (false, true) s
    ∗ owing c (owed false c R s s))

/-- A step before the last. -/
theorem rs_step {Q : PUnit → sProp 𝕄} (m : Memref sig .tc .vmem S32x2x1024x128 .f32) {R : CellTallies nD τ sig ℕ} (hR : Above 200 R)
    (s : Fin 31) (n : ℕ) (hn : s.val = n) (hs : n + 1 < 31) {dA dB cA cB : ℕ} {lA : dA < nD} {lB : dB < nD} {mA : cA < nD} {mB : cB < nD}
    (eA : dA = (c.val + 1) % 32) (eB : dB = (c.val + 31) % 32) (fA : cA = (c.val + 31) % 32) (fB : cB = (c.val + 1) % 32) :
    rsInv kv x κ c m R n
      ⊢ iprop((rsInv kv x κ c m R (n + 1) -∗ WP c k Q)
        -∗ WP c (rsStep m (lane (false, false)) (lane (false, true)) c s ⟨dA, lA⟩ ⟨dB, lB⟩ ⟨cA, mA⟩ ⟨cB, mB⟩ k) Q) := by
  subst hn
  have hdA : (⟨dA, lA⟩ : Dev nD) = nxt c := Fin.ext eA
  have hdB : (⟨dB, lB⟩ : Dev nD) = prv c := Fin.ext eB
  have hcA : (⟨cA, mA⟩ : Dev nD) = prv c := Fin.ext fA
  have hcB : (⟨cB, mB⟩ : Dev nD) = nxt c := Fin.ext fB
  unfold rsInv rsStep rsMove
  iintro ⟨#Hctx, Hm, H1, H2, HO⟩ Hk
  iapply (pair_send (cont kv x) κ c false (R := R) s.isLt s.isLt hdA hdB) $$ [H1 H2 HO]
  · isplitr; · iexact Hctx
    isplitl [H1]; · iexact H1
    isplitl [H2]; · iexact H2
    iexact HO
  iintro ⟨H1, H2, HO⟩
  iapply (lane_land (cont kv x) κ c (false, false) s.isLt (above_land c false false hR s.isLt)) $$ [H1 HO]
  · isplitr; · iexact Hctx
    isplitl [H1]; · iexact H1
    iexact HO
  iintro ⟨H1, Hs1, HO⟩
  iapply (wp_addOp c (false, false) s.val m (kv c)) $$ [Hm Hs1]
  · isplitl [Hm]; · iexact Hm
    iexact Hs1
  iintro ⟨Hm, Hs1⟩
  rw [add_K kv x c s]
  iapply (lane_land (cont kv x) κ c (false, true) s.isLt (above_land c false true hR s.isLt)) $$ [H2 HO]
  · isplitr; · iexact Hctx
    isplitl [H2]; · iexact H2
    iexact HO
  iintro ⟨H2, Hs2, HO⟩
  iapply (wp_addOp c (false, true) s.val m (kv c)) $$ [Hm Hs2]
  · isplitl [Hm]; · iexact Hm
    iexact Hs2
  iintro ⟨Hm, Hs2⟩
  rw [add_V kv x c s]
  iapply (pair_turn (cont kv x) κ c false hR hs hs hcA hcB) $$ [H1 H2 Hs1 Hs2 HO]
  · isplitr; · iexact Hctx
    isplitl [H1]; · iexact H1
    isplitl [H2]; · iexact H2
    isplitl [Hs1]; · iexact Hs1
    isplitl [Hs2]; · iexact Hs2
    iexact HO
  iintro ⟨H1, H2, HO⟩
  iapply Hk
  isplitr; · iexact Hctx
  isplitl [Hm]; · iexact Hm
  isplitl [H1]; · iexact H1
  isplitl [H2]; · iexact H2
  iexact HO

/-- What a lane ends with: both slots, and the positions past its last round. -/
def done (ℓ : Ln) : sProp 𝕄 := iprop((slotAny (F := F) c ℓ 0 ∗ slotAny (F := F) c ℓ 1) ∗ pos (F := F) c ℓ (T ℓ) (T ℓ - 1))

theorem done_intro (ℓ : Ln) {s : ℕ} (hs : s + 1 = T ℓ) (X : Vec F S1x1024x128 .f32) :
    iprop(landed c ℓ s ∗ slotAt c ℓ (sl (s + 1)) X) ⊢ done (F := F) c ℓ := by
  unfold landed done
  rw [← hs, Nat.add_sub_cancel]
  iintro ⟨⟨H1, -, Hp, -, -⟩, H2⟩
  isplitr [Hp]
  · rcases Nat.mod_two_eq_zero_or_one s with h | h
    · rw [show sl s = 0 from Fin.ext h, show sl (s + 1) = 1 from Fin.ext (by show (s + 1) % 2 = 1; omega)]
      isplitl [H1]; · iexact H1
      unfold slotAny; iexists X; iexact H2
    · rw [show sl s = 1 from Fin.ext h, show sl (s + 1) = 0 from Fin.ext (by show (s + 1) % 2 = 0; omega)]
      isplitl [H2]
      · unfold slotAny; iexists X; iexact H2
      iexact H1
  iexact Hp

theorem owed_done (q : Bool) (R : CellTallies nD τ sig ℕ) {a b : ℕ} (ha : T (q, false) - 1 ≤ a) (ha' : T (q, true) - 1 ≤ a)
    (hb : T (q, false) ≤ b) (hb' : T (q, true) ≤ b) : owed q c R a b = R := by
  unfold owed owCred owSend
  simp only [Finset.Ico_eq_empty_of_le ha, Finset.Ico_eq_empty_of_le ha', Finset.Ico_eq_empty_of_le hb, Finset.Ico_eq_empty_of_le hb',
    Finset.sum_empty, add_zero]

/-- The place of an entry in its row of the result. -/
def inBlk (y : S2x1024x128.Idx) : S1x1024x128.Idx
  | 0 => (⟨0, by decide⟩ : Fin 1)
  | 1 => y 1
  | 2 => y 2

/-- The reduce-scatter's result on device `c`. -/
def rsOut : Vec F S2x1024x128 .f32 :=
  fun y => if (y 0).val = 0 then rsA kv false 31 c (inBlk y) else rsA kv true 31 c (inBlk y)

theorem rsOut_eq (Y : Vec F S2x1024x128 .f32) :
    VecWindow.put (VecWindow.put Y ![0, 0, 0] S1x1024x128.size (cont kv x (false, false) 31 c)) ![1, 0, 0] S1x1024x128.size (cont kv x (false, true) 31 c)
      = rsOut kv c := by
  funext y
  have h0 : (y 0).val < 2 := (y 0).isLt
  have h1 : (y 1).val < 1024 := (y 1).isLt
  have h2 : (y 2).val < 128 := (y 2).isLt
  unfold rsOut VecWindow.put
  by_cases h : (y 0).val = 0
  · rw [dif_neg (fun hh => by have := (hh 0).1; change 1 ≤ (y 0).val at this; omega), dif_pos (fun a => by
      fin_cases a
      · exact ⟨Nat.zero_le _, by show (y 0).val < 0 + 1; omega⟩
      · exact ⟨Nat.zero_le _, by show (y 1).val < 0 + 1024; omega⟩
      · exact ⟨Nat.zero_le _, by show (y 2).val < 0 + 128; omega⟩), if_pos h]
    refine congrArg (rsA kv false 31 c) (funext fun a => Fin.ext ?_)
    fin_cases a
    · show (y 0).val - 0 = 0; omega
    · rfl
    · rfl
  · rw [dif_pos (fun a => by
      fin_cases a
      · exact ⟨by show 1 ≤ (y 0).val; omega, by show (y 0).val < 1 + 1; omega⟩
      · exact ⟨Nat.zero_le _, by show (y 1).val < 0 + 1024; omega⟩
      · exact ⟨Nat.zero_le _, by show (y 2).val < 0 + 128; omega⟩), if_neg h]
    refine congrArg (rsA kv true 31 c) (funext fun a => Fin.ext ?_)
    fin_cases a
    · show (y 0).val - 1 = 0; omega
    · rfl
    · rfl

/-- What device `c` enters a ring with, beside the shared facts and the windows' buffers: every slot, every position at
    its start, what its transfers and credits take, and its part in the barrier. -/
def entry (q : Bool) (R : CellTallies nD τ sig ℕ) : sProp 𝕄 :=
  iprop(((slotAny (F := F) c (q, false) 0 ∗ slotAny (F := F) c (q, false) 1) ∗ (slotAny (F := F) c (q, true) 0 ∗ slotAny (F := F) c (q, true) 1))
    ∗ (pos (F := F) c (q, false) 0 0 ∗ pos (F := F) c (q, true) 0 0)
    ∗ ((MR (F := F) c (q, false) 0 ∗ TR (F := F) c (q, false) 0) ∗ (MR (F := F) c (q, true) 0 ∗ TR (F := F) c (q, true) 0))
    ∗ (reached ER (cell (fro (q, false) c) (.bar q)) 0 ∗ reached ER (cell (fro (q, true) c) (.bar q)) 0)
    ∗ (dutyTok ER (cell (fro (q, false) c) (.bar q)) 0 false ∗ dutyTok ER (cell (fro (q, true) c) (.bar q)) 0 true)
    ∗ cred (tallyAt (cell c (.bar q)) (ixBar q) 2) ∗ atPos ER (cell c (.bar q)) 0 ∅ 0
    ∗ owing c (owed q c R 0 0 + tallyAt (cell (fro (q, true) c) (.bar q)) (ixBar q) 1
        + tallyAt (cell (fro (q, false) c) (.bar q)) (ixBar q) 1))

/-- What device `c` leaves a ring with, beside the windows' buffers. -/
def leave (q : Bool) (R : CellTallies nD τ sig ℕ) : sProp 𝕄 :=
  iprop(done (F := F) c (q, false) ∗ done (F := F) c (q, true) ∗ atPos ER (cell c (.bar q)) 1 ∅ 0 ∗ owing c R)

/-- The barrier, from what device `c` enters with: the first slots are free to be filled. -/
theorem enter {Q : PUnit → sProp 𝕄} (A : Ln → ℕ → Dev nD → Vec F S1x1024x128 .f32) (q : Bool) {R : CellTallies nD τ sig ℕ}
    (hR : Above (base q + 200) R) {dA dB : Dev nD} (hdA : dA = fro (q, false) c) (hdB : dB = fro (q, true) c) :
    iprop(ctx A κ ∗ entry (F := F) c q R)
      ⊢ iprop(((slotAny (F := F) c (q, false) 0 ∗ slotAny (F := F) c (q, true) 0
          ∗ (slotAt c (q, false) 0 (A (q, false) 0 c) -∗ ready A c (q, false) 0)
          ∗ (slotAt c (q, true) 0 (A (q, true) 0 c) -∗ ready A c (q, true) 0)
          ∗ atPos ER (cell c (.bar q)) 1 ∅ 0 ∗ owing c (owed q c R 0 0)) -∗ WP c k Q)
        -∗ WP c (barrier (barSem q) dA dB k) Q) := by
  unfold entry
  iintro ⟨#Hctx, ⟨⟨Ha0, Ha1⟩, ⟨Hb0, Hb1⟩⟩, ⟨Hpa, Hpb⟩, ⟨⟨Hma, Hta⟩, ⟨Hmb, Htb⟩⟩, #Hrb, Htok, Hc, Hp, HO⟩ Hk
  unfold pos at_
  icases Hpa with ⟨Hpa1, Hpa2, ⟨Hpa3, #Hra⟩, Hpa4, Hpa5⟩
  icases Hpb with ⟨Hpb1, Hpb2, ⟨Hpb3, #Hrb'⟩, Hpb4, Hpb5⟩
  iapply (pair_barrier A κ c q hR hdA hdB) $$ [Ha1 Hb1 Htok Hc Hp HO]
  · isplitr; · iexact Hctx
    isplitl [Ha1 Hb1]
    · isplitl [Ha1]; · iexact Ha1
      iexact Hb1
    isplitr
    · isplitr; · iexact Hra
      iexact Hrb'
    isplitr; · iexact Hrb
    isplitl [Htok]; · iexact Htok
    isplitl [Hc]; · iexact Hc
    isplitl [Hp]; · iexact Hp
    iexact HO
  iintro ⟨HO, Hp, ⟨Hda, #Hrda⟩, ⟨Hdb, #Hrdb⟩⟩
  iapply Hk
  isplitl [Ha0]; · iexact Ha0
  isplitl [Hb0]; · iexact Hb0
  isplitl [Hpa1 Hpa2 Hpa3 Hpa4 Hpa5 Hma Hta Hda]
  · iintro Hs
    rw [← ready_zero]
    isplitl [Hs]; · iexact Hs
    isplitl [Hda]; · iexact Hda
    isplitr; · iexact Hrda
    isplitr [Hma Hta]
    · unfold pos at_
      isplitl [Hpa1]; · iexact Hpa1
      isplitl [Hpa2]; · iexact Hpa2
      isplitl [Hpa3]
      · isplitl [Hpa3]; · iexact Hpa3
        iexact Hra
      isplitl [Hpa4]; · iexact Hpa4
      iexact Hpa5
    isplitl [Hma]; · iexact Hma
    iexact Hta
  isplitl [Hpb1 Hpb2 Hpb3 Hpb4 Hpb5 Hmb Htb Hdb]
  · iintro Hs
    rw [← ready_zero]
    isplitl [Hs]; · iexact Hs
    isplitl [Hdb]; · iexact Hdb
    isplitr; · iexact Hrdb
    isplitr [Hmb Htb]
    · unfold pos at_
      isplitl [Hpb1]; · iexact Hpb1
      isplitl [Hpb2]; · iexact Hpb2
      isplitl [Hpb3]
      · isplitl [Hpb3]; · iexact Hpb3
        iexact Hrb'
      isplitl [Hpb4]; · iexact Hpb4
      iexact Hpb5
    isplitl [Hmb]; · iexact Hmb
    iexact Htb
  isplitl [Hp]; · iexact Hp
  iexact HO

/-- The last step: the result. -/
theorem rs_last {Q : PUnit → sProp 𝕄} (m : Memref sig .tc .vmem S32x2x1024x128 .f32) (out : Memref sig .tc .vmem S2x1024x128 .f32)
    (Y : Vec F S2x1024x128 .f32) {R : CellTallies nD τ sig ℕ} (hR : Above 200 R) {dA dB : ℕ} {lA : dA < nD} {lB : dB < nD}
    (eA : dA = (c.val + 1) % 32) (eB : dB = (c.val + 31) % 32) :
    iprop(rsInv kv x κ c m R 30 ∗ atPos ER (cell c (.bar false)) 1 ∅ 0 ∗ owns (c : Thread nD τ) out fullShare Y)
      ⊢ iprop(((leave (F := F) c false R ∗ owns (c : Thread nD τ) m fullShare (kv c) ∗ owns (c : Thread nD τ) out fullShare (rsOut kv c)) -∗ WP c k Q)
        -∗ WP c (rsMove m (lane (false, false)) (lane (false, true)) c 30 ⟨dA, lA⟩ ⟨dB, lB⟩ out out 0 1 (by decide) (by decide) k) Q) := by
  have hdA : (⟨dA, lA⟩ : Dev nD) = nxt c := Fin.ext eA
  have hdB : (⟨dB, lB⟩ : Dev nD) = prv c := Fin.ext eB
  unfold rsInv rsMove
  iintro ⟨⟨#Hctx, Hm, H1, H2, HO⟩, Hb, Ho⟩ Hk
  iapply (pair_send (cont kv x) κ c false (s := 30) (R := R) (by decide) (by decide) hdA hdB) $$ [H1 H2 HO]
  · isplitr; · iexact Hctx
    isplitl [H1]; · iexact H1
    isplitl [H2]; · iexact H2
    iexact HO
  iintro ⟨H1, H2, HO⟩
  iapply (lane_land (cont kv x) κ c (false, false) (s := 30) (by decide) (above_land c false false hR (by decide))) $$ [H1 HO]
  · isplitr; · iexact Hctx
    isplitl [H1]; · iexact H1
    iexact HO
  iintro ⟨H1, Hs1, HO⟩
  iapply (wp_addOut c (false, false) 30 m (kv c) _ _ _ out Y) $$ [Hm Hs1 Ho]
  · isplitl [Hm]; · iexact Hm
    isplitl [Hs1]; · iexact Hs1
    iexact Ho
  iintro ⟨Hm, Hs1, Ho⟩
  rw [show addRow (cont kv x (false, false) 30 (fro (false, false) c)) (kvRow (kv c) (k0_off3 c (BitVec.ofNat 32 (30 : Fin 31).val)) (k0_off3_inb c 30))
    = cont kv x (false, false) 31 c from add_K kv x c 30]
  iapply (lane_land (cont kv x) κ c (false, true) (s := 30) (by decide) (above_land c false true hR (by decide))) $$ [H2 HO]
  · isplitr; · iexact Hctx
    isplitl [H2]; · iexact H2
    iexact HO
  iintro ⟨H2, Hs2, HO⟩
  iapply (wp_addOut c (false, true) 30 m (kv c) _ _ _ out _) $$ [Hm Hs2 Ho]
  · isplitl [Hm]; · iexact Hm
    isplitl [Hs2]; · iexact Hs2
    iexact Ho
  iintro ⟨Hm, Hs2, Ho⟩
  rw [show addRow (cont kv x (false, true) 30 (fro (false, true) c)) (kvRow (kv c) (k0_off4 c (BitVec.ofNat 32 (30 : Fin 31).val)) (k0_off4_inb c 30))
    = cont kv x (false, true) 31 c from add_V kv x c 30, rsOut_eq kv x c Y,
    owed_done c false R (by decide) (by decide) (by decide) (by decide)]
  iapply Hk
  isplitr [Hm Ho]
  · unfold leave
    isplitl [H1 Hs1]
    · iapply (done_intro c (false, false) (s := 30) rfl _)
      isplitl [H1]; · iexact H1
      iexact Hs1
    isplitl [H2 Hs2]
    · iapply (done_intro c (false, true) (s := 30) rfl _)
      isplitl [H2]; · iexact H2
      iexact Hs2
    isplitl [Hb]; · iexact Hb
    iexact HO
  isplitl [Hm]; · iexact Hm
  iexact Ho

/-- The reduce-scatter: its window of partial products kept, the result in its other window. -/
theorem rs_run {Q : PUnit → sProp 𝕄} (m : Memref sig .tc .vmem S32x2x1024x128 .f32) (out : Memref sig .tc .vmem S2x1024x128 .f32)
    (Y : Vec F S2x1024x128 .f32) {R : CellTallies nD τ sig ℕ} (hR : Above 200 R) :
    iprop(ctx (cont kv x) κ ∗ entry (F := F) c false R ∗ owns (c : Thread nD τ) m fullShare (kv c) ∗ owns (c : Thread nD τ) out fullShare Y)
      ⊢ iprop(((leave (F := F) c false R ∗ owns (c : Thread nD τ) m fullShare (kv c) ∗ owns (c : Thread nD τ) out fullShare (rsOut kv c)) -∗ |={Set.univ}=> Q ⟨⟩)
        -∗ WP c (rsProg m out (lane (false, false)) (lane (false, true))) Q) := by
  unfold rsProg
  simp only [WP, wp_deviceId]
  iintro ⟨#Hctx, He, Hm, Ho⟩ Hk
  iapply (enter κ c (cont kv x) false hR (Fin.ext (k0_dev1_eq c)) (Fin.ext (k0_dev2_eq c))) $$ [He]
  · isplitr; · iexact Hctx
    iexact He
  iintro ⟨Hs1, Hs2, Hw1, Hw2, Hb, HO⟩
  iapply (wp_firstOp c (false, false) m (kv c)) $$ [Hm Hs1]
  · isplitl [Hm]; · iexact Hm
    iexact Hs1
  iintro ⟨Hm, Hs1⟩
  rw [first_K kv x c]
  iapply (wp_firstOp c (false, true) m (kv c)) $$ [Hm Hs2]
  · isplitl [Hm]; · iexact Hm
    iexact Hs2
  iintro ⟨Hm, Hs2⟩
  rw [first_V kv x c]
  ihave H1 := Hw1 $$ Hs1
  ihave H2 := Hw2 $$ Hs2
  ihave H := (show iprop(ctx (cont kv x) κ ∗ owns (c : Thread nD τ) m fullShare (kv c) ∗ ready (cont kv x) c (false, false) 0
      ∗ ready (cont kv x) c (false, true) 0 ∗ owing c (owed false c R 0 0)) ⊢ rsInv kv x κ c m R 0 from Entails.of_eq rfl) $$ [Hm H1 H2 HO]
  · isplitr; · iexact Hctx
    isplitl [Hm]; · iexact Hm
    isplitl [H1]; · iexact H1
    isplitl [H2]; · iexact H2
    iexact HO
  iapply (rs_step kv x κ c m hR 0 0 rfl (by decide) (k0_dev3_eq c) (k0_dev4_eq c) (k0_dev5_eq c) (k0_dev6_eq c)) $$ H
  iintro H
  iapply (rs_step kv x κ c m hR 1 1 rfl (by decide) (k0_dev7_eq c) (k0_dev8_eq c) (k0_dev9_eq c) (k0_dev10_eq c)) $$ H
  iintro H
  iapply (rs_step kv x κ c m hR 2 2 rfl (by decide) (k0_dev11_eq c) (k0_dev12_eq c) (k0_dev13_eq c) (k0_dev14_eq c)) $$ H
  iintro H
  iapply (rs_step kv x κ c m hR 3 3 rfl (by decide) (k0_dev15_eq c) (k0_dev16_eq c) (k0_dev17_eq c) (k0_dev18_eq c)) $$ H
  iintro H
  iapply (rs_step kv x κ c m hR 4 4 rfl (by decide) (k0_dev19_eq c) (k0_dev20_eq c) (k0_dev21_eq c) (k0_dev22_eq c)) $$ H
  iintro H
  iapply (rs_step kv x κ c m hR 5 5 rfl (by decide) (k0_dev23_eq c) (k0_dev24_eq c) (k0_dev25_eq c) (k0_dev26_eq c)) $$ H
  iintro H
  iapply (rs_step kv x κ c m hR 6 6 rfl (by decide) (k0_dev27_eq c) (k0_dev28_eq c) (k0_dev29_eq c) (k0_dev30_eq c)) $$ H
  iintro H
  iapply (rs_step kv x κ c m hR 7 7 rfl (by decide) (k0_dev31_eq c) (k0_dev32_eq c) (k0_dev33_eq c) (k0_dev34_eq c)) $$ H
  iintro H
  iapply (rs_step kv x κ c m hR 8 8 rfl (by decide) (k0_dev35_eq c) (k0_dev36_eq c) (k0_dev37_eq c) (k0_dev38_eq c)) $$ H
  iintro H
  iapply (rs_step kv x κ c m hR 9 9 rfl (by decide) (k0_dev39_eq c) (k0_dev40_eq c) (k0_dev41_eq c) (k0_dev42_eq c)) $$ H
  iintro H
  iapply (rs_step kv x κ c m hR 10 10 rfl (by decide) (k0_dev43_eq c) (k0_dev44_eq c) (k0_dev45_eq c) (k0_dev46_eq c)) $$ H
  iintro H
  iapply (rs_step kv x κ c m hR 11 11 rfl (by decide) (k0_dev47_eq c) (k0_dev48_eq c) (k0_dev49_eq c) (k0_dev50_eq c)) $$ H
  iintro H
  iapply (rs_step kv x κ c m hR 12 12 rfl (by decide) (k0_dev51_eq c) (k0_dev52_eq c) (k0_dev53_eq c) (k0_dev54_eq c)) $$ H
  iintro H
  iapply (rs_step kv x κ c m hR 13 13 rfl (by decide) (k0_dev55_eq c) (k0_dev56_eq c) (k0_dev57_eq c) (k0_dev58_eq c)) $$ H
  iintro H
  iapply (rs_step kv x κ c m hR 14 14 rfl (by decide) (k0_dev59_eq c) (k0_dev60_eq c) (k0_dev61_eq c) (k0_dev62_eq c)) $$ H
  iintro H
  iapply (rs_step kv x κ c m hR 15 15 rfl (by decide) (k0_dev63_eq c) (k0_dev64_eq c) (k0_dev65_eq c) (k0_dev66_eq c)) $$ H
  iintro H
  iapply (rs_step kv x κ c m hR 16 16 rfl (by decide) (k0_dev67_eq c) (k0_dev68_eq c) (k0_dev69_eq c) (k0_dev70_eq c)) $$ H
  iintro H
  iapply (rs_step kv x κ c m hR 17 17 rfl (by decide) (k0_dev71_eq c) (k0_dev72_eq c) (k0_dev73_eq c) (k0_dev74_eq c)) $$ H
  iintro H
  iapply (rs_step kv x κ c m hR 18 18 rfl (by decide) (k0_dev75_eq c) (k0_dev76_eq c) (k0_dev77_eq c) (k0_dev78_eq c)) $$ H
  iintro H
  iapply (rs_step kv x κ c m hR 19 19 rfl (by decide) (k0_dev79_eq c) (k0_dev80_eq c) (k0_dev81_eq c) (k0_dev82_eq c)) $$ H
  iintro H
  iapply (rs_step kv x κ c m hR 20 20 rfl (by decide) (k0_dev83_eq c) (k0_dev84_eq c) (k0_dev85_eq c) (k0_dev86_eq c)) $$ H
  iintro H
  iapply (rs_step kv x κ c m hR 21 21 rfl (by decide) (k0_dev87_eq c) (k0_dev88_eq c) (k0_dev89_eq c) (k0_dev90_eq c)) $$ H
  iintro H
  iapply (rs_step kv x κ c m hR 22 22 rfl (by decide) (k0_dev91_eq c) (k0_dev92_eq c) (k0_dev93_eq c) (k0_dev94_eq c)) $$ H
  iintro H
  iapply (rs_step kv x κ c m hR 23 23 rfl (by decide) (k0_dev95_eq c) (k0_dev96_eq c) (k0_dev97_eq c) (k0_dev98_eq c)) $$ H
  iintro H
  iapply (rs_step kv x κ c m hR 24 24 rfl (by decide) (k0_dev99_eq c) (k0_dev100_eq c) (k0_dev101_eq c) (k0_dev102_eq c)) $$ H
  iintro H
  iapply (rs_step kv x κ c m hR 25 25 rfl (by decide) (k0_dev103_eq c) (k0_dev104_eq c) (k0_dev105_eq c) (k0_dev106_eq c)) $$ H
  iintro H
  iapply (rs_step kv x κ c m hR 26 26 rfl (by decide) (k0_dev107_eq c) (k0_dev108_eq c) (k0_dev109_eq c) (k0_dev110_eq c)) $$ H
  iintro H
  iapply (rs_step kv x κ c m hR 27 27 rfl (by decide) (k0_dev111_eq c) (k0_dev112_eq c) (k0_dev113_eq c) (k0_dev114_eq c)) $$ H
  iintro H
  iapply (rs_step kv x κ c m hR 28 28 rfl (by decide) (k0_dev115_eq c) (k0_dev116_eq c) (k0_dev117_eq c) (k0_dev118_eq c)) $$ H
  iintro H
  iapply (rs_step kv x κ c m hR 29 29 rfl (by decide) (k0_dev119_eq c) (k0_dev120_eq c) (k0_dev121_eq c) (k0_dev122_eq c)) $$ H
  iintro H
  iapply (rs_last kv x κ c m out Y hR (k0_dev123_eq c) (k0_dev124_eq c)) $$ [H Hb Ho]
  · isplitl [H]; · iexact H
    isplitl [Hb]; · iexact Hb
    iexact Ho
  iintro H
  unfold WP
  rw [wp_ret]
  iapply Hk; iexact H

end Cert.KernelIdeal.Ring
-- ==== Proof.AgRun.lean ====
/- The all-gather on device `c`, from its barrier to the gathered array. -/
module

public import Idealize.ShloMosaic.Lib.Pipeline.Value
public import proofs.«01_k».proof.Proof.RsRun

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (kv : Dev nD → Vec F S32x2x1024x128 .f32) (x : Dev nD → Vec F S1024x128 .f32)
variable (κ : GSem nD τ sig → ℕ) (c : Dev nD)

/-! ## What the lanes carry and the array it makes -/

set_option backward.proofsInPublic true in
/-- The device whose block a device sends at step `s`. -/
def orig (d : Bool) (s : ℕ) (c : Dev nD) : Dev nD :=
  if d then ⟨(c.val + s) % 32, Nat.mod_lt _ (by decide)⟩ else ⟨(c.val + 31 * s) % 32, Nat.mod_lt _ (by decide)⟩

theorem orig_zero (d : Bool) : orig d 0 c = c := by
  have h : c.val < 32 := c.isLt
  cases d
  · exact Fin.ext (show (c.val + 31 * 0) % 32 = c.val by omega)
  · exact Fin.ext (show (c.val + 0) % 32 = c.val by omega)

theorem orig_fro (d : Bool) (s : ℕ) : orig d s (fro (true, d) c) = orig d (s + 1) c := by
  cases d
  · exact Fin.ext (show ((c.val + 31) % 32 + 31 * s) % 32 = (c.val + 31 * (s + 1)) % 32 by omega)
  · exact Fin.ext (show ((c.val + 1) % 32 + s) % 32 = (c.val + (s + 1)) % 32 by omega)

theorem agA_eq (d : Bool) (s : ℕ) : agA x d s c = rowX (x (orig d s c)) := by
  induction s generalizing c with
  | zero => rw [agA, orig_zero]
  | succ s ih => rw [← orig_fro]; exact ih _

/-- The place of an entry in its block of the gathered array. -/
def inBlock (y : S32x1024x128.Idx) : S1x1024x128.Idx
  | 0 => (⟨0, by decide⟩ : Fin 1)
  | 1 => y 1
  | 2 => y 2

/-- The gathered array: block `j` is device `j`'s. -/
def agOut : Vec F S32x1024x128 .f32 := fun y => rowX (x (y 0)) (inBlock y)

/-- The blocks of `Y` whose numbers are in `P` are gathered. -/
def Got (Y : Vec F S32x1024x128 .f32) (P : ℕ → Prop) : Prop := ∀ y : S32x1024x128.Idx, P (y 0).val → Y y = agOut x y

theorem got_put {Y : Vec F S32x1024x128 .f32} {P P' : ℕ → Prop} (h : Got x Y P) (j : Dev nD) {off : Fin 3 → ℕ} (hoff : off = ![j.val, 0, 0])
    (hP : ∀ n, P' n → P n ∨ n = j.val) : Got x (VecWindow.put Y off S1x1024x128.size (rowX (x j))) P' := by
  subst hoff
  intro y hy
  have h1 : (y 1).val < 1024 := (y 1).isLt
  have h2 : (y 2).val < 128 := (y 2).isLt
  unfold VecWindow.put
  by_cases hj : (y 0).val = j.val
  · rw [dif_pos (fun a => by
      fin_cases a
      · exact ⟨by show j.val ≤ (y 0).val; omega, by show (y 0).val < j.val + 1; omega⟩
      · exact ⟨Nat.zero_le _, by show (y 1).val < 0 + 1024; omega⟩
      · exact ⟨Nat.zero_le _, by show (y 2).val < 0 + 128; omega⟩)]
    have e : (y 0 : Dev nD) = j := Fin.ext hj
    unfold agOut
    rw [show rowX (x (y 0)) = rowX (x j) from congrArg (fun d : Dev nD => rowX (x d)) e]
    refine congrArg (rowX (x j)) (funext fun a => Fin.ext ?_)
    fin_cases a
    · show (y 0).val - j.val = 0; omega
    · rfl
    · rfl
  · rw [dif_neg (fun hh => by
      have h3 := hh 0
      have h4 : j.val ≤ (y 0).val := h3.1
      have h5 : (y 0).val < j.val + 1 := h3.2
      omega)]
    exact h y ((hP _ hy).resolve_right hj)

omit [FloatOps F] in
theorem rowS_rowX (v : Vec F S1024x128 .f32) : rowS (rowX v) = rowX v := by
  unfold rowS rowX
  rw [shapeCast_self v, shapeCast_shapeCast]

/-- The blocks gathered before step `h`. -/
def upTo (h n : ℕ) : Prop := ∃ i, i ≤ h ∧ (n = (c.val + 31 * i) % 32 ∨ n = (c.val + i) % 32)

/-! ## One step -/

variable {k : KP F}

/-- A store of a block. -/
theorem wp_storeBlk {Q : PUnit → sProp 𝕄} (m : Memref sig .tc .vmem S32x1024x128 .f32) (Y : Vec F S32x1024x128 .f32) (off : Fin 3 → ℕ)
    (hoff : ∀ a, off a + S1x1024x128.size a ≤ S32x1024x128.size a) (v : Vec F S1x1024x128 .f32) :
    owns (c : Thread nD τ) m fullShare Y
      ⊢ iprop((owns (c : Thread nD τ) m fullShare (VecWindow.put Y off S1x1024x128.size v) -∗ WP c k Q)
        -∗ WP c (storeBlk m off hoff v k) Q) := by
  unfold storeBlk
  iintro Ho Hk
  iapply (wp_load_owns c m _ fullShare Y) $$ Ho
  iintro Ho
  iapply (wp_store_owns c m off S1x1024x128.size hoff v Y) $$ Ho
  iexact Hk

/-- The copy of a received block. -/
theorem wp_copyOp {Q : PUnit → sProp 𝕄} (ℓ : Ln) (s : ℕ) (m : Memref sig .tc .vmem S32x1024x128 .f32) (Y : Vec F S32x1024x128 .f32)
    (off : Fin 3 → ℕ) (hoff : ∀ a, off a + S1x1024x128.size a ≤ S32x1024x128.size a) (v : Vec F S1x1024x128 .f32) :
    iprop(owns (c : Thread nD τ) m fullShare Y ∗ slotAt c ℓ (sl (s + 1)) v)
      ⊢ iprop(((owns (c : Thread nD τ) m fullShare (VecWindow.put Y off S1x1024x128.size (rowS v)) ∗ slotAt c ℓ (sl (s + 1)) v) -∗ WP c k Q)
        -∗ WP c (copyOp (lane ℓ) s m off hoff k) Q) := by
  unfold copyOp
  iintro ⟨Hm, Hs⟩ Hk
  iapply (wp_loadSlot c ℓ (sl (s + 1)) v) $$ Hs
  iintro Hs
  iapply (wp_storeBlk c m Y off hoff (rowS v)) $$ Hm
  iintro Hm
  iapply Hk
  isplitl [Hm]; · iexact Hm
  iexact Hs

/-- A read of the device's block. -/
theorem wp_loadX {Q : PUnit → sProp 𝕄} {k : Vec F S1024x128 .f32 → KP F} (m : Memref sig .tc .vmem S1024x128 .f32) (X : Vec F S1024x128 .f32) :
    owns (c : Thread nD τ) m fullShare X
      ⊢ iprop((owns (c : Thread nD τ) m fullShare X -∗ WP c (k X) Q) -∗ WP c (loadX m k) Q) := by
  unfold loadX
  have e : View.ld X (Rect.unit (s := S1024x128) ![0, 0] S1024x128.size inb_S1024x128_S1024x128_0_0) = X := by
    refine View.ld_unit_zero (funext fun a => ?_) _ X
    fin_cases a <;> rfl
  have h := wp_load_owns (k := k) (Q := Q) c m (Rect.unit (s := S1024x128) ![0, 0] S1024x128.size inb_S1024x128_S1024x128_0_0) fullShare X
    (hl := View.loadsAt_vmem h_S1024x128)
  rw [e] at h
  exact h

/-- The result's window with the blocks of `P` gathered. -/
def outGot (out : Memref sig .tc .vmem S32x1024x128 .f32) (P : ℕ → Prop) : sProp 𝕄 :=
  iprop(∃ Y, ⌜Got x Y P⌝ ∗ owns (c : Thread nD τ) out fullShare Y)

/-- The copy of a received block, as a block gathered. -/
theorem wp_copyGot {Q : PUnit → sProp 𝕄} (d : Bool) (s : ℕ) (out : Memref sig .tc .vmem S32x1024x128 .f32) {P P' : ℕ → Prop}
    {off : Fin 3 → ℕ} (hoff : ∀ a, off a + S1x1024x128.size a ≤ S32x1024x128.size a) (e : off = ![(orig d (s + 1) c).val, 0, 0])
    (hP : ∀ n, P' n → P n ∨ n = (orig d (s + 1) c).val) :
    iprop(outGot x c out P ∗ slotAt c (true, d) (sl (s + 1)) (cont kv x (true, d) s (fro (true, d) c)))
      ⊢ iprop(((outGot x c out P' ∗ slotAt c (true, d) (sl (s + 1)) (cont kv x (true, d) (s + 1) c)) -∗ WP c k Q)
        -∗ WP c (copyOp (lane (true, d)) s out off hoff k) Q) := by
  have e1 : cont kv x (true, d) s (fro (true, d) c) = rowX (x (orig d (s + 1) c)) := by rw [cont, agA_eq, orig_fro]
  have e2 : cont kv x (true, d) (s + 1) c = rowX (x (orig d (s + 1) c)) := by rw [cont, agA_eq]
  rw [e1, e2]
  unfold outGot
  iintro ⟨⟨%Y, %hY, Ho⟩, Hs⟩ Hk
  iapply (wp_copyOp c (true, d) s out Y off hoff _) $$ [Ho Hs]
  · isplitl [Ho]; · iexact Ho
    iexact Hs
  iintro ⟨Ho, Hs⟩
  iapply Hk
  isplitl [Ho]
  · iexists (VecWindow.put Y off S1x1024x128.size (rowS (rowX (x (orig d (s + 1) c)))))
    isplitr [Ho]
    · ipureintro
      rw [rowS_rowX]
      exact got_put x hY _ e hP
    iexact Ho
  iexact Hs

/-- Before step `s` of the all-gather, owing `R` beside it. -/
def agInv (m : Memref sig .tc .vmem S1024x128 .f32) (out : Memref sig .tc .vmem S32x1024x128 .f32) (R : CellTallies nD τ sig ℕ) (s : ℕ) : sProp 𝕄 :=
  iprop(ctx (cont kv x) κ ∗ owns (c : Thread nD τ) m fullShare (x c) ∗ outGot x c out (upTo c s)
    ∗ ready (cont kv x) c (true, false) s ∗ ready (cont kv x) c (true, true) s ∗ owing c (owed true c R s s))

/-- After the copies of step `s`. -/
def agMid (m : Memref sig .tc .vmem S1024x128 .f32) (out : Memref sig .tc .vmem S32x1024x128 .f32) (R : CellTallies nD τ sig ℕ) (s : ℕ) : sProp 𝕄 :=
  iprop(ctx (cont kv x) κ ∗ owns (c : Thread nD τ) m fullShare (x c) ∗ outGot x c out (upTo c (s + 1))
    ∗ landed c (true, false) s ∗ landed c (true, true) s
    ∗ slotAt c (true, false) (sl (s + 1)) (cont kv x (true, false) (s + 1) c) ∗ slotAt c (true, true) (sl (s + 1)) (cont kv x (true, true) (s + 1) c)
    ∗ owing c (owed true c R s (s + 1)))

theorem ag_move {Q : PUnit → sProp 𝕄} (m : Memref sig .tc .vmem S1024x128 .f32) (out : Memref sig .tc .vmem S32x1024x128 .f32)
    {R : CellTallies nD τ sig ℕ} (hR : Above (base true + 200) R) (s : Fin 15) (n : ℕ) (hn : s.val = n)
    {dA dB : ℕ} {lA : dA < nD} {lB : dB < nD} (eA : dA = (c.val + 1) % 32) (eB : dB = (c.val + 31) % 32) :
    agInv kv x κ c m out R n
      ⊢ iprop((agMid kv x κ c m out R n -∗ WP c k Q)
        -∗ WP c (agMove out (lane (true, false)) (lane (true, true)) c s ⟨dA, lA⟩ ⟨dB, lB⟩ k) Q) := by
  subst hn
  have hdA : (⟨dA, lA⟩ : Dev nD) = nxt c := Fin.ext eA
  have hdB : (⟨dB, lB⟩ : Dev nD) = prv c := Fin.ext eB
  have hs : s.val < 15 := s.isLt
  have h31 : s.val < 31 := by omega
  have h16 : s.val < T (true, false) := by show s.val < 16; omega
  have h15 : s.val < T (true, true) := hs
  unfold agInv agMove
  iintro ⟨#Hctx, Hm, Ho, H1, H2, HO⟩ Hk
  iapply (pair_send (cont kv x) κ c true (R := R) h16 h15 hdA hdB) $$ [H1 H2 HO]
  · isplitr; · iexact Hctx
    isplitl [H1]; · iexact H1
    isplitl [H2]; · iexact H2
    iexact HO
  iintro ⟨H1, H2, HO⟩
  iapply (lane_land (cont kv x) κ c (true, false) h16 (above_land c true false hR h31)) $$ [H1 HO]
  · isplitr; · iexact Hctx
    isplitl [H1]; · iexact H1
    iexact HO
  iintro ⟨H1, Hs1, HO⟩
  iapply (wp_copyGot (P := upTo c s.val) (P' := fun n => upTo c s.val n ∨ n = (orig false (s.val + 1) c).val) kv x c false s.val out
    (k2_off2_inb c s.castSucc) ((k2_off2_eq c s.castSucc).trans (congrArg (fun j : ℕ => (![j, 0, 0] : Fin 3 → ℕ))
      (show (c.val + 31 - s.val) % 32 = (c.val + 31 * (s.val + 1)) % 32 by omega))) (fun _ h => h)) $$ [Ho Hs1]
  · isplitl [Ho]; · iexact Ho
    iexact Hs1
  iintro ⟨Ho, Hs1⟩
  iapply (lane_land (cont kv x) κ c (true, true) h15 (above_land c true true hR h31)) $$ [H2 HO]
  · isplitr; · iexact Hctx
    isplitl [H2]; · iexact H2
    iexact HO
  iintro ⟨H2, Hs2, HO⟩
  iapply (wp_copyGot (P := fun n => upTo c s.val n ∨ n = (orig false (s.val + 1) c).val) (P' := upTo c (s.val + 1)) kv x c true s.val out
    (k2_off3_inb c s) ((k2_off3_eq c s).trans (congrArg (fun j : ℕ => (![j, 0, 0] : Fin 3 → ℕ))
      (show (c.val + s.val + 1) % 32 = (c.val + (s.val + 1)) % 32 by omega))) (by
      rintro n ⟨i, hi, h⟩
      by_cases hi' : i ≤ s.val
      · exact .inl (.inl ⟨i, hi', h⟩)
      · obtain rfl : i = s.val + 1 := by omega
        exact h.imp .inr id)) $$ [Ho Hs2]
  · isplitl [Ho]; · iexact Ho
    iexact Hs2
  iintro ⟨Ho, Hs2⟩
  iapply Hk
  unfold agMid
  isplitr; · iexact Hctx
  isplitl [Hm]; · iexact Hm
  isplitl [Ho]; · iexact Ho
  isplitl [H1]; · iexact H1
  isplitl [H2]; · iexact H2
  isplitl [Hs1]; · iexact Hs1
  isplitl [Hs2]; · iexact Hs2
  iexact HO

/-- A step before the last two. -/
theorem ag_step {Q : PUnit → sProp 𝕄} (m : Memref sig .tc .vmem S1024x128 .f32) (out : Memref sig .tc .vmem S32x1024x128 .f32)
    {R : CellTallies nD τ sig ℕ} (hR : Above (base true + 200) R) (s : Fin 15) (n : ℕ) (hn : s.val = n) (hs : n + 1 < 15)
    {dA dB cA cB : ℕ} {lA : dA < nD} {lB : dB < nD} {mA : cA < nD} {mB : cB < nD}
    (eA : dA = (c.val + 1) % 32) (eB : dB = (c.val + 31) % 32) (fA : cA = (c.val + 31) % 32) (fB : cB = (c.val + 1) % 32) :
    agInv kv x κ c m out R n
      ⊢ iprop((agInv kv x κ c m out R (n + 1) -∗ WP c k Q)
        -∗ WP c (agMove out (lane (true, false)) (lane (true, true)) c s ⟨dA, lA⟩ ⟨dB, lB⟩
          (sig1 ⟨cA, mA⟩ (lane (true, false)).cr.sem (sig1 ⟨cB, mB⟩ (lane (true, true)).cr.sem
            (credits (lane (true, false)) (lane (true, true)) k)))) Q) := by
  have hcA : (⟨cA, mA⟩ : Dev nD) = prv c := Fin.ext fA
  have hcB : (⟨cB, mB⟩ : Dev nD) = nxt c := Fin.ext fB
  iintro H Hk
  iapply (ag_move kv x κ c m out hR s n hn eA eB) $$ H
  unfold agMid
  iintro ⟨#Hctx, Hm, Ho, H1, H2, Hs1, Hs2, HO⟩
  iapply (pair_turn (cont kv x) κ c true hR (show n + 1 < 16 by omega) hs hcA hcB) $$ [H1 H2 Hs1 Hs2 HO]
  · isplitr; · iexact Hctx
    isplitl [H1]; · iexact H1
    isplitl [H2]; · iexact H2
    isplitl [Hs1]; · iexact Hs1
    isplitl [Hs2]; · iexact Hs2
    iexact HO
  iintro ⟨H1, H2, HO⟩
  iapply Hk
  unfold agInv
  isplitr; · iexact Hctx
  isplitl [Hm]; · iexact Hm
  isplitl [Ho]; · iexact Ho
  isplitl [H1]; · iexact H1
  isplitl [H2]; · iexact H2
  iexact HO

theorem owed_last (R : CellTallies nD τ sig ℕ) : owed true c R 14 15
    = (R + tallyAt (cell (tgt (true, false) c) (.recv (true, false) (sl (15 + 1)))) (ixRecv (true, false) 15) N)
      + tallyAt (cell (fro (true, false) c) (.cred (true, false))) (ixCred (true, false) (14 + 1)) 1 := by
  unfold owed
  rw [owCred_step (ℓ := (true, false)) c (s := 14) (by decide), owSend_step (ℓ := (true, false)) c (s := 15) (by decide)]
  unfold owCred owSend
  rw [Finset.Ico_eq_empty_of_le (show T (true, false) - 1 ≤ 14 + 1 by decide), Finset.Ico_eq_empty_of_le (show T (true, true) - 1 ≤ 14 by decide),
    Finset.Ico_eq_empty_of_le (show T (true, false) ≤ 15 + 1 by decide), Finset.Ico_eq_empty_of_le (show T (true, true) ≤ 15 by decide)]
  simp only [Finset.sum_empty, add_zero, zero_add]
  ac_rfl

theorem got_all (Y : Vec F S32x1024x128 .f32) (h : Got x Y (fun n => upTo c 15 n ∨ n = (orig false 16 c).val)) : Y = agOut x := by
  funext y
  refine h y ?_
  have h0 : (y 0).val < 32 := (y 0).isLt
  have hc : c.val < 32 := c.isLt
  have e : (orig false 16 c).val = (c.val + 31 * 16) % 32 := rfl
  generalize (y 0).val = n at *
  by_cases ht : (n + 32 - c.val) % 32 ≤ 15
  · exact .inl ⟨_, ht, .inr (by omega)⟩
  · by_cases ht' : (n + 32 - c.val) % 32 = 16
    · right; omega
    · exact .inl ⟨32 - (n + 32 - c.val) % 32, by omega, .inl (by omega)⟩

/-- The last step: the one lane that still moves. -/
theorem ag_last {Q : PUnit → sProp 𝕄} (m : Memref sig .tc .vmem S1024x128 .f32) (out : Memref sig .tc .vmem S32x1024x128 .f32)
    {R : CellTallies nD τ sig ℕ} (hR : Above (base true + 200) R) {dA cA : ℕ} {lA : dA < nD} {mA : cA < nD}
    (eA : dA = (c.val + 1) % 32) (fA : cA = (c.val + 31) % 32) :
    iprop(agMid kv x κ c m out R 14 ∗ atPos ER (cell c (.bar true)) 1 ∅ 0)
      ⊢ iprop(((leave (F := F) c true R ∗ owns (c : Thread nD τ) m fullShare (x c) ∗ owns (c : Thread nD τ) out fullShare (agOut x)) -∗ WP c k Q)
        -∗ WP c (sig1 ⟨cA, mA⟩ (lane (true, false)).cr.sem (waitN (lane (true, false)).cr.sem 1#32
          (sendOp (lane (true, false)) 15 ⟨dA, lA⟩ (waitS (lane (true, false)) 15 (waitR (lane (true, false)) 15
            (copyOp (lane (true, false)) 15 out (k2_off2 c (BitVec.ofNat 32 15)) (k2_off2_inb c 15) k)))))) Q) := by
  have hdA : (⟨dA, lA⟩ : Dev nD) = nxt c := Fin.ext eA
  have hcA : (⟨cA, mA⟩ : Dev nD) = prv c := Fin.ext fA
  unfold agMid
  rw [owed_last c R]
  iintro ⟨⟨#Hctx, Hm, Ho, H1, H2, Hs1, Hs2, HO⟩, Hb⟩ Hk
  iapply (lane_sig (cont kv x) κ c (true, false) (s := 14) (by decide) hcA) $$ [H1 HO]
  · isplitr; · iexact Hctx
    isplitl [H1]; · iexact H1
    iexact HO
  iintro ⟨H1, HO⟩
  iapply (lane_turn (cont kv x) κ c (true, false) (s := 14) (by decide)
    ((hR.mono (show ixCred (true, false) (14 + 1) ≤ base true + 200 by decide)).add
      (Above.tally _ (.recv (true, false) (sl (15 + 1))) _ _ (show ixCred (true, false) (14 + 1) < ixRecv (true, false) 15 by decide)
        (show ixRecv (true, false) 15 < 512 by decide)))) $$ [H1 Hs1 HO]
  · isplitr; · iexact Hctx
    isplitl [H1]; · iexact H1
    isplitl [Hs1]; · iexact Hs1
    iexact HO
  iintro ⟨H1, HO⟩
  iapply (lane_send (cont kv x) κ c (true, false) (s := 15) (by decide) hdA) $$ [H1 HO]
  · isplitr; · iexact Hctx
    isplitl [H1]; · iexact H1
    iexact HO
  iintro ⟨H1, HO⟩
  iapply (lane_land (cont kv x) κ c (true, false) (s := 15) (by decide) (hR.mono (show ixRecv (true, false) 15 ≤ base true + 200 by decide))) $$ [H1 HO]
  · isplitr; · iexact Hctx
    isplitl [H1]; · iexact H1
    iexact HO
  iintro ⟨H1, Hs1, HO⟩
  iapply (wp_copyGot (P := upTo c 15) (P' := fun n => upTo c 15 n ∨ n = (orig false 16 c).val) kv x c false 15 out
    (k2_off2_inb c 15) ((k2_off2_eq c 15).trans (congrArg (fun j : ℕ => (![j, 0, 0] : Fin 3 → ℕ))
      (show (c.val + 31 - 15) % 32 = (c.val + 31 * 16) % 32 by omega))) (fun _ h => h)) $$ [Ho Hs1]
  · isplitl [Ho]; · iexact Ho
    iexact Hs1
  unfold outGot
  iintro ⟨⟨%Y, %hY, Ho⟩, Hs1⟩
  rw [got_all x c Y hY]
  iapply Hk
  isplitr [Hm Ho]
  · unfold leave
    isplitl [H1 Hs1]
    · iapply (done_intro c (true, false) (s := 15) rfl _)
      isplitl [H1]; · iexact H1
      iexact Hs1
    isplitl [H2 Hs2]
    · iapply (done_intro c (true, true) (s := 14) rfl _)
      isplitl [H2]; · iexact H2
      iexact Hs2
    isplitl [Hb]; · iexact Hb
    iexact HO
  isplitl [Hm]; · iexact Hm
  iexact Ho

theorem first_X (d : Bool) : cont kv x (true, d) 0 c = rowX (x c) := by rw [cont, agA]

/-- The all-gather: its window of the device's block kept, the gathered array in its other window. -/
theorem ag_run {Q : PUnit → sProp 𝕄} (m : Memref sig .tc .vmem S1024x128 .f32) (out : Memref sig .tc .vmem S32x1024x128 .f32)
    (Y : Vec F S32x1024x128 .f32) {R : CellTallies nD τ sig ℕ} (hR : Above (base true + 200) R) :
    iprop(ctx (cont kv x) κ ∗ entry (F := F) c true R ∗ owns (c : Thread nD τ) m fullShare (x c) ∗ owns (c : Thread nD τ) out fullShare Y)
      ⊢ iprop(((leave (F := F) c true R ∗ owns (c : Thread nD τ) m fullShare (x c) ∗ owns (c : Thread nD τ) out fullShare (agOut x)) -∗ |={Set.univ}=> Q ⟨⟩)
        -∗ WP c (agProg m out (lane (true, false)) (lane (true, true))) Q) := by
  unfold agProg
  simp only [WP, wp_deviceId]
  iintro ⟨#Hctx, He, Hm, Ho⟩ Hk
  iapply (enter κ c (cont kv x) true hR (Fin.ext (k2_dev1_eq c)) (Fin.ext (k2_dev2_eq c))) $$ [He]
  · isplitr; · iexact Hctx
    iexact He
  iintro ⟨Hs1, Hs2, Hw1, Hw2, Hb, HO⟩
  iapply (wp_loadX c m (x c)) $$ Hm
  iintro Hm
  iapply (wp_storeBlk c out Y (k2_off1 c) (k2_off1_inb c) (rowX (x c))) $$ Ho
  iintro Ho
  iapply (wp_loadX c m (x c)) $$ Hm
  iintro Hm
  iapply (wp_storeSlot c (true, false) (0 : Fin 2) (rowX (x c))) $$ Hs1
  iintro Hs1
  iapply (wp_loadX c m (x c)) $$ Hm
  iintro Hm
  iapply (wp_storeSlot c (true, true) (0 : Fin 2) (rowX (x c))) $$ Hs2
  iintro Hs2
  rw [← first_X kv x c false]
  ihave H1 := Hw1 $$ Hs1
  rw [first_X kv x c false, ← first_X kv x c true]
  ihave H2 := Hw2 $$ Hs2
  ihave H := (show iprop(ctx (cont kv x) κ ∗ owns (c : Thread nD τ) m fullShare (x c) ∗ outGot x c out (upTo c 0)
      ∗ ready (cont kv x) c (true, false) 0 ∗ ready (cont kv x) c (true, true) 0 ∗ owing c (owed true c R 0 0)) ⊢ agInv kv x κ c m out R 0 from Entails.of_eq rfl) $$ [Hm Ho H1 H2 HO]
  · isplitr; · iexact Hctx
    isplitl [Hm]; · iexact Hm
    isplitl [Ho]
    · unfold outGot
      iexists _
      isplitr [Ho]
      rotate_left
      · iexact Ho
      ipureintro
      rw [first_X kv x c true]
      refine got_put x (P := fun _ => False) (fun _ h => h.elim) c (k2_off1_eq c) ?_
      rintro n ⟨i, hi, h⟩
      have hc : c.val < 32 := c.isLt
      obtain rfl : i = 0 := by omega
      right; omega
    isplitl [H1]; · iexact H1
    isplitl [H2]; · iexact H2
    iexact HO
  iapply (ag_step kv x κ c m out hR 0 0 rfl (by decide) (k2_dev3_eq c) (k2_dev4_eq c) (k2_dev5_eq c) (k2_dev6_eq c)) $$ H
  iintro H
  iapply (ag_step kv x κ c m out hR 1 1 rfl (by decide) (k2_dev7_eq c) (k2_dev8_eq c) (k2_dev9_eq c) (k2_dev10_eq c)) $$ H
  iintro H
  iapply (ag_step kv x κ c m out hR 2 2 rfl (by decide) (k2_dev11_eq c) (k2_dev12_eq c) (k2_dev13_eq c) (k2_dev14_eq c)) $$ H
  iintro H
  iapply (ag_step kv x κ c m out hR 3 3 rfl (by decide) (k2_dev15_eq c) (k2_dev16_eq c) (k2_dev17_eq c) (k2_dev18_eq c)) $$ H
  iintro H
  iapply (ag_step kv x κ c m out hR 4 4 rfl (by decide) (k2_dev19_eq c) (k2_dev20_eq c) (k2_dev21_eq c) (k2_dev22_eq c)) $$ H
  iintro H
  iapply (ag_step kv x κ c m out hR 5 5 rfl (by decide) (k2_dev23_eq c) (k2_dev24_eq c) (k2_dev25_eq c) (k2_dev26_eq c)) $$ H
  iintro H
  iapply (ag_step kv x κ c m out hR 6 6 rfl (by decide) (k2_dev27_eq c) (k2_dev28_eq c) (k2_dev29_eq c) (k2_dev30_eq c)) $$ H
  iintro H
  iapply (ag_step kv x κ c m out hR 7 7 rfl (by decide) (k2_dev31_eq c) (k2_dev32_eq c) (k2_dev33_eq c) (k2_dev34_eq c)) $$ H
  iintro H
  iapply (ag_step kv x κ c m out hR 8 8 rfl (by decide) (k2_dev35_eq c) (k2_dev36_eq c) (k2_dev37_eq c) (k2_dev38_eq c)) $$ H
  iintro H
  iapply (ag_step kv x κ c m out hR 9 9 rfl (by decide) (k2_dev39_eq c) (k2_dev40_eq c) (k2_dev41_eq c) (k2_dev42_eq c)) $$ H
  iintro H
  iapply (ag_step kv x κ c m out hR 10 10 rfl (by decide) (k2_dev43_eq c) (k2_dev44_eq c) (k2_dev45_eq c) (k2_dev46_eq c)) $$ H
  iintro H
  iapply (ag_step kv x κ c m out hR 11 11 rfl (by decide) (k2_dev47_eq c) (k2_dev48_eq c) (k2_dev49_eq c) (k2_dev50_eq c)) $$ H
  iintro H
  iapply (ag_step kv x κ c m out hR 12 12 rfl (by decide) (k2_dev51_eq c) (k2_dev52_eq c) (k2_dev53_eq c) (k2_dev54_eq c)) $$ H
  iintro H
  iapply (ag_step kv x κ c m out hR 13 13 rfl (by decide) (k2_dev55_eq c) (k2_dev56_eq c) (k2_dev57_eq c) (k2_dev58_eq c)) $$ H
  iintro H
  iapply (ag_move kv x κ c m out hR 14 14 rfl (k2_dev59_eq c) (k2_dev60_eq c)) $$ H
  iintro H
  iapply (ag_last kv x κ c m out hR (k2_dev62_eq c) (k2_dev61_eq c)) $$ [H Hb]
  · isplitl [H]; · iexact H
    iexact Hb
  iintro H
  unfold WP
  rw [wp_ret]
  iapply Hk; iexact H

end Cert.KernelIdeal.Ring
-- ==== Proof.Cells.lean ====
/- What a ring kernel finds and leaves at its own semaphores and buffers: its counters at zero, opened into
   the lanes' cells at its start and closed at its end, and each lane's buffer as two slots. -/
module

public import proofs.«01_k».proof.Proof.RsRun

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A lane's counters -/

/-- A lane's semaphores: its sends from either slot, its receipts into either, its credits. -/
def laneKd (ℓ : Ln) : Fin 5 → Kd := ![.send ℓ 0, .send ℓ 1, .recv ℓ 0, .recv ℓ 1, .cred ℓ]

/-- A ring's own semaphores, lane by lane. -/
def osem (q : Bool) (x : Bool × Fin 5) : SemLoc sig := loc (laneKd (q, x.1) x.2)

/-- A lane's counters at zero. -/
def sems0 (c : Dev nD) (ℓ : Ln) : sProp 𝕄 :=
  iprop(semVal (cell c (.send ℓ 0)) 0 ∗ semVal (cell c (.send ℓ 1)) 0 ∗ semVal (cell c (.recv ℓ 0)) 0
    ∗ semVal (cell c (.recv ℓ 1)) 0 ∗ semVal (cell c (.cred ℓ)) 0)

/-- The right to open each of a lane's cells. -/
def openToks (c : Dev nD) (ℓ : Ln) : sProp 𝕄 :=
  iprop(openTok ER (cell c (.send ℓ 0)) ∗ openTok ER (cell c (.send ℓ 1)) ∗ openTok ER (cell c (.recv ℓ 0))
    ∗ openTok ER (cell c (.recv ℓ 1)) ∗ openTok ER (cell c (.cred ℓ)))

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ
omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- A ring's own counters at zero are its two lanes'. -/
theorem ownSems_eq (c : Dev nD) (q : Bool) :
    (Pipeline.ownSems0 (osem q) c : sProp 𝕄) = iprop(sems0 c (q, false) ∗ sems0 c (q, true)) := by
  unfold Pipeline.ownSems0
  rw [bigSep_univ_prod, bigSep_bool, bigSep_five, bigSep_five]
  rfl

variable (A : Ln → ℕ → Dev nD → Vec F S1x1024x128 .f32) (κ : GSem nD τ sig → ℕ) (c : Dev nD)

/-- A cell is opened by its right and its counter at zero. -/
theorem open_cell (k : Kd) : iprop(ctx A κ ∗ openTok ER (cell c k) ∗ semVal (cell c k) 0) ⊢ |={Set.univ}=> at_ (F := F) c k 0 := by
  iintro ⟨#Hc, Ho, Hs⟩
  ihave #HI := (ctx_cell A κ c k) $$ Hc
  unfold at_
  iapply (Rounds.cell_open ER (rd A) (g := cell c k) (Set.mem_univ (κ (cell c k))))
  isplitr; · iexact HI
  isplitl [Ho] <;> iassumption

/-- A cell past its last round is closed, its counter at zero. -/
theorem close_cell (k : Kd) (r : ℕ) (h : ∀ r', r ≤ r' → dut k r' = ∅) :
    iprop(ctx A κ ∗ at_ (F := F) c k r) ⊢ |={Set.univ}=> semVal (cell c k) 0 := by
  unfold at_
  iintro ⟨#Hc, Ha, -⟩
  ihave #HI := (ctx_cell A κ c k) $$ Hc
  iapply (Rounds.cell_close ER (rd A) (g := cell c k) (Set.mem_univ (κ (cell c k))) id (R := r)
    (fun r' hr => by rw [duties_cell]; exact h r' hr))
  isplitr; · iexact HI
  iexact Ha

/-- A lane is opened: nothing sent, nothing received. -/
theorem lane_open (ℓ : Ln) : iprop(ctx A κ ∗ openToks c ℓ ∗ sems0 c ℓ) ⊢ |={Set.univ}=> pos (F := F) c ℓ 0 0 := by
  unfold openToks sems0 pos
  iintro ⟨#Hc, ⟨Ho0, Ho1, Ho2, Ho3, Ho4⟩, Hs0, Hs1, Hs2, Hs3, Hs4⟩
  imod (open_cell A κ c (.send ℓ 0)) $$ [Ho0 Hs0] with H0
  · isplitr; · iexact Hc
    isplitl [Ho0] <;> iassumption
  imod (open_cell A κ c (.send ℓ 1)) $$ [Ho1 Hs1] with H1
  · isplitr; · iexact Hc
    isplitl [Ho1] <;> iassumption
  imod (open_cell A κ c (.recv ℓ 0)) $$ [Ho2 Hs2] with H2
  · isplitr; · iexact Hc
    isplitl [Ho2] <;> iassumption
  imod (open_cell A κ c (.recv ℓ 1)) $$ [Ho3 Hs3] with H3
  · isplitr; · iexact Hc
    isplitl [Ho3] <;> iassumption
  imod (open_cell A κ c (.cred ℓ)) $$ [Ho4 Hs4] with H4
  · isplitr; · iexact Hc
    isplitl [Ho4] <;> iassumption
  imodintro
  isplitl [H0]; · iexact H0
  isplitl [H1]; · iexact H1
  isplitl [H3]; · iexact H3
  isplitl [H2]; · iexact H2
  iexact H4

theorem two_slots (n : ℕ) (Φ : Fin 2 → ℕ → sProp 𝕄) :
    iprop(Φ (sl n) (n / 2) ∗ Φ (sl (n + 1)) ((n + 1) / 2)) ⊢ iprop(∃ r r', ⌜n ≤ 2 * r ∧ n ≤ 2 * r' + 1⌝ ∗ Φ 0 r ∗ Φ 1 r') := by
  rcases Nat.mod_two_eq_zero_or_one n with h | h
  · rw [show sl n = 0 from Fin.ext h, show sl (n + 1) = 1 from Fin.ext (by show (n + 1) % 2 = 1; omega)]
    iintro ⟨H0, H1⟩
    iexists (n / 2), ((n + 1) / 2)
    isplitr; · ipureintro; omega
    isplitl [H0] <;> iassumption
  · rw [show sl n = 1 from Fin.ext h, show sl (n + 1) = 0 from Fin.ext (by show (n + 1) % 2 = 0; omega)]
    iintro ⟨H1, H0⟩
    iexists ((n + 1) / 2), (n / 2)
    isplitr; · ipureintro; omega
    isplitl [H0] <;> iassumption

theorem two_slots' (n : ℕ) (Φ : Fin 2 → ℕ → sProp 𝕄) :
    iprop(Φ (sl (n + 1)) (n / 2) ∗ Φ (sl n) ((n + 1) / 2)) ⊢ iprop(∃ r r', ⌜n ≤ 2 * r + 1 ∧ n ≤ 2 * r'⌝ ∗ Φ 0 r ∗ Φ 1 r') := by
  rcases Nat.mod_two_eq_zero_or_one n with h | h
  · rw [show sl n = 0 from Fin.ext h, show sl (n + 1) = 1 from Fin.ext (by show (n + 1) % 2 = 1; omega)]
    iintro ⟨H1, H0⟩
    iexists ((n + 1) / 2), (n / 2)
    isplitr; · ipureintro; omega
    isplitl [H0] <;> iassumption
  · rw [show sl n = 1 from Fin.ext h, show sl (n + 1) = 0 from Fin.ext (by show (n + 1) % 2 = 0; omega)]
    iintro ⟨H0, H1⟩
    iexists (n / 2), ((n + 1) / 2)
    isplitr; · ipureintro; omega
    isplitl [H0] <;> iassumption

/-- A lane is closed once all its transfers are done. -/
theorem lane_close (ℓ : Ln) : iprop(ctx A κ ∗ pos (F := F) c ℓ (T ℓ) (T ℓ - 1)) ⊢ |={Set.univ}=> sems0 (F := F) c ℓ := by
  unfold pos
  iintro ⟨#Hc, Ha, Hb, Hd, He, H4⟩
  ihave Hs := (two_slots (T ℓ) fun b r => at_ (F := F) c (.send ℓ b) r) $$ [Ha Hb]
  · isplitl [Ha] <;> iassumption
  ihave Hr := (two_slots' (T ℓ) fun b r => at_ (F := F) c (.recv ℓ b) r) $$ [Hd He]
  · isplitl [Hd] <;> iassumption
  icases Hs with ⟨%r0, %r1, %h, H0, H1⟩
  icases Hr with ⟨%r2, %r3, %h', H2, H3⟩
  unfold sems0
  imod (close_cell A κ c (.send ℓ 0) r0 (fun r' hr => if_neg (by show ¬ 2 * r' + 0 < T ℓ; omega))) $$ [H0] with H0
  · isplitr; · iexact Hc
    iexact H0
  imod (close_cell A κ c (.send ℓ 1) r1 (fun r' hr => if_neg (by show ¬ 2 * r' + 1 < T ℓ; omega))) $$ [H1] with H1
  · isplitr; · iexact Hc
    iexact H1
  imod (close_cell A κ c (.recv ℓ 0) r2 (fun r' hr => if_neg (by show ¬ 2 * r' + 1 < T ℓ; omega))) $$ [H2] with H2
  · isplitr; · iexact Hc
    iexact H2
  imod (close_cell A κ c (.recv ℓ 1) r3 (fun r' hr => if_neg (by show ¬ 2 * r' + 0 < T ℓ; omega))) $$ [H3] with H3
  · isplitr; · iexact Hc
    iexact H3
  imod (close_cell A κ c (.cred ℓ) (T ℓ - 1) (fun r' hr => if_neg (by show ¬ r' + 1 < T ℓ; omega))) $$ [H4] with H4
  · isplitr; · iexact Hc
    iexact H4
  imodintro
  isplitl [H0]; · iexact H0
  isplitl [H1]; · iexact H1
  isplitl [H2]; · iexact H2
  isplitl [H3]; · iexact H3
  iexact H4

/-- The barrier's cell is closed after its one round. -/
theorem bar_close (q : Bool) : iprop(ctx A κ ∗ atPos ER (cell c (.bar q)) 1 ∅ 0) ⊢ |={Set.univ}=> semVal (cell c (.bar q)) 0 := by
  iintro ⟨#Hc, Ha⟩
  ihave #HI := (ctx_cell A κ c (.bar q)) $$ Hc
  iapply (Rounds.cell_close ER (rd A) (g := cell c (.bar q)) (Set.mem_univ (κ (cell c (.bar q)))) id (R := 1)
    (fun r' hr => by rw [duties_cell]; exact if_neg (by omega)))
  isplitr; · iexact HI
  iexact Ha

/-! ## A lane's buffer as two slots -/

/-- The buffer whole, at any contents. -/
def bufAny (ℓ : Ln) : sProp 𝕄 :=
  iprop(∃ f : Buf (Elt F) ((lane ℓ).comm.view.loc (c : Thread nD τ)), (lane ℓ).comm.view.loc (c : Thread nD τ) ↦{fullShare} f)

omit [FloatOps F] in
theorem comm_univ (ℓ : Ln) (i : (lane ℓ).comm.view.ty.Idx) : ∃ y : S2x1024x128.Idx, (lane ℓ).comm.view.emb y = i := by
  rcases ℓ with ⟨_ | _, _ | _⟩ <;> exact ⟨i, rfl⟩

omit [FloatOps F] in
theorem rect_emb_zero (b : ℕ) (hb : b < 2) (z : S1x1024x128.Idx) : ((slotRect b hb).emb z 0).val = b := by
  have h : (z 0).val < 1 := (z 0).isLt
  rw [Rect.emb_apply]
  show b + 1 * (z 0).val = b
  omega

/-- The places of a slot in its buffer. -/
def slotSet (ℓ : Ln) (b : Fin 2) : Finset ((lane ℓ).comm.view.ty.Idx) := ((lane ℓ).comm.access (slotRect b.val b.isLt)).set

omit [FloatOps F] in
theorem slots_disjoint (ℓ : Ln) : Disjoint (slotSet ℓ 0) (slotSet ℓ 1) := by
  rw [Finset.disjoint_left]
  intro i h0 h1
  obtain ⟨z, -, hz⟩ := Finset.mem_map.mp h0
  obtain ⟨z', -, hz'⟩ := Finset.mem_map.mp h1
  have he : (slotRect 0 (by decide)).emb z = (slotRect 1 (by decide)).emb z' := (lane ℓ).comm.view.emb.injective (hz.trans hz'.symm)
  have h := congrArg (fun y : S2x1024x128.Idx => (y 0).val) he
  have e0 := rect_emb_zero 0 (by decide) z
  have e1 := rect_emb_zero 1 (by decide) z'
  exact absurd (e0.symm.trans (h.trans e1)) (by decide)

/-- An index of a slot. -/
def inSlot (y : S2x1024x128.Idx) : S1x1024x128.Idx
  | 0 => (⟨0, by decide⟩ : Fin 1)
  | 1 => y 1
  | 2 => y 2

omit [FloatOps F] in
theorem slots_union (ℓ : Ln) : slotSet ℓ 0 ∪ slotSet ℓ 1 = Finset.univ := by
  refine Finset.eq_univ_iff_forall.mpr fun i => ?_
  obtain ⟨y, rfl⟩ := comm_univ ℓ i
  have hy : (y 0).val < 2 := (y 0).isLt
  have key : ∀ (b : ℕ) (hb : b < 2), (y 0).val = b → (lane ℓ).comm.view.emb y ∈ slotSet ℓ ⟨b, hb⟩ := by
    intro b hb h
    refine Finset.mem_map.mpr ⟨inSlot y, Finset.mem_univ _, ?_⟩
    show (lane ℓ).comm.view.emb ((slotRect b hb).emb (inSlot y)) = _
    congr 1
    funext a
    apply Fin.ext
    rw [Rect.emb_apply]
    fin_cases a
    · show b + 1 * 0 = (y 0).val; omega
    · show 0 + 1 * (y 1).val = (y 1).val; omega
    · show 0 + 1 * (y 2).val = (y 2).val; omega
  rcases (by omega : (y 0).val = 0 ∨ (y 0).val = 1) with h | h
  · exact Finset.mem_union_left _ (key 0 (by decide) h)
  · exact Finset.mem_union_right _ (key 1 (by decide) h)

omit [FloatOps F] in
/-- A lane's buffer is its two slots, -/
theorem buf_split (ℓ : Ln) : bufAny (F := F) c ℓ ⊢ iprop(slotAny (F := F) c ℓ 0 ∗ slotAny (F := F) c ℓ 1) := by
  unfold bufAny slotAny slotAt
  iintro ⟨%f, H⟩
  ihave H' := (Entails.of_eq (congrArg (fun S => ((lane ℓ).comm.view.loc (c : Thread nD τ) ↦[S]{fullShare} f : sProp 𝕄)) (slots_union ℓ).symm)) $$ H
  ihave H'' := (pointsTo_union (slots_disjoint ℓ)).1 $$ H'
  icases H'' with ⟨H0, H1⟩
  isplitl [H0]
  · iexists _; iexists f
    isplitr; · ipureintro; rfl
    iexact H0
  · iexists _; iexists f
    isplitr; · ipureintro; rfl
    iexact H1

omit [FloatOps F] in
/-- and its two slots the buffer. -/
theorem buf_join (ℓ : Ln) : iprop(slotAny (F := F) c ℓ 0 ∗ slotAny (F := F) c ℓ 1) ⊢ bufAny (F := F) c ℓ := by
  unfold bufAny slotAny slotAt
  iintro ⟨⟨%X, %f, -, H0⟩, %Y, %g, -, H1⟩
  ihave H := (pointsTo_join (ℓ := (lane ℓ).comm.view.loc (c : Thread nD τ)) (q := fullShare) (f := f) (g := g) (slots_disjoint ℓ)) $$ [H0 H1]
  · isplitl [H0]; · iexact H0
    iexact H1
  iexists _
  iapply (Entails.of_eq (congrArg (fun S => ((lane ℓ).comm.view.loc (c : Thread nD τ) ↦[S]{fullShare} _ : sProp 𝕄)) (slots_union ℓ))) $$ H

end Cert.KernelIdeal.Ring
-- ==== Proof.Vals.lean ====
/- What the kernel's three calls leave in the buffers they write: the reduced blocks, the attention output of
   the device's head, and the gathered outputs; and what each device owes its neighbours. -/
module

public import proofs.«01_k».proof.Proof.AgRun
public import proofs.«01_k».proof.Proof.Cells
public import proofs.«01_k».proof.Proof.Gen.KernelIdeal.Regions
public import proofs.«01_k».proof.Proof.Gen.KernelIdeal.Points

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The calls' results -/

/-- The second row of the reduced blocks, head by head of the batch. -/
def vRow (kv : Vec F S2x1024x128 .f32) : Vec F S4x256x128 .f32 :=
  shapeCast S4x256x128 (shapeCast S1024x128
    (View.ld kv (Rect.unit (s := S2x1024x128) ![1, 0, 0] S1x1024x128.size inb_S2x1024x128_S1x1024x128_1_0_0) : Vec F S1x1024x128 .f32)
    shapeCasts_S1x1024x128_S1024x128) shapeCasts_S1024x128_S4x256x128

/-- The weighted values: the attention weights times the second row. -/
def pvOut (p : Vec F S4x256x256 .f32) (kv : Vec F S2x1024x128 .f32) : Vec F S4x256x128 .f32 :=
  matmul dot_S4x256x256_S4x256x128_S4x256x128_2_1_1_2_0_0 none p (vRow kv) (constant S4x256x128 .f32 0x00000000#32)

variable (m : (ℓ : Loc nD τ sig) → Buf (Elt F) ℓ)

/-- The partial products device `c` enters the reduce-scatter with. -/
def kvOf (c : Dev nD) : Vec F S32x2x1024x128 .f32 := V1 m c main_v9

/-- The contents after the reduce-scatter. -/
def outs2 : Outs (F := F) := fun _ r c => Function.update (fun r : Ref sig .tc => m ((c : Thread nD τ).loc r)) main_v10 (rsOut (kvOf m) c) r

/-- The contents after the weighted values. -/
def outs4 : Outs (F := F) := fun J r c =>
  match J with
  | 2 => outs2 m 2 r c
  | _ => Function.update (fun r : Ref sig .tc => m ((c : Thread nD τ).loc r)) main_v48
    (pvOut (V3 m (outs2 m) c main_v47) (V3 m (outs2 m) c main_v10)) r

/-- The block device `c` enters the all-gather with. -/
def xOf (c : Dev nD) : Vec F S1024x128 .f32 := V5 m (outs4 m) c main_v49

/-- The contents after the all-gather. -/
def outs : Outs (F := F) := fun J r c =>
  match J with
  | 6 => Function.update (fun r : Ref sig .tc => m ((c : Thread nD τ).loc r)) main_v50 (agOut (xOf m)) r
  | J => outs4 m J r c

theorem outs_2 (c : Dev nD) : outs m 2 main_v10 c = rsOut (kvOf m) c := by
  exact Function.update_self (β := fun r : Ref sig .tc => Buf (Elt F) ((c : Thread nD τ).loc r)) main_v10 _ (fun r => m ((c : Thread nD τ).loc r))
theorem outs_4 (c : Dev nD) : outs m 4 main_v48 c = pvOut (V3 m (outs m) c main_v47) (V3 m (outs m) c main_v10) := by
  exact Function.update_self (β := fun r : Ref sig .tc => Buf (Elt F) ((c : Thread nD τ).loc r)) main_v48 _ (fun r => m ((c : Thread nD τ).loc r))
theorem outs_6 (c : Dev nD) : outs m 6 main_v50 c = agOut (xOf m) := by
  exact Function.update_self (β := fun r : Ref sig .tc => Buf (Elt F) ((c : Thread nD τ).loc r)) main_v50 _ (fun r => m ((c : Thread nD τ).loc r))
theorem xOf_eq (c : Dev nD) : xOf m c = V5 m (outs m) c main_v49 := rfl

theorem V2_v10 (c : Dev nD) : V2 m (outs m) c main_v10 = rsOut (kvOf m) c := by
  show Function.update _ (Proc.devRef .tc main_v10 : DevRef τ sig) _ (Proc.devRef .tc main_v10) = _
  rw [Function.update_self, outs_2]
theorem V4_v48 (c : Dev nD) : V4 m (outs m) c main_v48 = pvOut (V3 m (outs m) c main_v47) (V3 m (outs m) c main_v10) := by
  show Function.update _ (Proc.devRef .tc main_v48 : DevRef τ sig) _ (Proc.devRef .tc main_v48) = _
  rw [Function.update_self, outs_4]
theorem V6_v50 (c : Dev nD) : V6 m (outs m) c main_v50 = agOut (xOf m) := by
  show Function.update _ (Proc.devRef .tc main_v50 : DevRef τ sig) _ (Proc.devRef .tc main_v50) = _
  rw [Function.update_self, outs_6]

/-- What the rings' transfers carry. -/
abbrev AA : Ln → ℕ → Dev nD → Vec F S1x1024x128 .f32 := cont (kvOf m) (xOf m)

/-! ## What a device owes -/

/-- A ring's transfers, credits and barrier signals. -/
def due (q : Bool) (c : Dev nD) : CellTallies nD τ sig ℕ :=
  owed q c 0 0 0 + tallyAt (cell (fro (q, true) c) (.bar q)) (ixBar q) 1 + tallyAt (cell (fro (q, false) c) (.bar q)) (ixBar q) 1

/-- A ring's dues beside others. -/
theorem due_add (q : Bool) (c : Dev nD) (R : CellTallies nD τ sig ℕ) : R + due q c
    = owed q c R 0 0 + tallyAt (cell (fro (q, true) c) (.bar q)) (ixBar q) 1 + tallyAt (cell (fro (q, false) c) (.bar q)) (ixBar q) 1 := by
  unfold due owed
  rw [zero_add]
  ac_rfl

theorem above_due (q : Bool) (c : Dev nD) : Above (base q) (due q c) := by
  have hi : ixBar q < 512 := by unfold ixBar base; split <;> decide
  have h : base q < ixBar q := by unfold ixBar; omega
  unfold due
  exact ((above_owed q c (Above.zero _) (by omega) (by omega) (by omega)).add (Above.tally _ _ _ _ h hi)).add (Above.tally _ _ _ _ h hi)

/-! ## What a ring needs beside its slots -/

/-- A ring's credits, tokens and barrier. -/
def ringKit (q : Bool) (c : Dev nD) : sProp 𝕄 :=
  iprop(((MR (F := F) c (q, false) 0 ∗ TR (F := F) c (q, false) 0) ∗ (MR (F := F) c (q, true) 0 ∗ TR (F := F) c (q, true) 0))
    ∗ (reached ER (cell (fro (q, false) c) (.bar q)) 0 ∗ reached ER (cell (fro (q, true) c) (.bar q)) 0)
    ∗ (dutyTok ER (cell (fro (q, false) c) (.bar q)) 0 false ∗ dutyTok ER (cell (fro (q, true) c) (.bar q)) 0 true)
    ∗ cred (tallyAt (cell c (.bar q)) (ixBar q) 2) ∗ atPos ER (cell c (.bar q)) 0 ∅ 0)

variable (A : Ln → ℕ → Dev nD → Vec F S1x1024x128 .f32)

/-- A ring before its kernel: its cells still to be opened. -/
def ringTk (q : Bool) (c : Dev nD) : sProp 𝕄 :=
  iprop(∃ κ, ctx A κ ∗ (openToks (F := F) c (q, false) ∗ openToks (F := F) c (q, true)) ∗ ringKit (F := F) q c)
/-- A ring as its kernel finds it: its cells open. -/
def ringXk (q : Bool) (c : Dev nD) : sProp 𝕄 :=
  iprop(∃ κ, ctx A κ ∗ (pos (F := F) c (q, false) 0 0 ∗ pos (F := F) c (q, true) 0 0) ∗ ringKit (F := F) q c)
/-- A ring after its kernel: its barrier's counter at zero. -/
def ringYk (q : Bool) (c : Dev nD) : sProp 𝕄 := semVal (cell c (.bar q)) 0

/-- A ring's cells are opened, their counters at zero. -/
theorem ring_open (q : Bool) (c : Dev nD) :
    iprop(ringTk A q c ∗ Pipeline.ownSems0 (osem q) c ∗ levAts L lv) ⊢ |={Set.univ}=> ringXk A q c := by
  rw [ownSems_eq]
  unfold ringTk ringXk
  iintro ⟨⟨%κ, #Hc, ⟨Ho, Ho'⟩, Hk⟩, ⟨Hs, Hs'⟩, -⟩
  imod (lane_open A κ c (q, false)) $$ [Ho Hs] with Hp
  · isplitr; · iexact Hc
    isplitl [Ho] <;> iassumption
  imod (lane_open A κ c (q, true)) $$ [Ho' Hs'] with Hp'
  · isplitr; · iexact Hc
    isplitl [Ho'] <;> iassumption
  imodintro
  iexists κ
  isplitr; · iexact Hc
  isplitl [Hp Hp']
  · isplitl [Hp] <;> iassumption
  iexact Hk

/-- What a ring's kernel starts from, of its buffers, its cells and its dues. -/
theorem ring_entry (q : Bool) (c : Dev nD) (R : CellTallies nD τ sig ℕ) :
    iprop(bufAny (F := F) c (q, false) ∗ bufAny (F := F) c (q, true) ∗ ringXk A q c ∗ owing c (R + due q c))
      ⊢ iprop(∃ κ, ctx A κ ∗ entry (F := F) c q R) := by
  unfold ringXk ringKit entry
  rw [due_add]
  iintro ⟨Hb, Hb', ⟨%κ, #Hc, Hp, Hm, Hr, Ht, Hcr, Ha⟩, HO⟩
  iexists κ
  isplitr; · iexact Hc
  isplitl [Hb Hb']
  · isplitl [Hb]
    · iapply (buf_split c (q, false)); iexact Hb
    · iapply (buf_split c (q, true)); iexact Hb'
  isplitl [Hp]; · iexact Hp
  isplitl [Hm]; · iexact Hm
  isplitl [Hr]; · iexact Hr
  isplitl [Ht]; · iexact Ht
  isplitl [Hcr]; · iexact Hcr
  isplitl [Ha]; · iexact Ha
  iexact HO

/-- What a ring's kernel ends with: its buffers, its counters at zero, and what it owed besides. -/
theorem ring_leave (q : Bool) (κ : GSem nD τ sig → ℕ) (c : Dev nD) (R : CellTallies nD τ sig ℕ) :
    iprop(ctx A κ ∗ leave (F := F) c q R)
      ⊢ |={Set.univ}=> iprop(bufAny (F := F) c (q, false) ∗ bufAny (F := F) c (q, true) ∗ Pipeline.ownSems0 (osem q) c ∗ ringYk (F := F) q c ∗ owing c R) := by
  rw [ownSems_eq]
  unfold leave done ringYk
  iintro ⟨#Hc, ⟨Hb, Hp⟩, ⟨Hb', Hp'⟩, Ha, HO⟩
  imod (lane_close A κ c (q, false)) $$ [Hp] with Hs
  · isplitr; · iexact Hc
    iexact Hp
  imod (lane_close A κ c (q, true)) $$ [Hp'] with Hs'
  · isplitr; · iexact Hc
    iexact Hp'
  imod (bar_close A κ c q) $$ [Ha] with Hbar
  · isplitr; · iexact Hc
    iexact Ha
  imodintro
  isplitl [Hb]; · iapply (buf_join c (q, false)); iexact Hb
  isplitl [Hb']; · iapply (buf_join c (q, true)); iexact Hb'
  isplitl [Hs Hs']
  · isplitl [Hs] <;> iassumption
  isplitl [Hbar] <;> iassumption

end Cert.KernelIdeal.Ring
-- ==== Proof.Dats.lean ====
/- The three calls' proof data: what each window's array holds before its call, what the call leaves in each
   window's buffer, what the call owes, and what stands before and after its one point. -/
module

public import proofs.«01_k».proof.Proof.Vals
public import Idealize.ShloMosaic.Lib.Pipeline.ValueKit.Geometry

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig ℕ (Elt F) ℕ UU ℕ

variable (m : (ℓ : Loc nD τ sig) → Buf (Elt F) ℓ)

/-- Something before the one point, something else after it. -/
def atStart {n : ℕ} (a b : sProp 𝕄) (t : Fin n) : sProp 𝕄 := if t.val = 0 then a else b
/-- Likewise for dues. -/
def oweAt {n : ℕ} (a b : CellTallies nD τ sig ℕ) (t : Fin n) : CellTallies nD τ sig ℕ := if t.val = 0 then a else b

omit [FloatOps F] in
theorem atStart_pos {n : ℕ} {a b : sProp 𝕄} {t : Fin n} (h : t.val = 0) : atStart a b t = a := if_pos h
omit [FloatOps F] in
theorem atStart_neg {n : ℕ} {a b : sProp 𝕄} {t : Fin n} (h : t.val ≠ 0) : atStart a b t = b := if_neg h
theorem oweAt_pos {n : ℕ} {a b : CellTallies nD τ sig ℕ} {t : Fin n} (h : t.val = 0) : oweAt a b t = a := if_pos h
theorem oweAt_neg {n : ℕ} {a b : CellTallies nD τ sig ℕ} {t : Fin n} (h : t.val ≠ 0) : oweAt a b t = b := if_neg h

/-- The reduce-scatter's. -/
def dat0 (c : Dev nD) : Dat τ (Elt F) ℕ ℕ UU ℕ cfg0 c where
  A w := V1 m c (Proc.devRef .tc (Pipeline.arrRef spec0 w))
  after := fun | 0, _ => kvOf m c | 1, _ => rsOut (kvOf m) c | ⟨_ + 2, h⟩, _ => absurd h (Nat.not_lt.2 (Nat.le_add_left _ _))
  Φ := atStart iprop(Pipeline.scopedRest spec0 c ∗ (∃ r, prngReg c r) ∗ ringXk (AA m) false c)
    iprop(Pipeline.scopedRest spec0 c ∗ (∃ r, prngReg c r) ∗ Pipeline.ownSems0 (osem false) c ∗ ringYk (F := F) false c)
  q _ := fullShare
  owed := oweAt (due true c + due false c) (due true c)

/-- The weighted values'. -/
def dat1 (c : Dev nD) : Dat τ (Elt F) ℕ ℕ UU ℕ cfg1 c where
  A w := V3 m (outs m) c (Proc.devRef .tc (Pipeline.arrRef spec1 w))
  after := fun | 0, _ => V3 m (outs m) c main_v47 | 1, _ => V3 m (outs m) c main_v10 | 2, _ => pvOut (V3 m (outs m) c main_v47) (V3 m (outs m) c main_v10) | ⟨_ + 3, h⟩, _ => absurd h (Nat.not_lt.2 (Nat.le_add_left _ _))
  Φ := fun _ => iprop(Pipeline.scopedRest spec1 c ∗ (∃ r, prngReg c r))
  q _ := fullShare
  owed := fun _ => due true c

/-- The all-gather's. -/
def dat2 (c : Dev nD) : Dat τ (Elt F) ℕ ℕ UU ℕ cfg2 c where
  A w := V5 m (outs m) c (Proc.devRef .tc (Pipeline.arrRef spec2 w))
  after := fun | 0, _ => xOf m c | 1, _ => agOut (xOf m) | ⟨_ + 2, h⟩, _ => absurd h (Nat.not_lt.2 (Nat.le_add_left _ _))
  Φ := atStart iprop(Pipeline.scopedRest spec2 c ∗ (∃ r, prngReg c r) ∗ ringXk (AA m) true c)
    iprop(Pipeline.scopedRest spec2 c ∗ (∃ r, prngReg c r) ∗ Pipeline.ownSems0 (osem true) c ∗ ringYk (F := F) true c)
  q _ := fullShare
  owed := oweAt (due true c) 0

/-- The three, by call. -/
def pdats (p : Fin 3) (c : Dev nD) : Dat τ (Elt F) ℕ ℕ UU ℕ (cfgs p) c :=
  match p with
  | 0 => dat0 m c
  | 1 => dat1 m c
  | 2 => dat2 m c

omit [FloatOps F] in
theorem owesAt_intro {cfg : Cfg sig Λ₀} {c : Dev nD} (dat : Dat τ (Elt F) ℕ ℕ UU ℕ cfg c) (t : Fin (cfg.N + 1))
    (O : CellTallies nD τ sig ℕ) (h0 : dat.owed t = O) (hr : dat.recorded t = Set.univ) :
    owing (F := F) c O ⊢ (dat.owesAt 0 t : sProp 𝕄) := by
  unfold owing Dat.owesAt Pipeline.owesWithin Dat.bound; rw [h0, hr]
  iintro ⟨%W, HO⟩; iexists W; isplitr; · ipureintro; exact fun _ _ => Or.inl trivial
  iexact HO
omit [FloatOps F] in
theorem owesAt_elim {cfg : Cfg sig Λ₀} {c : Dev nD} (dat : Dat τ (Elt F) ℕ ℕ UU ℕ cfg c) (t : Fin (cfg.N + 1))
    (O : CellTallies nD τ sig ℕ) (h0 : dat.owed t = O) :
    (dat.owesAt 0 t : sProp 𝕄) ⊢ owing (F := F) c O := by
  unfold owing Dat.owesAt Pipeline.owesWithin; rw [h0]
  iintro ⟨%W, -, HO⟩; iexists W; iexact HO

/-! ## What the windows hold before and after -/

omit [FloatOps F] in
/-- A fetched window whose one block is its whole array holds the array. -/
theorem before_whole {cfg : Cfg sig Λ₀} {c : Dev nD} (dat : Dat τ (Elt F) ℕ ℕ UU ℕ cfg c) (w : Fin cfg.W) (t : Fin cfg.N)
    (hf : (cfg.win w).fetch t = true)
    (hx : ∀ a, (cfg.win w).index t a = 0 ∧ (cfg.win w).xsize (cfg.grid.coords t) a = (cfg.win w).shape.size a)
    (hs : ∀ a, (cfg.win w).size a = (cfg.win w).shape.size a)
    (d : (cfg.win w).block.Idx → Elt F (cfg.win w).elt) :
    dat.before w t d = fun j => (cfg.win w).arr.view.read (Elt F) (dat.A w) (fun a => ⟨(j a).val, lt_of_lt_of_eq (j a).isLt (hs a)⟩) := by
  rw [dat.before_fetched w t hf]
  funext j
  have hm : (cfg.win w).moved (cfg.grid.coords t) j = true :=
    ((cfg.win w).moved_iff _ j).mpr fun a => by rw [(hx a).2]; exact lt_of_lt_of_eq (j a).isLt (hs a)
  unfold Dat.fetched Pipeline.Window.fill
  rw [dif_pos hm]
  show (cfg.win w).arr.view.read (Elt F) (dat.A w) (((cfg.win w).rect t).emb _) = _
  congr 1
  funext a
  apply Fin.ext
  rw [Pipeline.Window.rect_emb_val_of_index_zero _ _ _ (hx a).1]

omit [FloatOps F] in
theorem read0_0 (X : Vec F S32x2x1024x128 .f32) (h : ∀ (j : (cfg0.win 0).block.Idx) a, (j a).val < (cfg0.win 0).shape.size a) :
    (fun j : (cfg0.win 0).block.Idx => (cfg0.win 0).arr.view.read (Elt F) X (fun a => ⟨(j a).val, h j a⟩)) = X := rfl
theorem idx0_0 : ∀ a, (cfg0.win 0).index t0_0 a = 0 ∧ (cfg0.win 0).xsize (cfg0.grid.coords t0_0) a = (cfg0.win 0).shape.size a := by decide +kernel
theorem siz0_0 : ∀ a, (cfg0.win 0).size a = (cfg0.win 0).shape.size a := by decide +kernel
theorem A0_0 (c : Dev nD) : (dat0 m c).A 0 = kvOf m c := by
  unfold dat0 kvOf; rfl
omit [FloatOps F] in
theorem before0_0' {c : Dev nD} (dat : Dat τ (Elt F) ℕ ℕ UU ℕ cfg0 c) (X : Vec F S32x2x1024x128 .f32) (hA : dat.A 0 = X)
    (d : (cfg0.win 0).block.Idx → Elt F (cfg0.win 0).elt) : dat.before 0 t0_0 d = X := by
  rw [before_whole dat 0 t0_0 (fetch0_0 t0_0) idx0_0 siz0_0 d, hA]
  exact read0_0 X _
/-- What the window finds. -/
theorem before0_0 (c : Dev nD) (d : (cfg0.win 0).block.Idx → Elt F (cfg0.win 0).elt) : (dat0 m c).before 0 t0_0 d = kvOf m c :=
  before0_0' (dat0 m c) _ (A0_0 m c) d

omit [FloatOps F] in
theorem read1_0 (X : Vec F S4x256x256 .f32) (h : ∀ (j : (cfg1.win 0).block.Idx) a, (j a).val < (cfg1.win 0).shape.size a) :
    (fun j : (cfg1.win 0).block.Idx => (cfg1.win 0).arr.view.read (Elt F) X (fun a => ⟨(j a).val, h j a⟩)) = X := rfl
theorem idx1_0 : ∀ a, (cfg1.win 0).index t1_0 a = 0 ∧ (cfg1.win 0).xsize (cfg1.grid.coords t1_0) a = (cfg1.win 0).shape.size a := by decide +kernel
theorem siz1_0 : ∀ a, (cfg1.win 0).size a = (cfg1.win 0).shape.size a := by decide +kernel
theorem A1_0 (c : Dev nD) : (dat1 m c).A 0 = V3 m (outs m) c main_v47 := by
  unfold dat1; rfl
omit [FloatOps F] in
theorem before1_0' {c : Dev nD} (dat : Dat τ (Elt F) ℕ ℕ UU ℕ cfg1 c) (X : Vec F S4x256x256 .f32) (hA : dat.A 0 = X)
    (d : (cfg1.win 0).block.Idx → Elt F (cfg1.win 0).elt) : dat.before 0 t1_0 d = X := by
  rw [before_whole dat 0 t1_0 (fetch1_0 t1_0) idx1_0 siz1_0 d, hA]
  exact read1_0 X _
/-- What the window finds. -/
theorem before1_0 (c : Dev nD) (d : (cfg1.win 0).block.Idx → Elt F (cfg1.win 0).elt) : (dat1 m c).before 0 t1_0 d = V3 m (outs m) c main_v47 :=
  before1_0' (dat1 m c) _ (A1_0 m c) d

omit [FloatOps F] in
theorem read1_1 (X : Vec F S2x1024x128 .f32) (h : ∀ (j : (cfg1.win 1).block.Idx) a, (j a).val < (cfg1.win 1).shape.size a) :
    (fun j : (cfg1.win 1).block.Idx => (cfg1.win 1).arr.view.read (Elt F) X (fun a => ⟨(j a).val, h j a⟩)) = X := rfl
theorem idx1_1 : ∀ a, (cfg1.win 1).index t1_0 a = 0 ∧ (cfg1.win 1).xsize (cfg1.grid.coords t1_0) a = (cfg1.win 1).shape.size a := by decide +kernel
theorem siz1_1 : ∀ a, (cfg1.win 1).size a = (cfg1.win 1).shape.size a := by decide +kernel
theorem A1_1 (c : Dev nD) : (dat1 m c).A 1 = V3 m (outs m) c main_v10 := by
  unfold dat1; rfl
omit [FloatOps F] in
theorem before1_1' {c : Dev nD} (dat : Dat τ (Elt F) ℕ ℕ UU ℕ cfg1 c) (X : Vec F S2x1024x128 .f32) (hA : dat.A 1 = X)
    (d : (cfg1.win 1).block.Idx → Elt F (cfg1.win 1).elt) : dat.before 1 t1_0 d = X := by
  rw [before_whole dat 1 t1_0 (fetch1_1 t1_0) idx1_1 siz1_1 d, hA]
  exact read1_1 X _
/-- What the window finds. -/
theorem before1_1 (c : Dev nD) (d : (cfg1.win 1).block.Idx → Elt F (cfg1.win 1).elt) : (dat1 m c).before 1 t1_0 d = V3 m (outs m) c main_v10 :=
  before1_1' (dat1 m c) _ (A1_1 m c) d

omit [FloatOps F] in
theorem read2_0 (X : Vec F S1024x128 .f32) (h : ∀ (j : (cfg2.win 0).block.Idx) a, (j a).val < (cfg2.win 0).shape.size a) :
    (fun j : (cfg2.win 0).block.Idx => (cfg2.win 0).arr.view.read (Elt F) X (fun a => ⟨(j a).val, h j a⟩)) = X := rfl
theorem idx2_0 : ∀ a, (cfg2.win 0).index t2_0 a = 0 ∧ (cfg2.win 0).xsize (cfg2.grid.coords t2_0) a = (cfg2.win 0).shape.size a := by decide +kernel
theorem siz2_0 : ∀ a, (cfg2.win 0).size a = (cfg2.win 0).shape.size a := by decide +kernel
theorem A2_0 (c : Dev nD) : (dat2 m c).A 0 = xOf m c := by
  unfold dat2 xOf; rfl
omit [FloatOps F] in
theorem before2_0' {c : Dev nD} (dat : Dat τ (Elt F) ℕ ℕ UU ℕ cfg2 c) (X : Vec F S1024x128 .f32) (hA : dat.A 0 = X)
    (d : (cfg2.win 0).block.Idx → Elt F (cfg2.win 0).elt) : dat.before 0 t2_0 d = X := by
  rw [before_whole dat 0 t2_0 (fetch2_0 t2_0) idx2_0 siz2_0 d, hA]
  exact read2_0 X _
/-- What the window finds. -/
theorem before2_0 (c : Dev nD) (d : (cfg2.win 0).block.Idx → Elt F (cfg2.win 0).elt) : (dat2 m c).before 0 t2_0 d = xOf m c :=
  before2_0' (dat2 m c) _ (A2_0 m c) d

theorem whole0_1 : (cfg0.win 1).WholeAt t0_0 := by decide +kernel
omit [FloatOps F] in
theorem end0_1' {c : Dev nD} (dat : Dat τ (Elt F) ℕ ℕ UU ℕ cfg0 c) (X : Vec F S2x1024x128 .f32) (h : dat.after 1 t0_0 = X) :
    dat.arrAt 1 cfg0.N = X :=
  Dat.arrAt_eq_of_after_last dat 1 t0_0 whole0_1 _ fun j => by rw [h]; rfl
/-- What the window's array ends with. -/
theorem end0_1 (c : Dev nD) : (dat0 m c).arrAt 1 cfg0.N = V2 m (outs m) c main_v10 :=
  (end0_1' (dat0 m c) _ rfl).trans (V2_v10 m c).symm

theorem whole1_2 : (cfg1.win 2).WholeAt t1_0 := by decide +kernel
omit [FloatOps F] in
theorem end1_2' {c : Dev nD} (dat : Dat τ (Elt F) ℕ ℕ UU ℕ cfg1 c) (X : Vec F S4x256x128 .f32) (h : dat.after 2 t1_0 = X) :
    dat.arrAt 2 cfg1.N = X :=
  Dat.arrAt_eq_of_after_last dat 2 t1_0 whole1_2 _ fun j => by rw [h]; rfl
/-- What the window's array ends with. -/
theorem end1_2 (c : Dev nD) : (dat1 m c).arrAt 2 cfg1.N = V4 m (outs m) c main_v48 :=
  (end1_2' (dat1 m c) _ rfl).trans (V4_v48 m c).symm

theorem whole2_1 : (cfg2.win 1).WholeAt t2_0 := by decide +kernel
omit [FloatOps F] in
theorem end2_1' {c : Dev nD} (dat : Dat τ (Elt F) ℕ ℕ UU ℕ cfg2 c) (X : Vec F S32x1024x128 .f32) (h : dat.after 1 t2_0 = X) :
    dat.arrAt 1 cfg2.N = X :=
  Dat.arrAt_eq_of_after_last dat 1 t2_0 whole2_1 _ fun j => by rw [h]; rfl
/-- What the window's array ends with. -/
theorem end2_1 (c : Dev nD) : (dat2 m c).arrAt 1 cfg2.N = V6 m (outs m) c main_v50 :=
  (end2_1' (dat2 m c) _ rfl).trans (V6_v50 m c).symm

theorem end0 (c : Dev nD) : ∀ w : Fin 2, (dat0 m c).arrAt w cfg0.N = V2 m (outs m) c (Proc.devRef .tc (Pipeline.arrRef spec0 w))
  | 0 => (Dat.arrAt_in (dat0 m c) 0 rfl _).trans (V2_of m (outs m) c main_v9 (by decide)).symm
  | 1 => end0_1 m c
theorem end1 (c : Dev nD) : ∀ w : Fin 3, (dat1 m c).arrAt w cfg1.N = V4 m (outs m) c (Proc.devRef .tc (Pipeline.arrRef spec1 w))
  | 0 => (Dat.arrAt_in (dat1 m c) 0 rfl _).trans (V4_of m (outs m) c main_v47 (by decide)).symm
  | 1 => (Dat.arrAt_in (dat1 m c) 1 rfl _).trans (V4_of m (outs m) c main_v10 (by decide)).symm
  | 2 => end1_2 m c
theorem end2 (c : Dev nD) : ∀ w : Fin 2, (dat2 m c).arrAt w cfg2.N = V6 m (outs m) c (Proc.devRef .tc (Pipeline.arrRef spec2 w))
  | 0 => (Dat.arrAt_in (dat2 m c) 0 rfl _).trans (V6_of m (outs m) c main_v49 (by decide)).symm
  | 1 => end2_1 m c

end Cert.KernelIdeal.Ring
-- ==== Proof.Bodies.lean ====
/- The three kernels at their one point: each runs from what it finds to what it leaves. -/
module

public import proofs.«01_k».proof.Proof.Dats

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig ℕ (Elt F) ℕ UU ℕ

variable (m : (ℓ : Loc nD τ sig) → Buf (Elt F) ℓ)

/-! ## The scoped buffers no window stages -/

/-- A scoped buffer at any contents. -/
abbrev someBuf (c : Dev nD) (r : Ref sig .tc) : sProp 𝕄 :=
  iprop(∃ f : Buf (Elt F) ((c : Thread nD τ).loc r), ((c : Thread nD τ).loc r) ↦{fullShare} f)

omit [FloatOps F] in
theorem buf_ff (c : Dev nD) : bufAny (F := F) c (false, false) = someBuf c cc0_scratch0 := rfl
omit [FloatOps F] in
theorem buf_ft (c : Dev nD) : bufAny (F := F) c (false, true) = someBuf c cc0_scratch1 := rfl
omit [FloatOps F] in
theorem buf_tf (c : Dev nD) : bufAny (F := F) c (true, false) = someBuf c cc2_scratch0 := rfl
omit [FloatOps F] in
theorem buf_tt (c : Dev nD) : bufAny (F := F) c (true, true) = someBuf c cc2_scratch1 := rfl

omit [FloatOps F] in
theorem rest0_out (c : Dev nD) : (Pipeline.scopedRest spec0 c : sProp 𝕄) ⊢ iprop(bufAny (F := F) c (false, false) ∗ bufAny (F := F) c (false, true)
    ∗ (iprop(bufAny (F := F) c (false, false) ∗ bufAny (F := F) c (false, true)) -∗ Pipeline.scopedRest spec0 c)) := by
  rw [scopedRest0_eq, buf_ff, buf_ft]
  iintro ⟨H0, H1, H⟩
  isplitl [H0]; · iexact H0
  isplitl [H1]; · iexact H1
  iintro ⟨H0, H1⟩
  isplitl [H0]; · iexact H0
  isplitl [H1]; · iexact H1
  iexact H

omit [FloatOps F] in
theorem rest2_out (c : Dev nD) : (Pipeline.scopedRest spec2 c : sProp 𝕄) ⊢ iprop(bufAny (F := F) c (true, false) ∗ bufAny (F := F) c (true, true)
    ∗ (iprop(bufAny (F := F) c (true, false) ∗ bufAny (F := F) c (true, true)) -∗ Pipeline.scopedRest spec2 c)) := by
  rw [scopedRest2_eq, buf_tf, buf_tt]
  iintro ⟨H0, H1, H2, H3, H4, H5, H6, H7, H8⟩
  isplitl [H7]; · iexact H7
  isplitl [H8]; · iexact H8
  iintro ⟨H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7] <;> iassumption

/-! ## The reduce-scatter -/

theorem body0_eq : bodyAt0 (F := F) t0_0 = rsProg (win0_0.stage (cfg0.slots t0_0 0)) (win0_1.stage (cfg0.slots t0_0 1)) (lane (false, false)) (lane (false, true)) := by
  unfold bodyAt0; rw [cc0_body_eq_rsProg]; rfl

theorem owed0_eq (c : Dev nD) : (dat0 m c).owed = oweAt (due true c + due false c) (due true c) := rfl
theorem phi0_eq (c : Dev nD) : (dat0 m c).Φ = atStart
    iprop(Pipeline.scopedRest spec0 c ∗ (∃ r, prngReg c r) ∗ ringXk (AA m) false c)
    iprop(Pipeline.scopedRest spec0 c ∗ (∃ r, prngReg c r) ∗ Pipeline.ownSems0 (osem false) c ∗ ringYk (F := F) false c) := rfl
theorem owed0_first (c : Dev nD) : (dat0 m c).owed t0_0.castSucc = due true c + due false c := by
  rw [owed0_eq]; exact oweAt_pos (t := t0_0.castSucc) rfl
theorem owed0_last (c : Dev nD) : (dat0 m c).owed t0_0.succ = due true c := by
  rw [owed0_eq]; exact oweAt_neg (t := t0_0.succ) (by decide)
theorem phi0_first (c : Dev nD) : (dat0 m c).Φ t0_0.castSucc = iprop(Pipeline.scopedRest spec0 c ∗ (∃ r, prngReg c r) ∗ ringXk (AA m) false c) := by
  rw [phi0_eq]; exact atStart_pos (t := t0_0.castSucc) rfl
theorem phi0_last (c : Dev nD) : (dat0 m c).Φ t0_0.succ = iprop(Pipeline.scopedRest spec0 c ∗ (∃ r, prngReg c r) ∗ Pipeline.ownSems0 (osem false) c ∗ ringYk (F := F) false c) := by
  rw [phi0_eq]; exact atStart_neg (t := t0_0.succ) (by decide)

theorem above_due_true (c : Dev nD) : Above 200 (due true c) := (above_due true c).mono (by decide)

/-- The reduce-scatter runs from its entry to its end. -/
theorem run0 (c : Dev nD) (mm : Memref sig .tc .vmem S32x2x1024x128 .f32) (out : Memref sig .tc .vmem S2x1024x128 .f32) (Y : Vec F S2x1024x128 .f32)
    {Q : PUnit → sProp 𝕄} :
    iprop((Pipeline.scopedRest spec0 c ∗ (∃ r, prngReg c r) ∗ ringXk (AA m) false c) ∗ owing (F := F) c (due true c + due false c)
        ∗ owns (c : Thread nD τ) mm fullShare (kvOf m c) ∗ owns (c : Thread nD τ) out fullShare Y)
      ⊢ iprop((((Pipeline.scopedRest spec0 c ∗ (∃ r, prngReg c r) ∗ Pipeline.ownSems0 (osem false) c ∗ ringYk (F := F) false c) ∗ owing (F := F) c (due true c)
        ∗ owns (c : Thread nD τ) mm fullShare (kvOf m c) ∗ owns (c : Thread nD τ) out fullShare (rsOut (kvOf m) c)) -∗ Q ⟨⟩)
        -∗ WP c (rsProg mm out (lane (false, false)) (lane (false, true))) Q) := by
  iintro ⟨⟨Hr, Hg, Hx⟩, HO, Hm, Ho⟩ Hk
  ihave Hr' := (rest0_out c) $$ Hr
  icases Hr' with ⟨Hb, Hb', Hrest⟩
  ihave He := (ring_entry (AA m) false c (due true c)) $$ [Hb Hb' Hx HO]
  · isplitl [Hb]; · iexact Hb
    isplitl [Hb']; · iexact Hb'
    isplitl [Hx] <;> iassumption
  icases He with ⟨%κ, #Hctx, He⟩
  iapply (rs_run (kvOf m) (xOf m) κ c mm out Y (above_due_true c)) $$ [He Hm Ho]
  · isplitr; · iexact Hctx
    isplitl [He]; · iexact He
    isplitl [Hm] <;> iassumption
  iintro ⟨Hl, Hm, Ho⟩
  imod (ring_leave (AA m) false κ c (due true c)) $$ [Hl] with ⟨Hb, Hb', Hs, Hy, HO⟩
  · isplitr; · iexact Hctx
    iexact Hl
  imodintro
  iapply Hk
  isplitr [HO Hm Ho]
  · isplitl [Hb Hb' Hrest]
    · iapply Hrest
      isplitl [Hb] <;> iassumption
    isplitl [Hg]; · iexact Hg
    isplitl [Hs] <;> iassumption
  isplitl [HO]; · iexact HO
  isplitl [Hm] <;> iassumption

theorem body0 (c : Dev nD) : BodyObligation (dat0 m c) defs₀ 𝒱₀ 0 Set.univ := fun t => by
  obtain rfl := fin_N0 t
  rw [bigSep_W0, bigSep_W0]
  show _ ⊢ WP c (bodyAt0 t0_0) _
  rw [body0_eq, phi0_first, phi0_last]
  iintro ⟨HΦ, HO, ⟨%d, Hm⟩, ⟨%d', Ho⟩⟩
  ihave HO' := (owesAt_elim (dat0 m c) _ _ (owed0_first m c)) $$ HO
  rw [before0_0]
  iapply (run0 m c _ _ _) $$ [HΦ HO' Hm Ho]
  · isplitl [HΦ]; · iexact HΦ
    isplitl [HO']; · iexact HO'
    isplitl [Hm]; · iexact Hm
    iexact Ho
  iintro ⟨HΦ, HO, Hm, Ho⟩
  isplitl [HΦ]; · iexact HΦ
  isplitl [HO]
  · iapply (owesAt_intro (dat0 m c) _ _ (owed0_last m c) rfl); iexact HO
  isplitl [Hm]; · iexact Hm
  iexact Ho

/-! ## The all-gather -/

theorem body2_eq : bodyAt2 (F := F) t2_0 = agProg (win2_0.stage (cfg2.slots t2_0 0)) (win2_1.stage (cfg2.slots t2_0 1)) (lane (true, false)) (lane (true, true)) := by
  unfold bodyAt2; rw [cc2_body_eq_agProg]; rfl

theorem owed2_eq (c : Dev nD) : (dat2 m c).owed = oweAt (due true c) (0) := rfl
theorem phi2_eq (c : Dev nD) : (dat2 m c).Φ = atStart
    iprop(Pipeline.scopedRest spec2 c ∗ (∃ r, prngReg c r) ∗ ringXk (AA m) true c)
    iprop(Pipeline.scopedRest spec2 c ∗ (∃ r, prngReg c r) ∗ Pipeline.ownSems0 (osem true) c ∗ ringYk (F := F) true c) := rfl
theorem owed2_first (c : Dev nD) : (dat2 m c).owed t2_0.castSucc = 0 + due true c := by
  rw [owed2_eq]; exact (zero_add (due true c)).symm ▸ oweAt_pos (t := t2_0.castSucc) rfl
theorem owed2_last (c : Dev nD) : (dat2 m c).owed t2_0.succ = 0 := by
  rw [owed2_eq]; exact oweAt_neg (t := t2_0.succ) (by decide)
theorem phi2_first (c : Dev nD) : (dat2 m c).Φ t2_0.castSucc = iprop(Pipeline.scopedRest spec2 c ∗ (∃ r, prngReg c r) ∗ ringXk (AA m) true c) := by
  rw [phi2_eq]; exact atStart_pos (t := t2_0.castSucc) rfl
theorem phi2_last (c : Dev nD) : (dat2 m c).Φ t2_0.succ = iprop(Pipeline.scopedRest spec2 c ∗ (∃ r, prngReg c r) ∗ Pipeline.ownSems0 (osem true) c ∗ ringYk (F := F) true c) := by
  rw [phi2_eq]; exact atStart_neg (t := t2_0.succ) (by decide)

/-- The all-gather runs from its entry to its end. -/
theorem run2 (c : Dev nD) (mm : Memref sig .tc .vmem S1024x128 .f32) (out : Memref sig .tc .vmem S32x1024x128 .f32) (Y : Vec F S32x1024x128 .f32)
    {Q : PUnit → sProp 𝕄} :
    iprop((Pipeline.scopedRest spec2 c ∗ (∃ r, prngReg c r) ∗ ringXk (AA m) true c) ∗ owing (F := F) c (0 + due true c)
        ∗ owns (c : Thread nD τ) mm fullShare (xOf m c) ∗ owns (c : Thread nD τ) out fullShare Y)
      ⊢ iprop((((Pipeline.scopedRest spec2 c ∗ (∃ r, prngReg c r) ∗ Pipeline.ownSems0 (osem true) c ∗ ringYk (F := F) true c) ∗ owing (F := F) c (0)
        ∗ owns (c : Thread nD τ) mm fullShare (xOf m c) ∗ owns (c : Thread nD τ) out fullShare (agOut (xOf m))) -∗ Q ⟨⟩)
        -∗ WP c (agProg mm out (lane (true, false)) (lane (true, true))) Q) := by
  iintro ⟨⟨Hr, Hg, Hx⟩, HO, Hm, Ho⟩ Hk
  ihave Hr' := (rest2_out c) $$ Hr
  icases Hr' with ⟨Hb, Hb', Hrest⟩
  ihave He := (ring_entry (AA m) true c (0)) $$ [Hb Hb' Hx HO]
  · isplitl [Hb]; · iexact Hb
    isplitl [Hb']; · iexact Hb'
    isplitl [Hx] <;> iassumption
  icases He with ⟨%κ, #Hctx, He⟩
  iapply (ag_run (kvOf m) (xOf m) κ c mm out Y (Above.zero _)) $$ [He Hm Ho]
  · isplitr; · iexact Hctx
    isplitl [He]; · iexact He
    isplitl [Hm] <;> iassumption
  iintro ⟨Hl, Hm, Ho⟩
  imod (ring_leave (AA m) true κ c (0)) $$ [Hl] with ⟨Hb, Hb', Hs, Hy, HO⟩
  · isplitr; · iexact Hctx
    iexact Hl
  imodintro
  iapply Hk
  isplitr [HO Hm Ho]
  · isplitl [Hb Hb' Hrest]
    · iapply Hrest
      isplitl [Hb] <;> iassumption
    isplitl [Hg]; · iexact Hg
    isplitl [Hs] <;> iassumption
  isplitl [HO]; · iexact HO
  isplitl [Hm] <;> iassumption

theorem body2 (c : Dev nD) : BodyObligation (dat2 m c) defs₀ 𝒱₀ 0 Set.univ := fun t => by
  obtain rfl := fin_N2 t
  rw [bigSep_W2, bigSep_W2]
  show _ ⊢ WP c (bodyAt2 t2_0) _
  rw [body2_eq, phi2_first, phi2_last]
  iintro ⟨HΦ, HO, ⟨%d, Hm⟩, ⟨%d', Ho⟩⟩
  ihave HO' := (owesAt_elim (dat2 m c) _ _ (owed2_first m c)) $$ HO
  rw [before2_0]
  iapply (run2 m c _ _ _) $$ [HΦ HO' Hm Ho]
  · isplitl [HΦ]; · iexact HΦ
    isplitl [HO']; · iexact HO'
    isplitl [Hm]; · iexact Hm
    iexact Ho
  iintro ⟨HΦ, HO, Hm, Ho⟩
  isplitl [HΦ]; · iexact HΦ
  isplitl [HO]
  · iapply (owesAt_intro (dat2 m c) _ _ (owed2_last m c) rfl); iexact HO
  isplitl [Hm]; · iexact Hm
  iexact Ho

/-! ## The weighted values -/

omit [FloatOps F] in
theorem zero3 : (![0, 0, 0] : Fin 3 → ℕ) = fun _ => 0 := by decide
omit [FloatOps F] in
/-- A store over the whole block leaves what is stored. -/
theorem put_all (Y w : Vec F S4x256x128 .f32) : VecWindow.put (s := S4x256x128) Y ![0, 0, 0] S4x256x128.size w = w := by
  funext y
  have h : ∀ a, (![0, 0, 0] : Fin 3 → ℕ) a ≤ (y a).val ∧ (y a).val < (![0, 0, 0] : Fin 3 → ℕ) a + S4x256x128.size a := fun a => by
    rw [zero3]; exact ⟨Nat.zero_le _, by rw [Nat.zero_add]; exact (y a).isLt⟩
  refine (dif_pos h).trans ?_
  congr 1
  funext a; apply Fin.ext
  show (y a).val - (![0, 0, 0] : Fin 3 → ℕ) a = _
  rw [zero3]; rfl

theorem wp_done (c : Dev nD) {Q : PUnit → sProp 𝕄} :
    Q ⟨⟩ ⊢ (WP c ((Prog.ret PUnit.unit).bind fun _ => Pure.pure PUnit.unit) Q : sProp 𝕄) := by
  show _ ⊢ WP c (.ret PUnit.unit) Q
  unfold WP
  rw [wp_ret]
  iintro H; imodintro; iexact H

/-- The weighted values' one block, computed from the two inputs. -/
theorem run1 (c : Dev nD) (a : Memref sig .tc .vmem S4x256x256 .f32) (ha : a.IsWhole) (b : Memref sig .tc .vmem S2x1024x128 .f32) (hb : b.IsWhole)
    (o : Memref sig .tc .vmem S4x256x128 .f32) (ho : o.IsWhole) (p : Vec F S4x256x256 .f32) (kv : Vec F S2x1024x128 .f32) (Y : Vec F S4x256x128 .f32)
    {Q : PUnit → sProp 𝕄} :
    iprop(owns (c : Thread nD τ) a fullShare p ∗ owns (c : Thread nD τ) b fullShare kv ∗ owns (c : Thread nD τ) o fullShare Y)
      ⊢ iprop(((owns (c : Thread nD τ) a fullShare p ∗ owns (c : Thread nD τ) b fullShare kv ∗ owns (c : Thread nD τ) o fullShare (pvOut p kv)) -∗ Q ⟨⟩)
        -∗ WP c (cc1_body a ha b hb o ho) Q) := by
  unfold cc1_body
  iintro ⟨Ha, Hb, Ho⟩ Hk
  iapply (wp_load_owns c b _ fullShare kv) $$ Hb
  iintro Hb
  iapply (wp_load_owns c a _ fullShare p) $$ Ha
  iintro Ha
  iapply (wp_load_owns c o _ fullShare Y) $$ Ho
  iintro Ho
  iapply (wp_store_owns c o _ _ _ _ Y) $$ Ho
  iintro Ho
  iapply (wp_done c)
  iapply Hk
  rw [put_all, shapeCast_self, View.ld_unit_zero zero3]
  isplitl [Ha]; · iexact Ha
  isplitl [Hb]; · iexact Hb
  iexact Ho

theorem phi1_eq (c : Dev nD) : (dat1 m c).Φ = fun _ => iprop(Pipeline.scopedRest spec1 c ∗ (∃ r, prngReg c r)) := rfl
theorem owed1_eq (c : Dev nD) (t) : (dat1 m c).owed t = due true c := rfl

theorem body1 (c : Dev nD) : BodyObligation (dat1 m c) defs₀ 𝒱₀ 0 Set.univ := fun t => by
  obtain rfl := fin_N1 t
  rw [bigSep_W1, bigSep_W1]
  show _ ⊢ WP c (bodyAt1 t1_0) _
  unfold bodyAt1
  rw [phi1_eq]
  iintro ⟨HΦ, HO, ⟨%d, Ha⟩, ⟨%d', Hb⟩, ⟨%d'', Ho⟩⟩
  ihave HO' := (owesAt_elim (dat1 m c) _ _ (owed1_eq m c _)) $$ HO
  rw [before1_0, before1_1]
  iapply (run1 c _ _ _ _ _ _ _ _ _) $$ [Ha Hb Ho]
  · isplitl [Ha]; · iexact Ha
    isplitl [Hb]; · iexact Hb
    iexact Ho
  iintro ⟨Ha, Hb, Ho⟩
  isplitl [HΦ]; · iexact HΦ
  isplitl [HO']
  · iapply (owesAt_intro (dat1 m c) _ _ (owed1_eq m c _) rfl); iexact HO'
  isplitl [Ha]; · iexact Ha
  isplitl [Hb]; · iexact Hb
  iexact Ho

end Cert.KernelIdeal.Ring
-- ==== Proof.Segs.lean ====
/- The three calls as segments of the program, and the states between them. -/
module

public import proofs.«01_k».proof.Proof.Bodies
public import Idealize.ShloMosaic.Lib.Pipeline.RegionTalk

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig ℕ (Elt F) ℕ UU ℕ

variable (m : (ℓ : Loc nD τ sig) → Buf (Elt F) ℓ)

/-- The register that draws random words, at any state. -/
abbrev prng (c : Dev nD) : sProp 𝕄 := iprop(∃ r, prngReg c r)

/-- What a device holds beside its buffers: before the first call, between the calls (twice the same), after the last. -/
def EE (k : Fin 4) (c : Dev nD) : sProp 𝕄 :=
  match k with
  | 0 => iprop(prng c ∗ ringTk (AA m) false c ∗ ringTk (AA m) true c ∗ owing (F := F) c (due true c + due false c))
  | 1 => iprop(prng c ∗ ringYk (F := F) false c ∗ ringTk (AA m) true c ∗ owing (F := F) c (due true c))
  | 2 => iprop(prng c ∗ ringYk (F := F) false c ∗ ringTk (AA m) true c ∗ owing (F := F) c (due true c))
  | 3 => iprop(prng c ∗ ringYk (F := F) false c ∗ ringYk (F := F) true c ∗ owing (F := F) c 0)

/-- The buffers that a call leaves alone. -/
def sr (S : Finset (DevRef τ sig)) : Finset (DevRef τ sig) := Pipeline.ucRefs τ sig \ S

theorem arr_sub0 : Pipeline.arrRefs (τ := τ) spec0 ⊆ Pipeline.ucRefs τ sig := by decide +kernel
theorem arr_sub1 : Pipeline.arrRefs (τ := τ) spec1 ⊆ Pipeline.ucRefs τ sig := by decide +kernel
theorem arr_sub2 : Pipeline.arrRefs (τ := τ) spec2 ⊆ Pipeline.ucRefs τ sig := by decide +kernel
theorem out_mem0 : (Proc.devRef .tc main_v10 : DevRef τ sig) ∈ Pipeline.arrRefs (τ := τ) spec0 := by decide +kernel
theorem out_mem1 : (Proc.devRef .tc main_v48 : DevRef τ sig) ∈ Pipeline.arrRefs (τ := τ) spec1 := by decide +kernel
theorem out_mem2 : (Proc.devRef .tc main_v50 : DevRef τ sig) ∈ Pipeline.arrRefs (τ := τ) spec2 := by decide +kernel

omit [FloatOps F] in
/-- A buffer that a call leaves alone keeps its contents. -/
theorem rest_same (S : Finset (DevRef τ sig)) (V V' : Valuation τ sig (Elt F)) (b : DevRef τ sig) (hb : b ∈ S) (h : ∀ d, d ≠ b → V' d = V d) :
    ∀ d ∈ sr S \ ∅, V' d = V d := fun d hd =>
  h d (fun e => (Finset.mem_sdiff.mp (Finset.mem_sdiff.mp hd).1).2 (by rw [e]; exact hb))

omit [FloatOps F] in
theorem held_none (c : Dev nD) (V : Valuation τ sig (Elt F)) : (StableHlo.held (c.tc : Thread nD τ) (∅ : Finset (DevRef τ sig)) V : sProp 𝕄) = BI.emp := by
  unfold StableHlo.held; exact BI.bigSep_empty

theorem zero_mem (c : Dev nD) (sm) : (0 : ℕ) ∈ L ((c : Thread nD τ), sm) := by
  unfold L; rw [if_pos rfl]; exact Finset.mem_range.mpr (by decide)
theorem cut_above {n : ℕ} {O : CellTallies nD τ sig ℕ} (h : Above n O) (g : GSem nD τ sig) (i : ℕ) (hp : 0 < O g i) : i ∈ L g ∧ 0 < lv g i := by
  obtain ⟨h1, h2, h3⟩ := h g i hp
  refine ⟨?_, ?_⟩
  · unfold L; rw [if_pos h1]; exact Finset.mem_range.mpr h3
  · show 0 < i
    omega

theorem above_owe0 (c : Dev nD) : ∀ t, Above 0 ((dat0 m c).owed t) := fun t => by
  rw [owed0_eq]; unfold oweAt
  split
  · exact ((above_due true c).mono (Nat.zero_le _)).add ((above_due false c).mono (Nat.zero_le _))
  · exact (above_due true c).mono (Nat.zero_le _)
theorem above_owe1 (c : Dev nD) : ∀ t, Above 0 ((dat1 m c).owed t) := fun t => by
  rw [owed1_eq]; exact (above_due true c).mono (Nat.zero_le _)
theorem above_owe2 (c : Dev nD) : ∀ t, Above 0 ((dat2 m c).owed t) := fun t => by
  rw [owed2_eq]; unfold oweAt
  split
  · exact (above_due true c).mono (Nat.zero_le _)
  · exact Above.zero _

/-! ## The records -/

theorem hopen (q : Bool) (c : Dev nD) : iprop(ringTk (AA m) q c ∗ Pipeline.ownSems0 (osem q) c ∗ levAts L lv) ⊢ (|={Set.univ}=> ringXk (AA m) q c : sProp 𝕄) :=
  ring_open (AA m) q c

omit [FloatOps F] in
theorem own_facts0 : Pipeline.OwnSemFacts spec0 (osem false) := by decide +kernel
omit [FloatOps F] in
theorem own_facts2 : Pipeline.OwnSemFacts spec2 (osem true) := by decide +kernel

theorem last0 (c : Dev nD) : (dat0 m c).owed (Fin.last _) = due true c := owed0_last m c
theorem zero0 (c : Dev nD) : (dat0 m c).owed 0 = due true c + due false c := owed0_first m c
theorem zero2 (c : Dev nD) : (dat2 m c).owed 0 = 0 + due true c := owed2_first m c
theorem last2 (c : Dev nD) : (dat2 m c).owed (Fin.last _) = 0 := owed2_last m c

theorem hin0 (c : Dev nD) : iprop(Pipeline.scopedRest spec0 c ∗ (∃ r, prngReg c r) ∗ StableHlo.held (c.tc : Thread nD τ) ∅ (V1 m c) ∗ ringXk (AA m) false c)
    ⊢ (dat0 m c).Φ 0 := by
  rw [held_none, show (dat0 m c).Φ 0 = _ from phi0_first m c]
  iintro ⟨H1, H2, -, H3⟩
  isplitl [H1]; · iexact H1
  isplitl [H2] <;> iassumption
theorem hout0 (c : Dev nD) : (dat0 m c).Φ (Fin.last _)
    ⊢ iprop(Pipeline.scopedRest spec0 c ∗ (∃ r, prngReg c r) ∗ StableHlo.held (c.tc : Thread nD τ) ∅ (V2 m (outs m) c) ∗ Pipeline.ownSems0 (osem false) c ∗ ringYk (F := F) false c) := by
  rw [held_none, show (dat0 m c).Φ (Fin.last _) = _ from phi0_last m c]
  iintro ⟨H1, H2, H3, H4⟩
  isplitl [H1]; · iexact H1
  isplitl [H2]; · iexact H2
  isplitr; · iempintro
  isplitl [H3] <;> iassumption
theorem hin2 (c : Dev nD) : iprop(Pipeline.scopedRest spec2 c ∗ (∃ r, prngReg c r) ∗ StableHlo.held (c.tc : Thread nD τ) ∅ (V5 m (outs m) c) ∗ ringXk (AA m) true c)
    ⊢ (dat2 m c).Φ 0 := by
  rw [held_none, show (dat2 m c).Φ 0 = _ from phi2_first m c]
  iintro ⟨H1, H2, -, H3⟩
  isplitl [H1]; · iexact H1
  isplitl [H2] <;> iassumption
theorem hout2 (c : Dev nD) : (dat2 m c).Φ (Fin.last _)
    ⊢ iprop(Pipeline.scopedRest spec2 c ∗ (∃ r, prngReg c r) ∗ StableHlo.held (c.tc : Thread nD τ) ∅ (V6 m (outs m) c) ∗ Pipeline.ownSems0 (osem true) c ∗ ringYk (F := F) true c) := by
  rw [held_none, show (dat2 m c).Φ (Fin.last _) = _ from phi2_last m c]
  iintro ⟨H1, H2, H3, H4⟩
  isplitl [H1]; · iexact H1
  isplitl [H2]; · iexact H2
  isplitr; · iempintro
  isplitl [H3] <;> iassumption

omit [FloatOps F] in
theorem hopen1 (c : Dev nD) : iprop(emp ∗ Pipeline.ownSems0 (fun k : PEmpty => (k.elim : SemLoc sig)) c ∗ levAts L lv) ⊢ (|={Set.univ}=> emp : sProp 𝕄) := by
  iintro ⟨-, -, -⟩
  imodintro
  iempintro
theorem hin1 (c : Dev nD) : iprop(Pipeline.scopedRest spec1 c ∗ (∃ r, prngReg c r) ∗ StableHlo.held (c.tc : Thread nD τ) ∅ (V3 m (outs m) c) ∗ emp)
    ⊢ (dat1 m c).Φ 0 := by
  rw [held_none, phi1_eq]
  iintro ⟨H1, H2, -, -⟩
  isplitl [H1] <;> iassumption
theorem hout1 (c : Dev nD) : (dat1 m c).Φ (Fin.last _)
    ⊢ iprop(Pipeline.scopedRest spec1 c ∗ (∃ r, prngReg c r) ∗ StableHlo.held (c.tc : Thread nD τ) ∅ (V4 m (outs m) c) ∗ Pipeline.ownSems0 (fun k : PEmpty => (k.elim : SemLoc sig)) c ∗ emp) := by
  rw [held_none, phi1_eq, Pipeline.ownSems0_none]
  iintro ⟨H1, H2⟩
  isplitl [H1]; · iexact H1
  isplitl [H2]; · iexact H2
  isplitr; · iempintro
  isplitr <;> iempintro

theorem share_full (p : Fin 3) (c : Dev nD) (w) : (pdats m p c).share w = fullShare := by
  revert w
  exact match p with
  | 0 => fun w => Pipeline.Dat.share_full (dat0 m c) (fun _ => rfl) w
  | 1 => fun w => Pipeline.Dat.share_full (dat1 m c) (fun _ => rfl) w
  | 2 => fun w => Pipeline.Dat.share_full (dat2 m c) (fun _ => rfl) w

set_option backward.isDefEq.respectTransparency.types false in
/-- The reduce-scatter as a segment. -/
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 (osem false) own_facts0
    ∅ (sr (Pipeline.arrRefs (τ := τ) spec0)) (Finset.empty_subset _) launch0.toP rfl (fun c => (body0 m c).loose)
    (fun c => due true c) (fun c => due false c) (zero0 m) (last0 m) (fun _ => rfl) (share_full m 0)
    (fun c => V1 m c) (fun c => V2 m (outs m) c) (fun c => rest_same _ _ _ _ out_mem0 fun d hd => Function.update_of_ne hd _ _)
    (ringTk (AA m) false) (ringYk false) (ringXk (AA m) false) (ringYk false) (hopen m false) (hin0 m) (hout0 m)
    (fun c => by iintro H; imodintro; iexact H)
    (fun _ => 0)
    ⟨fun c w s => zero_mem c _, fun _ _ _ => Nat.le_refl 0, fun c t g i h => cut_above (above_owe0 m c t) g i h⟩
    (ringTk (AA m) true)
    (fun _ _ => rfl) (fun c w => end0 m c w)

set_option backward.isDefEq.respectTransparency.types false in
/-- The weighted values as a segment. -/
def reg1 : Pipeline.RegionSeg (pcfgs (F := F)) adm (pdats m) 0 defs₀ 𝒱₀ L lv 1 :=
  Pipeline.RegionSeg.ofTalk (pcfgs (F := F)) adm (pdats m) 0 defs₀ 𝒱₀ L lv 1 (fun k : PEmpty => k.elim) (Pipeline.OwnSemFacts.none _)
    ∅ (sr (Pipeline.arrRefs (τ := τ) spec1)) (Finset.empty_subset _) launch1.toP rfl (fun c => (body1 m c).loose)
    (fun c => due true c) (fun _ => 0) (fun c => (add_zero (due true c)).symm) (fun c => rfl) (fun _ => rfl) (share_full m 1)
    (fun c => V3 m (outs m) c) (fun c => V4 m (outs m) c) (fun c => rest_same _ _ _ _ out_mem1 fun d hd => Function.update_of_ne hd _ _)
    (fun _ => iprop(emp)) (fun _ => iprop(emp)) (fun _ => iprop(emp)) (fun _ => iprop(emp)) hopen1 (hin1 m) (hout1 m)
    (fun c => by iintro H; imodintro; iexact H)
    (fun _ => 0)
    ⟨fun c w s => zero_mem c _, fun _ _ _ => Nat.le_refl 0, fun c t g i h => cut_above (above_owe1 m c t) g i h⟩
    (fun c => iprop(ringYk (F := F) false c ∗ ringTk (AA m) true c))
    (fun _ _ => rfl) (fun c w => end1 m c w)

set_option backward.isDefEq.respectTransparency.types false in
/-- The all-gather as a segment. -/
def reg2 : Pipeline.RegionSeg (pcfgs (F := F)) adm (pdats m) 0 defs₀ 𝒱₀ L lv 2 :=
  Pipeline.RegionSeg.ofTalk (pcfgs (F := F)) adm (pdats m) 0 defs₀ 𝒱₀ L lv 2 (osem true) own_facts2
    ∅ (sr (Pipeline.arrRefs (τ := τ) spec2)) (Finset.empty_subset _) launch2.toP rfl (fun c => (body2 m c).loose)
    (fun _ => 0) (fun c => due true c) (zero2 m) (last2 m) (fun _ => rfl) (share_full m 2)
    (fun c => V5 m (outs m) c) (fun c => V6 m (outs m) c) (fun c => rest_same _ _ _ _ out_mem2 fun d hd => Function.update_of_ne hd _ _)
    (ringTk (AA m) true) (ringYk true) (ringXk (AA m) true) (ringYk true) (hopen m true) (hin2 m) (hout2 m)
    (fun c => by iintro H; imodintro; iexact H)
    (fun _ => 0)
    ⟨fun c w s => zero_mem c _, fun _ _ _ => Nat.le_refl 0, fun c t g i h => cut_above (above_owe2 m c t) g i h⟩
    (ringYk false)
    (fun _ _ => rfl) (fun c w => end2 m c w)

/-! ## Into and out of the calls -/

set_option backward.isDefEq.respectTransparency.types false in
theorem reg0_pre (c : Dev nD) : (reg0 m).pre c = iprop(StableHlo.held (c.tc : Thread nD τ) (Pipeline.arrRefs (τ := τ) spec0) (V1 m c) ∗ prng c
    ∗ (StableHlo.held (c.tc : Thread nD τ) (sr (Pipeline.arrRefs (τ := τ) spec0)) (V1 m c) ∗ ringTk (AA m) true c) ∗ ringTk (AA m) false c ∗ owing (F := F) c (due true c + due false c)) := rfl
set_option backward.isDefEq.respectTransparency.types false in
theorem reg0_post (c : Dev nD) : (reg0 m).post c = iprop(StableHlo.held (c.tc : Thread nD τ) (Pipeline.arrRefs (τ := τ) spec0) (V2 m (outs m) c) ∗ prng c
    ∗ (StableHlo.held (c.tc : Thread nD τ) (sr (Pipeline.arrRefs (τ := τ) spec0)) (V2 m (outs m) c) ∗ ringTk (AA m) true c) ∗ ringYk (F := F) false c ∗ owing (F := F) c (due true c)) := rfl
theorem hpre0 (c : Dev nD) : iprop(StableHlo.held (c.tc : Thread nD τ) (Pipeline.ucRefs τ sig) (V1 m c) ∗ EE m 0 c) ⊢ (reg0 m).pre c := by
  rw [reg0_pre, StableHlo.held_sub_split (c.tc : Thread nD τ) arr_sub0 (V1 m c)]
  show iprop((_ ∗ StableHlo.held _ (sr _) _) ∗ _) ⊢ _
  unfold EE
  iintro ⟨⟨Ha, Hs⟩, Hp, HF, HT, HO⟩
  isplitl [Ha]; · iexact Ha
  isplitl [Hp]; · iexact Hp
  isplitl [Hs HT]; · isplitl [Hs] <;> iassumption
  isplitl [HF] <;> iassumption
theorem hpost0 (c : Dev nD) : (reg0 m).post c ⊢ iprop(StableHlo.held (c.tc : Thread nD τ) (Pipeline.ucRefs τ sig) (V2 m (outs m) c) ∗ EE m 1 c) := by
  rw [reg0_post, StableHlo.held_sub_split (c.tc : Thread nD τ) arr_sub0 (V2 m (outs m) c)]
  show _ ⊢ iprop((_ ∗ StableHlo.held _ (sr _) _) ∗ _)
  unfold EE
  iintro ⟨Ha, Hp, ⟨Hs, HT⟩, HF, HO⟩
  isplitl [Ha Hs]; · isplitl [Ha] <;> iassumption
  isplitl [Hp]; · iexact Hp
  isplitl [HF]; · iexact HF
  isplitl [HT] <;> iassumption
set_option backward.isDefEq.respectTransparency.types false in
theorem reg1_pre (c : Dev nD) : (reg1 m).pre c = iprop(StableHlo.held (c.tc : Thread nD τ) (Pipeline.arrRefs (τ := τ) spec1) (V3 m (outs m) c) ∗ prng c
    ∗ (StableHlo.held (c.tc : Thread nD τ) (sr (Pipeline.arrRefs (τ := τ) spec1)) (V3 m (outs m) c) ∗ (ringYk (F := F) false c ∗ ringTk (AA m) true c)) ∗ emp ∗ owing (F := F) c (due true c + 0)) := rfl
set_option backward.isDefEq.respectTransparency.types false in
theorem reg1_post (c : Dev nD) : (reg1 m).post c = iprop(StableHlo.held (c.tc : Thread nD τ) (Pipeline.arrRefs (τ := τ) spec1) (V4 m (outs m) c) ∗ prng c
    ∗ (StableHlo.held (c.tc : Thread nD τ) (sr (Pipeline.arrRefs (τ := τ) spec1)) (V4 m (outs m) c) ∗ (ringYk (F := F) false c ∗ ringTk (AA m) true c)) ∗ emp ∗ owing (F := F) c (due true c)) := rfl
theorem hpre1 (c : Dev nD) : iprop(StableHlo.held (c.tc : Thread nD τ) (Pipeline.ucRefs τ sig) (V3 m (outs m) c) ∗ EE m 1 c) ⊢ (reg1 m).pre c := by
  rw [reg1_pre, StableHlo.held_sub_split (c.tc : Thread nD τ) arr_sub1 (V3 m (outs m) c), add_zero]
  show iprop((_ ∗ StableHlo.held _ (sr _) _) ∗ _) ⊢ _
  unfold EE
  iintro ⟨⟨Ha, Hs⟩, Hp, HF, HT, HO⟩
  isplitl [Ha]; · iexact Ha
  isplitl [Hp]; · iexact Hp
  isplitl [Hs HF HT]
  · isplitl [Hs]; · iexact Hs
    isplitl [HF] <;> iassumption
  isplitr; · iempintro
  iexact HO
theorem hpost1 (c : Dev nD) : (reg1 m).post c ⊢ iprop(StableHlo.held (c.tc : Thread nD τ) (Pipeline.ucRefs τ sig) (V4 m (outs m) c) ∗ EE m 2 c) := by
  rw [reg1_post, StableHlo.held_sub_split (c.tc : Thread nD τ) arr_sub1 (V4 m (outs m) c)]
  show _ ⊢ iprop((_ ∗ StableHlo.held _ (sr _) _) ∗ _)
  unfold EE
  iintro ⟨Ha, Hp, ⟨Hs, HF, HT⟩, -, HO⟩
  isplitl [Ha Hs]; · isplitl [Ha] <;> iassumption
  isplitl [Hp]; · iexact Hp
  isplitl [HF]; · iexact HF
  isplitl [HT] <;> iassumption
set_option backward.isDefEq.respectTransparency.types false in
theorem reg2_pre (c : Dev nD) : (reg2 m).pre c = iprop(StableHlo.held (c.tc : Thread nD τ) (Pipeline.arrRefs (τ := τ) spec2) (V5 m (outs m) c) ∗ prng c
    ∗ (StableHlo.held (c.tc : Thread nD τ) (sr (Pipeline.arrRefs (τ := τ) spec2)) (V5 m (outs m) c) ∗ ringYk (F := F) false c) ∗ ringTk (AA m) true c ∗ owing (F := F) c (0 + due true c)) := rfl
set_option backward.isDefEq.respectTransparency.types false in
theorem reg2_post (c : Dev nD) : (reg2 m).post c = iprop(StableHlo.held (c.tc : Thread nD τ) (Pipeline.arrRefs (τ := τ) spec2) (V6 m (outs m) c) ∗ prng c
    ∗ (StableHlo.held (c.tc : Thread nD τ) (sr (Pipeline.arrRefs (τ := τ) spec2)) (V6 m (outs m) c) ∗ ringYk (F := F) false c) ∗ ringYk (F := F) true c ∗ owing (F := F) c (0)) := rfl
theorem hpre2 (c : Dev nD) : iprop(StableHlo.held (c.tc : Thread nD τ) (Pipeline.ucRefs τ sig) (V5 m (outs m) c) ∗ EE m 2 c) ⊢ (reg2 m).pre c := by
  rw [reg2_pre, StableHlo.held_sub_split (c.tc : Thread nD τ) arr_sub2 (V5 m (outs m) c), zero_add]
  show iprop((_ ∗ StableHlo.held _ (sr _) _) ∗ _) ⊢ _
  unfold EE
  iintro ⟨⟨Ha, Hs⟩, Hp, HF, HT, HO⟩
  isplitl [Ha]; · iexact Ha
  isplitl [Hp]; · iexact Hp
  isplitl [Hs HF]; · isplitl [Hs] <;> iassumption
  isplitl [HT] <;> iassumption
theorem hpost2 (c : Dev nD) : (reg2 m).post c ⊢ iprop(StableHlo.held (c.tc : Thread nD τ) (Pipeline.ucRefs τ sig) (V6 m (outs m) c) ∗ EE m 3 c) := by
  rw [reg2_post, StableHlo.held_sub_split (c.tc : Thread nD τ) arr_sub2 (V6 m (outs m) c)]
  show _ ⊢ iprop((_ ∗ StableHlo.held _ (sr _) _) ∗ _)
  unfold EE
  iintro ⟨Ha, Hp, ⟨Hs, HF⟩, HT, HO⟩
  isplitl [Ha Hs]; · isplitl [Ha] <;> iassumption
  isplitl [Hp]; · iexact Hp
  isplitl [HF]; · iexact HF
  isplitl [HT] <;> iassumption

end Cert.KernelIdeal.Ring
-- ==== Proof.Deal.lean ====
/- What is dealt before the run: every duty's token to the device that pays it, every credit to the device that waits for it. -/
module

public import proofs.«01_k».proof.Proof.Segs

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig ℕ (Elt F) ℕ UU ℕ

/-! ## All duties -/

/-- The families of duties: a ring's barrier signals, a lane's receipts, its sends, its credits. -/
abbrev Fam : Type := Fin 4 × Ln

/-- A family's length, -/
def len : Fam → ℕ
  | (0, _) => 1
  | (1, ℓ) => T ℓ
  | (2, ℓ) => T ℓ
  | (3, ℓ) => T ℓ - 1
/-- the kind of its cells, -/
def fkd : Fam → ℕ → Kd
  | (0, ℓ), _ => .bar ℓ.1
  | (1, ℓ), t => .recv ℓ (sl (t + 1))
  | (2, ℓ), t => .send ℓ (sl t)
  | (3, ℓ), _ => .cred ℓ
/-- its rounds, -/
def frnd : Fam → ℕ → ℕ
  | (0, _), _ => 0
  | (1, _), t => t / 2
  | (2, _), t => t / 2
  | (3, _), t => t
/-- its duties' names, -/
def fwho : Fam → Bool
  | (0, ℓ) => ℓ.2
  | (1, _) => false
  | (2, _) => false
  | (3, _) => false
/-- its places in the order of the waits, -/
def fix : Fam → ℕ → ℕ
  | (0, ℓ), _ => ixBar ℓ.1
  | (1, ℓ), t => ixRecv ℓ t
  | (2, _), _ => 0
  | (3, ℓ), t => ixCred ℓ (t + 1)
/-- the units it is owed before the run, -/
def funits : Fam → ℕ
  | (0, _) => 1
  | (1, _) => N
  | (2, _) => 0
  | (3, _) => 1
/-- and the device whose cell a device pays. -/
def fdev : Fam → (Dev nD ≃ Dev nD)
  | (0, ℓ) => (ring ℓ).symm
  | (1, ℓ) => ring ℓ
  | (2, _) => Equiv.refl _
  | (3, ℓ) => (ring ℓ).symm

omit [FloatOps F] in
theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
omit [FloatOps F] in
theorem bigSep_lanes (Φ : Ln → sProp 𝕄) :
    bigSep Finset.univ Φ = iprop((Φ (false, false) ∗ Φ (false, true)) ∗ Φ (true, false) ∗ Φ (true, true)) := by
  rw [bigSep_univ_prod, bigSep_bool, bigSep_bool, bigSep_bool]
omit [FloatOps F] in
theorem bigSep_fam (Φ : Fam → sProp 𝕄) : bigSep Finset.univ Φ = iprop(
    ((Φ (0, false, false) ∗ Φ (0, false, true)) ∗ Φ (0, true, false) ∗ Φ (0, true, true))
    ∗ ((Φ (1, false, false) ∗ Φ (1, false, true)) ∗ Φ (1, true, false) ∗ Φ (1, true, true))
    ∗ ((Φ (2, false, false) ∗ Φ (2, false, true)) ∗ Φ (2, true, false) ∗ Φ (2, true, true))
    ∗ ((Φ (3, false, false) ∗ Φ (3, false, true)) ∗ Φ (3, true, false) ∗ Φ (3, true, true))) := by
  rw [bigSep_univ_prod, bigSep_four, bigSep_lanes, bigSep_lanes, bigSep_lanes, bigSep_lanes]

/-! ## The credits -/

/-- Everything a device owes before the run, family by family. -/
theorem due_fam (c : Dev nD) : due true c + due false c
    = ∑ x : Fam, ∑ t ∈ Finset.Ico 0 (len x), tallyAt (cell (fdev x c) (fkd x t)) (fix x t) (funits x) := by
  have h2 (ℓ : Ln) : ∑ t ∈ Finset.Ico 0 (len (2, ℓ)), tallyAt (cell (fdev (2, ℓ) c) (fkd (2, ℓ) t)) (fix (2, ℓ) t) (funits (2, ℓ)) = 0 :=
    Finset.sum_eq_zero fun t _ => tallyAt_zero _ _
  have h0 (ℓ : Ln) : ∑ t ∈ Finset.Ico 0 (len (0, ℓ)), tallyAt (cell (fdev (0, ℓ) c) (fkd (0, ℓ) t)) (fix (0, ℓ) t) (funits (0, ℓ))
      = tallyAt (cell (fro ℓ c) (.bar ℓ.1)) (ixBar ℓ.1) 1 := by
    show ∑ t ∈ Finset.Ico 0 1, _ = _
    rw [Finset.sum_Ico_succ_top (Nat.zero_le _), Finset.Ico_self, Finset.sum_empty, zero_add]; rfl
  have h1 (ℓ : Ln) : ∑ t ∈ Finset.Ico 0 (len (1, ℓ)), tallyAt (cell (fdev (1, ℓ) c) (fkd (1, ℓ) t)) (fix (1, ℓ) t) (funits (1, ℓ))
      = owSend ℓ c 0 := rfl
  have h3 (ℓ : Ln) : ∑ t ∈ Finset.Ico 0 (len (3, ℓ)), tallyAt (cell (fdev (3, ℓ) c) (fkd (3, ℓ) t)) (fix (3, ℓ) t) (funits (3, ℓ))
      = owCred ℓ c 0 := rfl
  rw [Fintype.sum_prod_type, Fin.sum_univ_four, Finset.sum_congr rfl fun ℓ _ => h0 ℓ, Finset.sum_congr rfl fun ℓ _ => h1 ℓ,
    Finset.sum_congr rfl fun ℓ _ => h2 ℓ, Finset.sum_congr rfl fun ℓ _ => h3 ℓ]
  simp only [Fintype.sum_prod_type, Fintype.sum_bool]
  unfold due owed
  simp only [zero_add, add_zero]
  ac_rfl

/-- A family's credit reaches the device that waits for it. -/
theorem cred_one (σ : Dev nD ≃ Dev nD) (k : Kd) (i u : ℕ) (c : Dev nD) :
    (Pipeline.launchCred (fun d => tallyAt (cell (σ d) k) i u) c : sProp 𝕄) ⊢ cred (tallyAt (cell c k) i u) := by
  refine (Pipeline.launchCred_elim _ c (loc k)).trans ?_
  rw [Pipeline.tallyOn_launchCredit_owing]
  have h : (∑ d, tallyAt (cell (σ d) k) i u : CellTallies nD τ sig ℕ) (cell c k) = Finsupp.single i u := by
    rw [Equiv.sum_comp σ (fun d => (tallyAt (cell d k) i u : CellTallies nD τ sig ℕ)), Finset.sum_apply, Finset.sum_eq_single c]
    · unfold tallyAt tallyOn; exact Pi.single_eq_same _ _
    · intro d _ hd
      exact tallyAt_ne_cell (fun e => hd (cell_inj e).1.symm) _ _
    · intro h; exact absurd (Finset.mem_univ c) h
  show (cred (tallyOn (cell c k) ((∑ d, tallyAt (cell (σ d) k) i u : CellTallies nD τ sig ℕ) (cell c k))) : sProp 𝕄) ⊢ _
  rw [h]
  exact BI.Entails.refl _

/-- A family's credits at a device. -/
def fcreds (c : Dev nD) (x : Fam) : sProp 𝕄 := bigSep (Finset.Ico 0 (len x)) fun t => cred (tallyAt (cell c (fkd x t)) (fix x t) (funits x))

theorem creds_all (c : Dev nD) : (Pipeline.launchCred (fun d => due true d + due false d) c : sProp 𝕄) ⊢ bigSep Finset.univ (fcreds (F := F) c) := by
  rw [show (fun d => due true d + due false d) = _ from funext due_fam, Pipeline.launchCred_sum]
  refine bigSep_mono fun x _ => ?_
  rw [Pipeline.launchCred_sum]
  exact bigSep_mono fun t _ => cred_one (fdev x) (fkd x t) (fix x t) (funits x) c

/-! ## The tokens -/

theorem fam_inj {x x' : Fam} {t t' : ℕ} (hk : fkd x t = fkd x' t') (hr : frnd x t = frnd x' t') (hw : fwho x = fwho x')
    (ht : t < len x) (ht' : t' < len x') : x = x' ∧ t = t' := by
  obtain ⟨j, ℓ⟩ := x
  obtain ⟨j', ℓ'⟩ := x'
  match j, j' with
  | 0, 0 =>
    have h1 : ℓ.1 = ℓ'.1 := Kd.bar.inj hk
    have h2 : ℓ.2 = ℓ'.2 := hw
    have h3 : t < 1 := ht
    have h4 : t' < 1 := ht'
    exact ⟨Prod.ext rfl (Prod.ext h1 h2), by omega⟩
  | 1, 1 =>
    obtain ⟨h1, h2⟩ := Kd.recv.inj hk
    have h3 : (t + 1) % 2 = (t' + 1) % 2 := congrArg Fin.val h2
    have h4 : t / 2 = t' / 2 := hr
    exact ⟨Prod.ext rfl h1, by omega⟩
  | 2, 2 =>
    obtain ⟨h1, h2⟩ := Kd.send.inj hk
    have h3 : t % 2 = t' % 2 := congrArg Fin.val h2
    have h4 : t / 2 = t' / 2 := hr
    exact ⟨Prod.ext rfl h1, by omega⟩
  | 3, 3 =>
    have h1 : ℓ = ℓ' := Kd.cred.inj hk
    exact ⟨Prod.ext rfl h1, hr⟩
  | 0, 1 | 0, 2 | 0, 3 | 1, 0 | 1, 2 | 1, 3 | 2, 0 | 2, 1 | 2, 3 | 3, 0 | 3, 1 | 3, 2 => exact Kd.noConfusion hk

/-- All duties of a device's cells. -/
abbrev famSet : Finset ((_ : Fam) × ℕ) := Finset.univ.sigma fun x => Finset.Ico 0 (len x)

/-- All duties. -/
abbrev allDuties : Finset ((_ : Dev nD) × ((_ : Fam) × ℕ)) := Finset.univ.sigma fun _ => famSet

/-- A duty as its cell, its round and its name. -/
def duty (p : (_ : Dev nD) × ((_ : Fam) × ℕ)) : GSem nD τ sig × ℕ × Bool := (cell p.1 (fkd p.2.1 p.2.2), frnd p.2.1 p.2.2, fwho p.2.1)

theorem duty_inj : Set.InjOn duty (allDuties : Set ((_ : Dev nD) × ((_ : Fam) × ℕ))) := by
  rintro ⟨c, x, t⟩ h ⟨c', x', t'⟩ h' e
  have hx := Finset.mem_Ico.mp (Finset.mem_sigma.mp (Finset.mem_sigma.mp (Finset.mem_coe.mp h)).2).2
  have hx' := Finset.mem_Ico.mp (Finset.mem_sigma.mp (Finset.mem_sigma.mp (Finset.mem_coe.mp h')).2).2
  have e1 := congrArg Prod.fst e
  have e2 := congrArg (fun y => y.2.1) e
  have e3 := congrArg (fun y => y.2.2) e
  obtain ⟨h1, h2⟩ := cell_inj e1
  obtain ⟨h3, h4⟩ := fam_inj h2 e2 e3 hx.2 hx'.2
  dsimp only at h1 h3 h4
  subst h1 h3 h4
  rfl

/-- All duties' tokens. -/
def allToks : Finset (GSem nD τ sig × ℕ × Bool) := allDuties.image duty

/-- A family's tokens for the cells of a device. -/
def ftoks (c : Dev nD) (x : Fam) : sProp 𝕄 := bigSep (Finset.Ico 0 (len x)) fun t => dutyTok ER (cell c (fkd x t)) (frnd x t) (fwho x)

omit [FloatOps F] in
theorem toks_eq : bigSep allToks (fun x => (dutyTok ER x.1 x.2.1 x.2.2 : sProp 𝕄))
    = bigSep Finset.univ fun c : Dev nD => bigSep Finset.univ (ftoks (F := F) c) := by
  unfold allToks
  rw [bigSep_image_of_injOn duty_inj, Pipeline.bigSep_sigma]
  refine bigSep_congr fun c _ => ?_
  rw [Pipeline.bigSep_sigma]
  rfl

omit [FloatOps F] in
/-- Each family's tokens, handed to the devices that pay them. -/
theorem toks_around : (bigSep Finset.univ fun c : Dev nD => bigSep Finset.univ (ftoks (F := F) c))
    = bigSep Finset.univ fun c : Dev nD => bigSep Finset.univ fun x => ftoks (F := F) (fdev x c) x := by
  rw [bigSep_univ_comm, bigSep_univ_comm (fun (c : Dev nD) (x : Fam) => ftoks (F := F) (fdev x c) x)]
  exact bigSep_congr fun x _ => bigSep_univ_equiv (fdev x) (fun c => ftoks (F := F) c x)

end Cert.KernelIdeal.Ring
-- ==== Proof.Launch.lean ====
/- The launch: the rings' cells are founded and dealt, and the whole program runs to its end. -/
module

public import proofs.«01_k».proof.Proof.Deal
public import Idealize.ShloMosaic.Lib.Quiescent

@[expose] public section

set_option maxRecDepth 65536

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation Seg)

variable {F : FTy → Type} [FloatOps F]

local notation "𝕄" => MT nD τ sig ℕ (Elt F) ℕ UU ℕ

/-! ## The two kits of a device -/

omit [FloatOps F] in
theorem MR_eq (c : Dev nD) (ℓ : Ln) : MR (F := F) c ℓ 0
    = iprop(fcreds (F := F) c (1, ℓ) ∗ ftoks (F := F) (fdev (1, ℓ) c) (1, ℓ) ∗ ftoks (F := F) (fdev (2, ℓ) c) (2, ℓ)) := by
  unfold MR
  show bigSep (Finset.Ico 0 (T ℓ)) (fun t => iprop(cred (tallyAt (cell c (.recv ℓ (sl (t + 1)))) (ixRecv ℓ t) N)
    ∗ dutyTok ER (cell (tgt ℓ c) (.recv ℓ (sl (t + 1)))) (t / 2) false ∗ dutyTok ER (cell c (.send ℓ (sl t))) (t / 2) false)) = _
  rw [bigSep_sep', bigSep_sep']
  rfl
omit [FloatOps F] in
theorem TR_eq (c : Dev nD) (ℓ : Ln) : TR (F := F) c ℓ 0
    = iprop(fcreds (F := F) c (3, ℓ) ∗ ftoks (F := F) (fdev (3, ℓ) c) (3, ℓ)) := by
  unfold TR
  show bigSep (Finset.Ico 0 (T ℓ - 1)) (fun t => iprop(cred (tallyAt (cell c (.cred ℓ)) (ixCred ℓ (t + 1)) 1) ∗ dutyTok ER (cell (fro ℓ c) (.cred ℓ)) t false)) = _
  rw [bigSep_sep']
  rfl
omit [FloatOps F] in
theorem bar_cred (c : Dev nD) (ℓ : Ln) : fcreds (F := F) c (0, ℓ) = cred (tallyAt (cell c (.bar ℓ.1)) (ixBar ℓ.1) 1) := by
  unfold fcreds
  show bigSep (Finset.Ico 0 1) _ = _
  rw [show Finset.Ico 0 1 = {0} from rfl, BI.bigSep_singleton]
  rfl
omit [FloatOps F] in
theorem bar_tok (c : Dev nD) (ℓ : Ln) : ftoks (F := F) (fdev (0, ℓ) c) (0, ℓ) = dutyTok ER (cell (fro ℓ c) (.bar ℓ.1)) 0 ℓ.2 := by
  unfold ftoks
  show bigSep (Finset.Ico 0 1) _ = _
  rw [show Finset.Ico 0 1 = {0} from rfl, BI.bigSep_singleton]
  rfl
omit [FloatOps F] in
theorem two_creds (c : Dev nD) (q : Bool) : iprop(cred (tallyAt (cell c (.bar q)) (ixBar q) 1) ∗ cred (tallyAt (cell c (.bar q)) (ixBar q) 1))
    ⊢ (cred (tallyAt (cell c (.bar q)) (ixBar q) 2) : sProp 𝕄) := by
  rw [show (2 : ℕ) = 1 + 1 from rfl, ← tallyAt_add]
  exact (cred_add _ _).2

/-- One ring's part of what is dealt to a device. -/
def part (c : Dev nD) (q : Bool) : sProp 𝕄 :=
  iprop(((fcreds (F := F) c (0, q, false) ∗ fcreds (F := F) c (0, q, true)) ∗ (fcreds (F := F) c (1, q, false) ∗ fcreds (F := F) c (1, q, true))
      ∗ (fcreds (F := F) c (3, q, false) ∗ fcreds (F := F) c (3, q, true)))
    ∗ ((ftoks (F := F) (fdev (0, q, false) c) (0, q, false) ∗ ftoks (F := F) (fdev (0, q, true) c) (0, q, true))
      ∗ (ftoks (F := F) (fdev (1, q, false) c) (1, q, false) ∗ ftoks (F := F) (fdev (1, q, true) c) (1, q, true))
      ∗ (ftoks (F := F) (fdev (2, q, false) c) (2, q, false) ∗ ftoks (F := F) (fdev (2, q, true) c) (2, q, true))
      ∗ (ftoks (F := F) (fdev (3, q, false) c) (3, q, false) ∗ ftoks (F := F) (fdev (3, q, true) c) (3, q, true))))

omit [FloatOps F] in
theorem parts (c : Dev nD) : iprop(bigSep Finset.univ (fcreds (F := F) c) ∗ bigSep Finset.univ fun x => ftoks (F := F) (fdev x c) x)
    ⊢ iprop(part (F := F) c false ∗ part (F := F) c true) := by
  rw [bigSep_fam, bigSep_fam]
  unfold part
  iintro ⟨⟨⟨⟨C1, C2⟩, C3, C4⟩, ⟨⟨C5, C6⟩, C7, C8⟩, -, ⟨⟨C9, C10⟩, C11, C12⟩⟩, ⟨⟨T1, T2⟩, T3, T4⟩, ⟨⟨T5, T6⟩, T7, T8⟩, ⟨⟨T9, T10⟩, T11, T12⟩, ⟨T13, T14⟩, T15, T16⟩
  isplitl [C1 C2 C5 C6 C9 C10 T1 T2 T5 T6 T9 T10 T13 T14]
  · isplitl [C1 C2 C5 C6 C9 C10]
    · isplitl [C1 C2]; · isplitl [C1] <;> iassumption
      isplitl [C5 C6]; · isplitl [C5] <;> iassumption
      isplitl [C9] <;> iassumption
    · isplitl [T1 T2]; · isplitl [T1] <;> iassumption
      isplitl [T5 T6]; · isplitl [T5] <;> iassumption
      isplitl [T9 T10]; · isplitl [T9] <;> iassumption
      isplitl [T13] <;> iassumption
  · isplitl [C3 C4 C7 C8 C11 C12]
    · isplitl [C3 C4]; · isplitl [C3] <;> iassumption
      isplitl [C7 C8]; · isplitl [C7] <;> iassumption
      isplitl [C11] <;> iassumption
    · isplitl [T3 T4]; · isplitl [T3] <;> iassumption
      isplitl [T7 T8]; · isplitl [T7] <;> iassumption
      isplitl [T11 T12]; · isplitl [T11] <;> iassumption
      isplitl [T15] <;> iassumption

omit [FloatOps F] in
theorem kit_intro (c : Dev nD) (q : Bool) :
    iprop((reached ER (cell (fro (q, false) c) (.bar q)) 0 ∗ reached ER (cell (fro (q, true) c) (.bar q)) 0)
      ∗ part (F := F) c q ∗ atPos ER (cell c (.bar q)) 0 ∅ 0) ⊢ ringKit (F := F) q c := by
  unfold ringKit part
  rw [MR_eq, MR_eq, TR_eq, TR_eq, bar_cred, bar_cred, bar_tok, bar_tok]
  iintro ⟨⟨R1, R2⟩, ⟨⟨⟨C1, C2⟩, ⟨C5, C6⟩, C9, C10⟩, ⟨T1, T2⟩, ⟨T5, T6⟩, ⟨T9, T10⟩, T13, T14⟩, Ha⟩
  isplitl [C5 T5 T9 C9 T13 C6 T6 T10 C10 T14]
  · isplitl [C5 T5 T9 C9 T13]
    · isplitl [C5 T5 T9]
      · isplitl [C5]; · iexact C5
        isplitl [T5] <;> iassumption
      · isplitl [C9] <;> iassumption
    · isplitl [C6 T6 T10]
      · isplitl [C6]; · iexact C6
        isplitl [T6] <;> iassumption
      · isplitl [C10] <;> iassumption
  isplitl [R1 R2]; · isplitl [R1] <;> iassumption
  isplitl [T1 T2]; · isplitl [T1] <;> iassumption
  isplitl [C1 C2]
  · iapply (two_creds (F := F) c q)
    isplitl [C1] <;> iassumption
  iexact Ha

/-! ## The cells -/

theorem laneKd_inj {ℓ ℓ' : Ln} {i i' : Fin 5} (h : laneKd ℓ i = laneKd ℓ' i') : ℓ = ℓ' ∧ i = i' := by
  revert h; revert ℓ ℓ' i i'; decide
theorem laneKd_bar (ℓ : Ln) (i : Fin 5) (q : Bool) : laneKd ℓ i ≠ .bar q := by revert ℓ i q; decide

def barEmb : Dev nD × Bool ↪ GSem nD τ sig :=
  ⟨fun x => cell x.1 (.bar x.2), fun _ _ h => Prod.ext (cell_inj h).1 (Kd.bar.inj (cell_inj h).2)⟩
def scEmb : Dev nD × (Ln × Fin 5) ↪ GSem nD τ sig :=
  ⟨fun x => cell x.1 (laneKd x.2.1 x.2.2), fun _ _ h =>
    Prod.ext (cell_inj h).1 (Prod.ext (laneKd_inj (cell_inj h).2).1 (laneKd_inj (cell_inj h).2).2)⟩

/-- The barriers' cells, -/
def barCells : Finset (GSem nD τ sig) := Finset.univ.map barEmb
/-- and the lanes'. -/
def scCells : Finset (GSem nD τ sig) := Finset.univ.map scEmb

theorem disjoint_cells : Disjoint (barCells : Finset (GSem nD τ sig)) scCells := by
  rw [Finset.disjoint_left]
  rintro g h₁ h₂
  obtain ⟨x, -, rfl⟩ := Finset.mem_map.mp h₁
  obtain ⟨y, -, h⟩ := Finset.mem_map.mp h₂
  exact laneKd_bar _ _ _ (cell_inj h).2

theorem bar_mem (c : Dev nD) (q : Bool) : cell c (.bar q) ∈ (barCells : Finset (GSem nD τ sig)) :=
  Finset.mem_map_of_mem barEmb (Finset.mem_univ (c, q))
theorem sc_mem (c : Dev nD) (ℓ : Ln) (i : Fin 5) : cell c (laneKd ℓ i) ∈ (scCells : Finset (GSem nD τ sig)) :=
  Finset.mem_map_of_mem scEmb (Finset.mem_univ (c, (ℓ, i)))
theorem cell_mem (c : Dev nD) (k : Kd) : cell c k ∈ (barCells ∪ scCells : Finset (GSem nD τ sig)) := by
  match k with
  | .bar q => exact Finset.mem_union_left _ (bar_mem c q)
  | .send ℓ 0 => exact Finset.mem_union_right _ (sc_mem c ℓ 0)
  | .send ℓ 1 => exact Finset.mem_union_right _ (sc_mem c ℓ 1)
  | .recv ℓ 0 => exact Finset.mem_union_right _ (sc_mem c ℓ 2)
  | .recv ℓ 1 => exact Finset.mem_union_right _ (sc_mem c ℓ 3)
  | .cred ℓ => exact Finset.mem_union_right _ (sc_mem c ℓ 4)

/-! ## The resources before the run -/

variable (m : (ℓ : Loc nD τ sig) → Buf (Elt F) ℓ) (ρ : Dev nD → PrngReg)

/-- The rings' launch element, -/
def uRing : UR := launchOf barCells scCells allToks
/-- and with it the pipelines'. -/
def uLaunch : UU :=
  (initOf (Pipeline.cells (nD := nD) (τ := τ) cfgs cellOf_inj) (Pipeline.launchToks (nD := nD) (τ := τ) cfgs cellOf_inj), uRing)

/-- A resource that device 0 holds for all. -/
def parked (X : sProp 𝕄) (c : Dev nD) : sProp 𝕄 := if c = 0 then X else iprop(emp)
omit [FloatOps F] in
theorem parked_all (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- What all devices share: the cells' invariants, the order of the waits, the barriers' first round. -/
def shared (κ : GSem nD τ sig → ℕ) : sProp 𝕄 :=
  iprop(ctx (AA m) κ ∗ bigSep barCells fun g => reached ER g 0)
instance shared_persistent (κ : GSem nD τ sig → ℕ) : BI.Persistent (shared m κ) := by unfold shared; infer_instance

/-- What a device alone holds of the rings. -/
def own (c : Dev nD) : sProp 𝕄 :=
  iprop((atPos ER (cell c (.bar false)) 0 ∅ 0 ∗ atPos ER (cell c (.bar true)) 0 ∅ 0)
    ∗ ((openToks (F := F) c (false, false) ∗ openToks (F := F) c (false, true)) ∗ openToks (F := F) c (true, false) ∗ openToks (F := F) c (true, true))
    ∗ bigSep Finset.univ fun x => ftoks (F := F) (fdev x c) x)

/-- What else a device holds before the run. -/
def other (c : Dev nD) : sProp 𝕄 :=
  iprop(prng c ∗ bigSep Finset.univ (fcreds (F := F) c) ∗ owing (F := F) c (due true c + due false c))

theorem first_state (κ : GSem nD τ sig → ℕ) (c : Dev nD) : iprop(shared m κ ∗ (own (F := F) c ∗ other (F := F) c)) ⊢ EE m 0 c := by
  have hr (d : Dev nD) (q : Bool) : (bigSep barCells fun g => (reached ER g 0 : sProp 𝕄)) ⊢ reached ER (cell d (.bar q)) 0 := bigSep_elim (bar_mem d q)
  unfold shared own other
  show _ ⊢ iprop(prng c ∗ ringTk (AA m) false c ∗ ringTk (AA m) true c ∗ owing (F := F) c (due true c + due false c))
  unfold ringTk
  iintro ⟨⟨#HI, #HR⟩, ⟨⟨Ha, Hb⟩, ⟨Ho, Ho'⟩, Ht⟩, Hp, Hc, HO⟩
  ihave H := (parts (F := F) c) $$ [Ht Hc]
  · isplitl [Hc] <;> iassumption
  icases H with ⟨H1, H2⟩
  isplitl [Hp]; · iexact Hp
  isplitl [Ha Ho H1]
  · iexists κ
    isplitr; · iexact HI
    isplitl [Ho]; · iexact Ho
    iapply (kit_intro (F := F) c false)
    isplitr
    · isplitr; · iapply (hr (fro (false, false) c) false); iexact HR
      iapply (hr (fro (false, true) c) false); iexact HR
    isplitl [H1] <;> iassumption
  isplitl [Hb Ho' H2]
  · iexists κ
    isplitr; · iexact HI
    isplitl [Ho']; · iexact Ho'
    iapply (kit_intro (F := F) c true)
    isplitr
    · isplitr; · iapply (hr (fro (true, false) c) true); iexact HR
      iapply (hr (fro (true, true) c) true); iexact HR
    isplitl [H2] <;> iassumption
  iexact HO

theorem unscoped_eq : ∀ sm : SemLoc sig, sm.isScoped .tc = false → sm = loc (.bar false) ∨ sm = loc (.bar true) := by decide +kernel

omit [FloatOps F] in
theorem unscoped_sems (c : Dev nD) : (unscopedSems0 c : sProp 𝕄) = iprop(semVal (cell c (.bar false)) 0 ∗ semVal (cell c (.bar true)) 0) := by
  unfold unscopedSems0
  rw [show (Finset.univ.filter fun sm : SemLoc sig => ¬ sm.isScoped .tc) = {loc (.bar false), loc (.bar true)} from by decide +kernel,
    BI.bigSep_insert (by decide +kernel), BI.bigSep_singleton]
  rfl

theorem ctx_intro (κ : GSem nD τ sig → ℕ) : iprop((bigSep (barCells ∪ scCells) fun g => cellInv ER (rd (AA m)) (κ g) g) ∗ levAts L lv)
    ⊢ (ctx (AA m) κ : sProp 𝕄) := by
  unfold ctx
  exact sep_mono (bigSep_intro_persistent fun x _ => bigSep_elim (cell_mem x.1 x.2)) .rfl

/-- What a device starts with, apart from its buffers. -/
def given (c : Dev nD) : sProp 𝕄 :=
  iprop(unscopedSems0 c ∗ owes (c : Thread nD τ) (due true c + due false c) ∅
    ∗ Pipeline.launchCred (fun d => due true d + due false d) c ∗ prngReg c (ρ c) ∗ parked (BI.own (ER uRing)) c)

/-- The two barriers' counters of a device. -/
def bars (c : Dev nD) : sProp 𝕄 := iprop(semVal (cell c (.bar false)) 0 ∗ semVal (cell c (.bar true)) 0)
/-- A device's places at the two barriers. -/
def places (c : Dev nD) : sProp 𝕄 := iprop(atPos ER (cell c (.bar false)) 0 ∅ 0 ∗ atPos ER (cell c (.bar true)) 0 ∅ 0)
/-- A device's rights to open its lanes' cells. -/
def opens (c : Dev nD) : sProp 𝕄 :=
  iprop((openToks (F := F) c (false, false) ∗ openToks (F := F) c (false, true)) ∗ openToks (F := F) c (true, false) ∗ openToks (F := F) c (true, true))

theorem given_core (c : Dev nD) : given (F := F) ρ c ⊢ iprop(other (F := F) c ∗ bars (F := F) c ∗ parked (BI.own (ER uRing)) c) := by
  unfold given bars
  rw [unscoped_sems]
  unfold other owing
  iintro ⟨Hs, HO, Hc, Hp, HG⟩
  isplitl [HO Hc Hp]
  · isplitl [Hp]; · iexists (ρ c); iexact Hp
    isplitl [Hc]; · iapply (creds_all (F := F) c); iexact Hc
    iexists ∅; iexact HO
  isplitl [Hs] <;> iassumption

omit [FloatOps F] in
theorem bars_all (Φ : GSem nD τ sig → sProp 𝕄) : bigSep barCells Φ
    = bigSep Finset.univ fun c : Dev nD => iprop(Φ (cell c (.bar false)) ∗ Φ (cell c (.bar true))) := by
  unfold barCells
  rw [bigSep_map, bigSep_univ_prod]
  exact bigSep_congr fun c _ => bigSep_bool (fun q => Φ (barEmb (c, q)))

omit [FloatOps F] in
theorem lane_opens (c : Dev nD) (ℓ : Ln) : (bigSep Finset.univ fun i : Fin 5 => (openTok ER (scEmb (c, (ℓ, i))) : sProp 𝕄)) = openToks (F := F) c ℓ := by
  rw [bigSep_five]
  unfold openToks
  rfl

omit [FloatOps F] in
theorem opens_all : bigSep scCells (fun g => (openTok ER g : sProp 𝕄)) = bigSep Finset.univ (opens (F := F)) := by
  unfold scCells
  rw [bigSep_map, bigSep_univ_prod]
  refine bigSep_congr fun c _ => ?_
  rw [bigSep_univ_prod, bigSep_lanes, lane_opens, lane_opens, lane_opens, lane_opens]
  unfold opens
  rfl

theorem own_intro : iprop(bigSep Finset.univ (places (F := F)) ∗ bigSep Finset.univ (opens (F := F))
      ∗ bigSep Finset.univ fun c => bigSep Finset.univ fun x => ftoks (F := F) (fdev x c) x)
    ⊢ bigSep Finset.univ (own (F := F)) := by
  rw [← bigSep_sep', ← bigSep_sep']
  exact bigSep_mono fun c _ => by unfold places opens own; exact BI.Entails.refl _

theorem dealt (κ : GSem nD τ sig → ℕ) :
    iprop(shared m κ ∗ bigSep Finset.univ (own (F := F)) ∗ bigSep Finset.univ (other (F := F))) ⊢ bigSep Finset.univ (EE m 0) := by
  rw [← bigSep_sep']
  exact bigSep_with_persistent fun c _ => first_state m κ c

theorem init : iprop((bigSep Finset.univ (given (F := F) ρ)) ∗ levAts L lv) ⊢ (|={Set.univ}=> bigSep Finset.univ (EE m 0) : sProp 𝕄) := by
  have h1 : bigSep Finset.univ (given (F := F) ρ) ⊢ iprop(bigSep Finset.univ (other (F := F)) ∗ bigSep Finset.univ (bars (F := F))
      ∗ bigSep Finset.univ (parked (F := F) (BI.own (ER uRing)))) := by
    rw [← bigSep_sep', ← bigSep_sep']
    exact bigSep_mono fun c _ => given_core ρ c
  have hv : bigSep Finset.univ (bars (F := F)) ⊢ bigSep barCells (fun g => (semVal g 0 : sProp 𝕄)) := Entails.of_eq (bars_all (F := F) (fun g => semVal g 0)).symm
  have hat : bigSep barCells (fun g => (atPos ER g 0 ∅ 0 : sProp 𝕄)) ⊢ bigSep Finset.univ (places (F := F)) := Entails.of_eq (bars_all (F := F) (fun g => atPos ER g 0 ∅ 0))
  iintro ⟨H, #Hla⟩
  ihave H1 := h1 $$ H
  icases H1 with ⟨HB, Hv, HG⟩
  ihave Hu := (Entails.of_eq (parked_all (F := F) (BI.own (ER uRing)))) $$ HG
  imod (Rounds.fund_launch ER (rd (AA m)) disjoint_cells (fun g _ h => h) allToks) $$ [Hv Hu] with ⟨%κ, -, #Hinv, #Hr, Hat, Hopen, Htok⟩
  · isplitl [Hv]
    · iapply hv $$ Hv
    · iexact Hu
  imodintro
  iapply (dealt m κ)
  isplitr
  · unfold shared
    isplitr
    · iapply (ctx_intro m κ)
      isplitr; · iexact Hinv
      iexact Hla
    iexact Hr
  isplitr [HB]
  · iapply (own_intro (F := F))
    isplitl [Hat]; · iapply hat $$ Hat
    isplitl [Hopen]; · iapply (Entails.of_eq (opens_all (F := F))) $$ Hopen
    iapply (Entails.of_eq (toks_around (F := F)))
    iapply (Entails.of_eq (toks_eq (F := F))) $$ Htok
  · iexact HB

/-! ## The run -/

/-- @main as its seven segments. -/
abbrev mainSegs (c : Dev nD) : List (Seg (pcfgs (F := F)) adm (pdats m) 0 defs₀ 𝒱₀ L lv) :=
  segs m (outs m) 𝒱₀ L lv (EE m) 0 (pdats m) (reg0 m) (reg1 m) (reg2 m) c

set_option backward.isDefEq.respectTransparency.types false in
/-- From any memory with zero counters, every weakly fair execution of @main on the 32 devices terminates; in every final state each
    unscoped buffer of a device holds what the last host operation leaves in it, and every counter is zero. -/
theorem run_main : θ_run defs (onTc (τ := τ) (main (F := F))) ⟨m, fun _ => 0, ρ⟩ (fun r =>
    (∀ c : Dev nD, ∀ b ∈ Pipeline.ucRefs τ sig, r.2.mem ((c : Thread nD τ).1, b) = V7 m (outs m) c b) ∧ r.2.sem = fun _ => 0) := by
  refine Pipeline.θ_run_regions_kit_dev_sems (pcfgs (F := F)) adm (pdats m) 0 cellOf_inj embL defs₀ 𝒱₀ L lv m ρ main (mainSegs m)
    (fun c Q => by
      rewrite [main_chain c, Seg.run_eq_chain,
        show (mainSegs m c).map Seg.prog = [
          StableHlo.seq hostOps0,
          Prog.lift (.customCall (Pipeline.entry 0) ()),
          StableHlo.seq (hostOps1 c),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [mainSegs, segs, Seg.pipes_host, Seg.pipes_region, Seg.pipes_nil]; decide)
    (fun c => due true c + due false c) L_of_ne (parked (BI.own (ER uRing))) uLaunch
    (by
      unfold uLaunch
      iintro Hu
      ihave H := (ownU_pair _ _) $$ Hu
      icases H with ⟨HP, HX⟩
      imodintro
      isplitl [HP]; · iexact HP
      rw [parked_all]; iexact HX)
    (T₀ := fun c => iprop(StableHlo.held (c : Thread nD τ) (Pipeline.ucRefs τ sig) (V0 m c) ∗ EE m 0 c))
    (Tₙ := fun c => iprop(StableHlo.held (c : Thread nD τ) (Pipeline.ucRefs τ sig) (V7 m (outs m) c) ∗ ringYk (F := F) false c ∗ ringYk (F := F) true c))
    (hch := fun c => ⟨.rfl, hpre0 m c, hpost0 m c, hpre1 m c, hpost1 m c, hpre2 m c, hpost2 m c, ?_⟩)
    (hinit := ?_) (QY := fun c s => (∀ b ∈ Pipeline.ucRefs τ sig, s.mem ((c : Thread nD τ).1, b) = V7 m (outs m) c b)
      ∧ s.sem (cell c (.bar false)) = 0 ∧ s.sem (cell c (.bar true)) = 0)
    (hfin := fun c s' => ?_) (hQ := fun s h hs => ⟨fun c => (h c).1, sem_eq_zero hs fun c sm hsm => by
      rcases unscoped_eq sm hsm with rfl | rfl
      · exact (h c).2.1
      · exact (h c).2.2⟩)
  · show iprop(StableHlo.held (c : Thread nD τ) (Pipeline.ucRefs τ sig) (V7 m (outs m) c)
        ∗ (prng c ∗ ringYk (F := F) false c ∗ ringYk (F := F) true c ∗ owing (F := F) c 0)) ⊢ _
    unfold owing
    iintro ⟨Hh, -, H1, H2, HO⟩
    isplitr [HO]
    · isplitl [Hh]; · iexact Hh
      isplitl [H1] <;> iassumption
    · iexact HO
  · have hsplit : (bigSep Finset.univ fun c : Dev nD => iprop(unscopedBufs c (fun b => m ((c.tc : Thread nD τ).loc b)) ∗ given (F := F) ρ c))
        ⊢ (iprop((bigSep Finset.univ fun c : Dev nD => StableHlo.held (c : Thread nD τ) (Pipeline.ucRefs τ sig) (V0 m c))
            ∗ bigSep Finset.univ (given (F := F) ρ)) : sProp 𝕄) := by
      rw [← bigSep_sep']
      exact bigSep_mono fun c _ => by rw [← Pipeline.unscopedBufs_held (Ix := ℕ) (Name := ℕ) (U := UU) (Lvl := ℕ) c (V0 m c)]; exact BI.Entails.refl _
    show iprop((bigSep Finset.univ fun c : Dev nD => iprop(unscopedBufs c (fun b => m ((c.tc : Thread nD τ).loc b)) ∗ given (F := F) ρ c)) ∗ levAts L lv) ⊢ _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE
  · unfold StableHlo.held ringYk
    iintro ⟨⟨Hh, H1, H2⟩, HSI⟩
    icombine HSI H1 gives %h1
    icombine HSI H2 gives %h2
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact ⟨h, by simpa using h1, by simpa using h2⟩
    · iexact HSI

omit [FloatOps F] in
theorem uc_mem (b : Ref sig .tc) (h : (Proc.devRef (τ := τ) .tc b).isScoped = false) : (Proc.devRef .tc b : DevRef τ sig) ∈ Pipeline.ucRefs τ sig :=
  Finset.mem_filter.mpr ⟨StableHlo.devRef_mem_tcRefs b, by rw [h]; decide⟩

end Cert.KernelIdeal.Ring
-- ==== Proof.Frame.lean ====
/- The frame: the arguments are as they were, every counter is at zero. -/
module

public import proofs.«01_k».proof.Proof.Launch

@[expose] public section

set_option maxRecDepth 65536

noncomputable section

namespace Cert.KernelIdeal.Ring

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The arguments end unchanged. -/
abbrev Unchanged (s : MemSt nD τ sig (Elt F)) : Prop := ∀ c : Dev nD,
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)

/-- Every weakly fair execution of @main terminates; the arguments end unchanged, the result holds what the last host operation
    leaves in it, every counter is zero. -/
theorem run_result : θ_run defs (onTc (τ := τ) (main (F := F))) ⟨m, fun _ => 0, ρ⟩ (fun r =>
    (∀ c : Dev nD, r.2.mem ((c.tc : Thread nD τ).loc main_v54) = V7 m (outs m) c main_v54)
      ∧ Unchanged m r.2 ∧ r.2.sem = fun _ => 0) :=
  (θ_run defs _ _).mono (fun r h => ⟨fun c => h.1 c (Proc.devRef .tc main_v54) (uc_mem main_v54 (by decide)), fun c =>
    ⟨(h.1 c (Proc.devRef .tc main_arg0) (uc_mem main_arg0 (by decide))).trans (V7_main_arg0 m (outs m) c),
     (h.1 c (Proc.devRef .tc main_arg1) (uc_mem main_arg1 (by decide))).trans (V7_main_arg1 m (outs m) c),
     (h.1 c (Proc.devRef .tc main_arg2) (uc_mem main_arg2 (by decide))).trans (V7_main_arg2 m (outs m) c),
     (h.1 c (Proc.devRef .tc main_arg3) (uc_mem main_arg3 (by decide))).trans (V7_main_arg3 m (outs m) c),
     (h.1 c (Proc.devRef .tc main_arg4) (uc_mem main_arg4 (by decide))).trans (V7_main_arg4 m (outs m) c),
     (h.1 c (Proc.devRef .tc main_arg5) (uc_mem main_arg5 (by decide))).trans (V7_main_arg5 m (outs m) c),
     (h.1 c (Proc.devRef .tc main_arg6) (uc_mem main_arg6 (by decide))).trans (V7_main_arg6 m (outs m) c),
     (h.1 c (Proc.devRef .tc main_arg7) (uc_mem main_arg7 (by decide))).trans (V7_main_arg7 m (outs m) c)⟩, h.2⟩)
    (run_main m ρ)

/-- The frame. -/
theorem frame : θ_run defs (onTc (τ := τ) (main (F := F))) ⟨m, fun _ => 0, ρ⟩ (fun r => Unchanged m r.2 ∧ r.2.sem = fun _ => 0) :=
  (θ_run defs _ _).mono (fun _ h => h.2) (run_result m ρ)

end Cert.KernelIdeal.Ring
-- ==== Proof.Ref.lean ====
/- The reference: its run, with every counter at zero. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.ReferenceIdeal.Ring

open Cert.ReferenceIdeal Cert.ReferenceIdeal.Gen
open Idealize.ShloMosaic Idealize.ShloMosaic.TcCoe Idealize.SL.Sem

/-- The reference declares no semaphore, so its run leaves every counter at zero. -/
theorem frame : Cert.quiescent_ReferenceIdeal := fun m g _ =>
  (θ_run defs _ _).mono (fun r h => ⟨fun c => (h c).2, sem_eq_zero_of_no_sems (by decide) r.2⟩) (Value.run m g)

end Cert.ReferenceIdeal.Ring
-- ==== Proof.Att.lean ====
/- Attention of one head of one batch entry, in plain mathematics over the extended reals: what the kernel and the
   reference both compute. -/
module

public import Idealize.ShloMosaic.Lib.Pointwise

@[expose] public section

noncomputable section

namespace Cert.Att

open Idealize.ShloMosaic

/-- A score: the products of the latent and of the positional parts, scaled. -/
def score (q k : Fin 256 → Fin 128 → EReal) (qp kp : Fin 256 → Fin 64 → EReal) (s t : Fin 256) : EReal :=
  ((∑ d : Fin 128, q s d * k t d) + ∑ d : Fin 64, qp s d * kp t d) * Ideal.ofBits .f32 0x3D93CD3A#32

/-- A row's greatest score. -/
def top (S : Fin 256 → Fin 256 → EReal) (s : Fin 256) : EReal :=
  (Finset.univ : Finset (Fin 256)).fold max (Ideal.ofBits .f32 0xFF800000#32) (S s)

/-- A score's exponential, its row's greatest taken off. -/
def ex (S : Fin 256 → Fin 256 → EReal) (s t : Fin 256) : EReal := Ideal.exp (S s t - top S s)

/-- A weight: the exponential over its row's sum. -/
def prob (S : Fin 256 → Fin 256 → EReal) (s t : Fin 256) : EReal := Ideal.div (ex S s t) (∑ u : Fin 256, ex S s u)

/-- A head's output: the weighted values. -/
def out (P : Fin 256 → Fin 256 → EReal) (v : Fin 256 → Fin 128 → EReal) (s : Fin 256) (d : Fin 128) : EReal :=
  ∑ t : Fin 256, P s t * v t d

end Cert.Att
-- ==== Proof.RefVal.lean ====
/- The reference's result, read at an index. -/
module

public import proofs.«01_k».proof.Proof.Ref
public import proofs.«01_k».proof.Proof.Att

@[expose] public section

set_option maxRecDepth 65536

noncomputable section

namespace Cert.ReferenceIdeal.Ring

open Cert.ReferenceIdeal Cert.ReferenceIdeal.Gen
open Idealize.ShloMosaic Idealize.ShloMosaic.TcCoe Idealize.SL.Sem
open Cert.Att

/-! ## The operations, in groups -/

/-- A product with a square matrix of weights. -/
def proj (x : FVec Ideal S4x256x4096 .f32) (w : FVec Ideal S4096x4096 .f32) : FVec Ideal S4x256x4096 .f32 :=
  Host.dotGeneral dot_S4x256x4096_S4096x4096_S4x256x4096_2_0_01_1_n_n none x w

/-- The heads of a product. -/
def heads (x : FVec Ideal S4x256x4096 .f32) : FVec Ideal S4x256x32x128 .f32 := shapeCast S4x256x32x128 x shapeCasts_S4x256x4096_S4x256x32x128

/-- The positional parts of the queries, -/
def qpos (x : FVec Ideal S4x256x4096 .f32) (w : FVec Ideal S4096x2048 .f32) : FVec Ideal S4x256x32x64 .f32 :=
  shapeCast S4x256x32x64 (Host.dotGeneral dot_S4x256x4096_S4096x2048_S4x256x2048_2_0_01_1_n_n none x w : FVec Ideal S4x256x2048 .f32) shapeCasts_S4x256x2048_S4x256x32x64
/-- and of the keys. -/
def kpos (x : FVec Ideal S4x256x4096 .f32) (w : FVec Ideal S4096x64 .f32) : FVec Ideal S4x256x1x64 .f32 :=
  shapeCast S4x256x1x64 (Host.dotGeneral dot_S4x256x4096_S4096x64_S4x256x64_2_0_01_1_n_n none x w : FVec Ideal S4x256x64 .f32) shapeCasts_S4x256x64_S4x256x1x64

/-- The scores. -/
def scores (q k : FVec Ideal S4x256x32x128 .f32) (qp : FVec Ideal S4x256x32x64 .f32) (kp : FVec Ideal S4x256x1x64 .f32) : FVec Ideal S4x32x256x256 .f32 :=
  mulf (addf (Host.dotGeneral dot_S4x256x32x128_S4x256x32x128_S4x32x256x256_3_3_1_1_02_02 none q k)
      (Host.dotGeneral dot_S4x256x32x64_S4x256x32x64_S4x32x256x256_3_3_1_1_02_02 none qp
        (broadcastInDim S4x256x32x64 ![0, 1, 2, 3] bcast_S4x256x1x64_S4x256x32x64_0_1_2_3 kp)))
    (broadcastInDim S4x32x256x256 ![] bcast_S_S4x32x256x256 (constant S_ .f32 0x3D93CD3A#32))

/-- The exponentials. -/
def exps (S : FVec Ideal S4x32x256x256 .f32) : FVec Ideal S4x32x256x256 .f32 :=
  Host.exp (subf S (broadcastInDim S4x32x256x256 ![0, 1, 2, 3] bcast_S4x32x256x1_S4x32x256x256_0_1_2_3
    (broadcastInDim S4x32x256x1 ![0, 1, 2] bcast_S4x32x256_S4x32x256x1_0_1_2
      (Host.reduce FloatOps.maximumf S (constant S_ .f32 0xFF800000#32) reducesTo_S4x32x256x256_S4x32x256_d3 h_S_))))

/-- The weights. -/
def probs (E : FVec Ideal S4x32x256x256 .f32) : FVec Ideal S4x32x256x256 .f32 :=
  Host.divf E (broadcastInDim S4x32x256x256 ![0, 1, 2, 3] bcast_S4x32x256x1_S4x32x256x256_0_1_2_3
    (broadcastInDim S4x32x256x1 ![0, 1, 2] bcast_S4x32x256_S4x32x256x1_0_1_2
      (Host.reduceAdd E (constant S_ .f32 0x00000000#32) reducesTo_S4x32x256x256_S4x32x256_d3 h_S_)))

/-- The weighted values, head by head. -/
def weighted (v : FVec Ideal S4x256x32x128 .f32) (P : FVec Ideal S4x32x256x256 .f32) : FVec Ideal S4x256x32x128 .f32 :=
  transpose S4x256x32x128 [0, 3, 1, 2] (Host.dotGeneral dot_S4x256x32x128_S4x32x256x256_S4x32x128x256_1_3_3_2_02_01 none v P : FVec Ideal S4x32x128x256 .f32)
    transposes_S4x32x128x256_S4x256x32x128_0_3_1_2

/-- The heads side by side. -/
def joined (o : FVec Ideal S4x256x32x128 .f32) : FVec Ideal S4x256x4096 .f32 := shapeCast S4x256x4096 o shapeCasts_S4x256x32x128_S4x256x4096

/-! ## The groups at an index -/

theorem proj_apply (x : FVec Ideal S4x256x4096 .f32) (w : FVec Ideal S4096x4096 .f32) (b : Fin 4) (s : Fin 256) (n : Fin 4096) :
    proj x w (ix3 b s n) = ∑ k : Fin 4096, x (ix3 b s k) * w (ix2 k n) := by
  pointwise [proj]

theorem heads_apply (x : FVec Ideal S4x256x4096 .f32) (b : Fin 4) (s : Fin 256) (h : Fin 32) (d : Fin 128) :
    heads x (ix4 b s h d) = x (ix3 b s ⟨128 * h.val + d.val, by omega⟩) := by
  unfold heads
  refine congrArg x (Shape.reshapeEquiv_eq_of_rowMajor _ ?_)
  rw [rowMajor_val3 _ (256 * 4096) 4096 rfl rfl, rowMajor_val4 _ (256 * (32 * 128)) (32 * 128) 128 rfl rfl rfl]
  show b.val * (256 * 4096) + s.val * 4096 + (128 * h.val + d.val) = b.val * (256 * (32 * 128)) + s.val * (32 * 128) + h.val * 128 + d.val
  omega

theorem qpos_apply (x : FVec Ideal S4x256x4096 .f32) (w : FVec Ideal S4096x2048 .f32) (b : Fin 4) (s : Fin 256) (h : Fin 32) (d : Fin 64) :
    qpos x w (ix4 b s h d) = ∑ k : Fin 4096, x (ix3 b s k) * w (ix2 k ⟨64 * h.val + d.val, by omega⟩) := by
  unfold qpos
  refine (congrArg (Host.dotGeneral dot_S4x256x4096_S4096x2048_S4x256x2048_2_0_01_1_n_n none x w : FVec Ideal S4x256x2048 .f32)
    (Shape.reshapeEquiv_eq_of_rowMajor (y := ix3 b s ⟨64 * h.val + d.val, by omega⟩) _ ?_)).trans ?_
  · rw [rowMajor_val3 _ (256 * 2048) 2048 rfl rfl, rowMajor_val4 _ (256 * (32 * 64)) (32 * 64) 64 rfl rfl rfl]
    show b.val * (256 * 2048) + s.val * 2048 + (64 * h.val + d.val) = b.val * (256 * (32 * 64)) + s.val * (32 * 64) + h.val * 64 + d.val
    omega
  · pointwise

theorem kpos_apply (x : FVec Ideal S4x256x4096 .f32) (w : FVec Ideal S4096x64 .f32) (b : Fin 4) (s : Fin 256) (d : Fin 64) :
    kpos x w (ix4 b s 0 d) = ∑ k : Fin 4096, x (ix3 b s k) * w (ix2 k d) := by
  pointwise [kpos]

theorem scores_apply (q k : FVec Ideal S4x256x32x128 .f32) (qp : FVec Ideal S4x256x32x64 .f32) (kp : FVec Ideal S4x256x1x64 .f32)
    (b : Fin 4) (h : Fin 32) (s t : Fin 256) : scores q k qp kp (ix4 b h s t)
      = score (fun s d => q (ix4 b s h d)) (fun s d => k (ix4 b s h d)) (fun s d => qp (ix4 b s h d)) (fun s d => kp (ix4 b s 0 d)) s t := by
  pointwise [scores, score]

theorem exps_apply (S : FVec Ideal S4x32x256x256 .f32) (b : Fin 4) (h : Fin 32) (s t : Fin 256) :
    exps S (ix4 b h s t) = ex (fun s t => S (ix4 b h s t)) s t := by
  pointwise [exps, ex, top]

theorem probs_apply (S : FVec Ideal S4x32x256x256 .f32) (b : Fin 4) (h : Fin 32) (s t : Fin 256) :
    probs (exps S) (ix4 b h s t) = prob (fun s t => S (ix4 b h s t)) s t := by
  unfold prob
  simp only [← exps_apply]
  generalize exps S = E
  pointwise [probs]

theorem weighted_apply (v : FVec Ideal S4x256x32x128 .f32) (P : FVec Ideal S4x32x256x256 .f32) (b : Fin 4) (s : Fin 256) (h : Fin 32) (d : Fin 128) :
    weighted v P (ix4 b s h d) = out (fun s t => P (ix4 b h s t)) (fun s d => v (ix4 b s h d)) s d := by
  pointwise! [weighted, out]

theorem joined_apply (o : FVec Ideal S4x256x32x128 .f32) (b : Fin 4) (s : Fin 256) (h : Fin 32) (d : Fin 128) :
    joined o (ix3 b s ⟨128 * h.val + d.val, by omega⟩) = o (ix4 b s h d) := by
  unfold joined
  refine congrArg o (Shape.reshapeEquiv_eq_of_rowMajor _ ?_)
  rw [rowMajor_val3 _ (256 * 4096) 4096 rfl rfl, rowMajor_val4 _ (256 * (32 * 128)) (32 * 128) 128 rfl rfl rfl]
  show b.val * (256 * (32 * 128)) + s.val * (32 * 128) + h.val * 128 + d.val = b.val * (256 * 4096) + s.val * 4096 + (128 * h.val + d.val)
  omega

/-! ## The result -/

variable (m : (ℓ : Loc nD τ sig) → Buf (Elt Ideal) ℓ)

/-- The reference's result is the groups' composition. -/
theorem result_eq (c : Dev nD) : Value.res_out0 m c
    = proj (joined (weighted
        (heads (proj (proj (m ((c.tc : Thread nD τ).loc main_arg0)) (m ((c.tc : Thread nD τ).loc main_arg1))) (m ((c.tc : Thread nD τ).loc main_arg3))))
        (probs (exps (scores (heads (proj (m ((c.tc : Thread nD τ).loc main_arg0)) (m ((c.tc : Thread nD τ).loc main_arg4))))
          (heads (proj (proj (m ((c.tc : Thread nD τ).loc main_arg0)) (m ((c.tc : Thread nD τ).loc main_arg1))) (m ((c.tc : Thread nD τ).loc main_arg2))))
          (qpos (m ((c.tc : Thread nD τ).loc main_arg0)) (m ((c.tc : Thread nD τ).loc main_arg5)))
          (kpos (m ((c.tc : Thread nD τ).loc main_arg0)) (m ((c.tc : Thread nD τ).loc main_arg6))))))))
      (m ((c.tc : Thread nD τ).loc main_arg7)) := by
  unfold Value.res_out0 Value.res_main_v29
  rfl

end Cert.ReferenceIdeal.Ring
-- ==== Proof.KerVal.lean ====
/- The kernel's host operations and calls, read at an index. -/
module

public import proofs.«01_k».proof.Proof.Frame
public import proofs.«01_k».proof.Proof.Att
public import Idealize.ShloMosaic.Lib.StableHlo.RunClose

@[expose] public section

set_option maxRecDepth 65536

noncomputable section

namespace Cert.KernelIdeal.Ring

open Cert.KernelIdeal Cert.KernelIdeal.Gen

open Idealize.ShloMosaic
open Idealize.ShloMosaic.TcCoe
open Idealize.SL.Sem
open Cert.Att

/-- The row of the flattened batch. -/
abbrev row (b : Fin 4) (s : Fin 256) : Fin 1024 := ⟨256 * b.val + s.val, by omega⟩

/-- A column of a head, of the 4096. -/
abbrev col (h : Fin 32) (d : Fin 128) : Fin 4096 := ⟨128 * h.val + d.val, by omega⟩

/-! ## Reshapes -/

theorem flat_apply (x : FVec Ideal S4x256x4096 .f32) (b : Fin 4) (s : Fin 256) (k : Fin 4096) :
    shapeCast S1024x4096 x shapeCasts_S4x256x4096_S1024x4096 (ix2 (row b s) k) = x (ix3 b s k) := by
  refine congrArg x (Shape.reshapeEquiv_eq_of_rowMajor _ ?_)
  rw [rowMajor_val3 _ (256 * 4096) 4096 rfl rfl, rowMajor_val2 _ 4096 rfl]
  show b.val * (256 * 4096) + s.val * 4096 + k.val = (256 * b.val + s.val) * 4096 + k.val
  omega

theorem unflat_apply (x : FVec Ideal S1024x4096 .f32) (b : Fin 4) (s : Fin 256) (k : Fin 4096) :
    shapeCast S4x256x4096 x shapeCasts_S1024x4096_S4x256x4096 (ix3 b s k) = x (ix2 (row b s) k) := by
  refine congrArg x (Shape.reshapeEquiv_eq_of_rowMajor _ ?_)
  rw [rowMajor_val3 _ (256 * 4096) 4096 rfl rfl, rowMajor_val2 _ 4096 rfl]
  show (256 * b.val + s.val) * 4096 + k.val = b.val * (256 * 4096) + s.val * 4096 + k.val
  omega

theorem flat128_apply (x : FVec Ideal S4x256x128 .f32) (b : Fin 4) (s : Fin 256) (k : Fin 128) :
    shapeCast S1024x128 x shapeCasts_S4x256x128_S1024x128 (ix2 (row b s) k) = x (ix3 b s k) := by
  refine congrArg x (Shape.reshapeEquiv_eq_of_rowMajor _ ?_)
  rw [rowMajor_val3 _ (256 * 128) 128 rfl rfl, rowMajor_val2 _ 128 rfl]
  show b.val * (256 * 128) + s.val * 128 + k.val = (256 * b.val + s.val) * 128 + k.val
  omega

theorem unflat128_apply (x : FVec Ideal S1024x128 .f32) (b : Fin 4) (s : Fin 256) (k : Fin 128) :
    shapeCast S4x256x128 x shapeCasts_S1024x128_S4x256x128 (ix3 b s k) = x (ix2 (row b s) k) := by
  refine congrArg x (Shape.reshapeEquiv_eq_of_rowMajor _ ?_)
  rw [rowMajor_val3 _ (256 * 128) 128 rfl rfl, rowMajor_val2 _ 128 rfl]
  show (256 * b.val + s.val) * 128 + k.val = b.val * (256 * 128) + s.val * 128 + k.val
  omega

theorem unflat64_apply (x : FVec Ideal S1024x64 .f32) (b : Fin 4) (s : Fin 256) (k : Fin 64) :
    shapeCast S4x256x64 x shapeCasts_S1024x64_S4x256x64 (ix3 b s k) = x (ix2 (row b s) k) := by
  refine congrArg x (Shape.reshapeEquiv_eq_of_rowMajor _ ?_)
  rw [rowMajor_val3 _ (256 * 64) 64 rfl rfl, rowMajor_val2 _ 64 rfl]
  show (256 * b.val + s.val) * 64 + k.val = b.val * (256 * 64) + s.val * 64 + k.val
  omega

/-! ## The partial products of the keys and the values -/

/-- The device's part of the latents. -/
def lat (x : FVec Ideal S4x256x4096 .f32) (wd : FVec Ideal S4096x128 .f32) : FVec Ideal S1024x128 .f32 :=
  Host.dotGeneral dot_S1024x4096_S4096x128_S1024x128_1_0_0_1_n_n none (shapeCast S1024x4096 x shapeCasts_S4x256x4096_S1024x4096) wd

theorem lat_apply (x : FVec Ideal S4x256x4096 .f32) (wd : FVec Ideal S4096x128 .f32) (b : Fin 4) (s : Fin 256) (j : Fin 128) :
    lat x wd (ix2 (row b s) j) = ∑ k : Fin 4096, x (ix3 b s k) * wd (ix2 k j) := by
  unfold lat
  simp only [← flat_apply]
  generalize shapeCast S1024x4096 x shapeCasts_S4x256x4096_S1024x4096 = y
  pointwise

/-- The part's product with rows of weights. -/
def up (l : FVec Ideal S1024x128 .f32) (w : FVec Ideal S128x4096 .f32) : FVec Ideal S1024x4096 .f32 :=
  Host.dotGeneral dot_S1024x128_S128x4096_S1024x4096_1_0_0_1_n_n none l w

theorem up_apply (l : FVec Ideal S1024x128 .f32) (w : FVec Ideal S128x4096 .f32) (r : Fin 1024) (n : Fin 4096) :
    up l w (ix2 r n) = ∑ j : Fin 128, l (ix2 r j) * w (ix2 j n) := by
  pointwise [up]

/-- Both products, head by head. -/
def blocks (a v : FVec Ideal S1024x4096 .f32) : FVec Ideal S32x2x1024x128 .f32 :=
  transpose S32x2x1024x128 [2, 0, 1, 3] (shapeCast S2x1024x32x128
    (concatenate S2x1024x4096 0 [⟨S1x1024x4096, broadcastInDim S1x1024x4096 ![1, 2] bcast_S1024x4096_S1x1024x4096_1_2 a⟩,
      ⟨S1x1024x4096, broadcastInDim S1x1024x4096 ![1, 2] bcast_S1024x4096_S1x1024x4096_1_2 v⟩] concatenates_S1x1024x4096_S1x1024x4096_S2x1024x4096_d0)
    shapeCasts_S2x1024x4096_S2x1024x32x128) transposes_S2x1024x32x128_S32x2x1024x128_2_0_1_3

theorem cut_apply (x : FVec Ideal S2x1024x4096 .f32) (e : Fin 2) (r : Fin 1024) (h : Fin 32) (d : Fin 128) :
    shapeCast S2x1024x32x128 x shapeCasts_S2x1024x4096_S2x1024x32x128 (ix4 e r h d) = x (ix3 e r (col h d)) := by
  refine congrArg x (Shape.reshapeEquiv_eq_of_rowMajor _ ?_)
  rw [rowMajor_val3 _ (1024 * 4096) 4096 rfl rfl, rowMajor_val4 _ (1024 * (32 * 128)) (32 * 128) 128 rfl rfl rfl]
  show e.val * (1024 * 4096) + r.val * 4096 + (128 * h.val + d.val) = e.val * (1024 * (32 * 128)) + r.val * (32 * 128) + h.val * 128 + d.val
  omega

theorem stack_fst (a v : FVec Ideal S1024x4096 .f32) (r : Fin 1024) (n : Fin 4096) :
    (concatenate S2x1024x4096 0 [⟨S1x1024x4096, broadcastInDim S1x1024x4096 ![1, 2] bcast_S1024x4096_S1x1024x4096_1_2 a⟩,
      ⟨S1x1024x4096, broadcastInDim S1x1024x4096 ![1, 2] bcast_S1024x4096_S1x1024x4096_1_2 v⟩] concatenates_S1x1024x4096_S1x1024x4096_S2x1024x4096_d0 :
        FVec Ideal S2x1024x4096 .f32) (ix3 0 r n) = a (ix2 r n) := by
  pointwise

theorem stack_snd (a v : FVec Ideal S1024x4096 .f32) (r : Fin 1024) (n : Fin 4096) :
    (concatenate S2x1024x4096 0 [⟨S1x1024x4096, broadcastInDim S1x1024x4096 ![1, 2] bcast_S1024x4096_S1x1024x4096_1_2 a⟩,
      ⟨S1x1024x4096, broadcastInDim S1x1024x4096 ![1, 2] bcast_S1024x4096_S1x1024x4096_1_2 v⟩] concatenates_S1x1024x4096_S1x1024x4096_S2x1024x4096_d0 :
        FVec Ideal S2x1024x4096 .f32) (ix3 1 r n) = v (ix2 r n) := by
  pointwise

theorem turn_apply (x : FVec Ideal S2x1024x32x128 .f32) (h : Fin 32) (e : Fin 2) (r : Fin 1024) (d : Fin 128) :
    transpose S32x2x1024x128 [2, 0, 1, 3] x transposes_S2x1024x32x128_S32x2x1024x128_2_0_1_3 (ix4 h e r d) = x (ix4 e r h d) := by
  pointwise

theorem blocks_fst (a v : FVec Ideal S1024x4096 .f32) (h : Fin 32) (r : Fin 1024) (d : Fin 128) :
    blocks a v (ix4 h 0 r d) = a (ix2 r (col h d)) := by
  unfold blocks
  rw [turn_apply, cut_apply, stack_fst]

theorem blocks_snd (a v : FVec Ideal S1024x4096 .f32) (h : Fin 32) (r : Fin 1024) (d : Fin 128) :
    blocks a v (ix4 h 1 r d) = v (ix2 r (col h d)) := by
  unfold blocks
  rw [turn_apply, cut_apply, stack_snd]

/-! ## The device's columns -/

/-- The device's number, as the host counts it. -/
abbrev me (c : Dev nD) : (⟨S_, .i32⟩ : BufTy).Contents (Elt Ideal) :=
  Host.remui (Host.divui (constantI S_ 32 (Dev.word c)) (constantI S_ 32 1#32)) (constantI S_ 32 32#32)

/-- The first of the device's columns, of width `w` among `n`. -/
abbrev start (c : Dev nD) (w n : BitVec 32) : (⟨S_, .i32⟩ : BufTy).Contents (Elt Ideal) :=
  select (cmpi .slt (muli (me c) (constantI S_ 32 w)) (constantI S_ 32 0#32)) (addi (muli (me c) (constantI S_ 32 w)) (constantI S_ 32 n))
    (muli (me c) (constantI S_ 32 w))

/-- Where the device's columns start. -/
abbrev starts (c : Dev nD) (w n : BitVec 32) : Fin 2 → ℤ := fun k =>
  ((![constantI S_ 32 0#32, start c w n] : Fin 2 → (⟨S_, .i32⟩ : BufTy).Contents (Elt Ideal)) k (Shape.Idx.first h_S_)).toInt

/-- The device's columns of the queries' weights, -/
def colsQ (w : FVec Ideal S4096x4096 .f32) (c : Dev nD) : FVec Ideal S4096x128 .f32 :=
  Host.dynamicSlice S4096x128 w (starts c 128#32 4096#32) sliceFits_S4096x4096_S4096x128
/-- and of their positional parts'. -/
def colsP (w : FVec Ideal S4096x2048 .f32) (c : Dev nD) : FVec Ideal S4096x64 .f32 :=
  Host.dynamicSlice S4096x64 w (starts c 64#32 2048#32) sliceFits_S4096x2048_S4096x64

theorem start_Q (c : Dev nD) (i : S_.Idx) : (start c 128#32 4096#32 i).toInt = ((128 * c.val : ℕ) : ℤ) := by
  show (start c 128#32 4096#32 (fun a => a.elim0)).toInt = _
  clear i
  revert c
  decide

theorem start_P (c : Dev nD) (i : S_.Idx) : (start c 64#32 2048#32 i).toInt = ((64 * c.val : ℕ) : ℤ) := by
  show (start c 64#32 2048#32 (fun a => a.elim0)).toInt = _
  clear i
  revert c
  decide

theorem colsQ_apply (w : FVec Ideal S4096x4096 .f32) (c : Dev nD) (k : Fin 4096) (d : Fin 128) : colsQ w c (ix2 k d) = w (ix2 k (col c d)) := by
  have hc : c.val < 32 := c.isLt
  have h0 : Host.clampedStart S4096x4096 S4096x128 rfl (starts c 128#32 4096#32) (0 : Fin 2) = 0 :=
    Host.clampedStart_of_le (s := S4096x4096) (t := S4096x128) rfl (starts c 128#32 4096#32) (0 : Fin 2) 0 rfl (Nat.le_refl 4096)
  have h1 : Host.clampedStart S4096x4096 S4096x128 rfl (starts c 128#32 4096#32) (1 : Fin 2) = 128 * c.val :=
    Host.clampedStart_of_le (s := S4096x4096) (t := S4096x128) rfl (starts c 128#32 4096#32) (1 : Fin 2) (128 * c.val) (start_Q c _)
      (by show 128 * c.val + 128 ≤ 4096; omega)
  unfold colsQ
  rw [Host.dynamicSlice_apply]
  refine congrArg w (funext fun a => Fin.ext ?_)
  match a with
  | ⟨0, _⟩ => exact (congrArg (· + k.val) h0).trans (Nat.zero_add _)
  | ⟨1, _⟩ => exact congrArg (· + d.val) h1

theorem colsP_apply (w : FVec Ideal S4096x2048 .f32) (c : Dev nD) (k : Fin 4096) (d : Fin 64) :
    colsP w c (ix2 k d) = w (ix2 k ⟨64 * c.val + d.val, by have hc : c.val < 32 := c.isLt; omega⟩) := by
  have hc : c.val < 32 := c.isLt
  have h0 : Host.clampedStart S4096x2048 S4096x64 rfl (starts c 64#32 2048#32) (0 : Fin 2) = 0 :=
    Host.clampedStart_of_le (s := S4096x2048) (t := S4096x64) rfl (starts c 64#32 2048#32) (0 : Fin 2) 0 rfl (Nat.le_refl 4096)
  have h1 : Host.clampedStart S4096x2048 S4096x64 rfl (starts c 64#32 2048#32) (1 : Fin 2) = 64 * c.val :=
    Host.clampedStart_of_le (s := S4096x2048) (t := S4096x64) rfl (starts c 64#32 2048#32) (1 : Fin 2) (64 * c.val) (start_P c _)
      (by show 64 * c.val + 64 ≤ 2048; omega)
  unfold colsP
  rw [Host.dynamicSlice_apply]
  refine congrArg w (funext fun a => Fin.ext ?_)
  match a with
  | ⟨0, _⟩ => exact (congrArg (· + k.val) h0).trans (Nat.zero_add _)
  | ⟨1, _⟩ => exact congrArg (· + d.val) h1

/-! ## The head's attention -/

/-- The head's queries. -/
def query (x : FVec Ideal S4x256x4096 .f32) (w : FVec Ideal S4096x128 .f32) : FVec Ideal S4x256x128 .f32 :=
  shapeCast S4x256x128 (lat x w) shapeCasts_S1024x128_S4x256x128

theorem query_apply (x : FVec Ideal S4x256x4096 .f32) (w : FVec Ideal S4096x128 .f32) (b : Fin 4) (s : Fin 256) (d : Fin 128) :
    query x w (ix3 b s d) = ∑ k : Fin 4096, x (ix3 b s k) * w (ix2 k d) := by
  unfold query
  rw [unflat128_apply, lat_apply]

/-- A positional part. -/
def posn (x : FVec Ideal S4x256x4096 .f32) (w : FVec Ideal S4096x64 .f32) : FVec Ideal S4x256x64 .f32 :=
  shapeCast S4x256x64 (Host.dotGeneral dot_S1024x4096_S4096x64_S1024x64_1_0_0_1_n_n none
    (shapeCast S1024x4096 x shapeCasts_S4x256x4096_S1024x4096 : FVec Ideal S1024x4096 .f32) w : FVec Ideal S1024x64 .f32) shapeCasts_S1024x64_S4x256x64

theorem posn_apply (x : FVec Ideal S4x256x4096 .f32) (w : FVec Ideal S4096x64 .f32) (b : Fin 4) (s : Fin 256) (d : Fin 64) :
    posn x w (ix3 b s d) = ∑ k : Fin 4096, x (ix3 b s k) * w (ix2 k d) := by
  unfold posn
  rw [unflat64_apply]
  simp only [← flat_apply]
  generalize shapeCast S1024x4096 x shapeCasts_S4x256x4096_S1024x4096 = y
  pointwise

/-- The first row of the reduced blocks. -/
def kRow (kv : FVec Ideal S2x1024x128 .f32) : FVec Ideal S4x256x128 .f32 :=
  shapeCast S4x256x128 (shapeCast S1024x128
    (extractStridedSlice S1x1024x128 ![0, 0, 0] kv slices_S2x1024x128_S1x1024x128_0_0_0 : FVec Ideal S1x1024x128 .f32)
    shapeCasts_S1x1024x128_S1024x128 : FVec Ideal S1024x128 .f32) shapeCasts_S1024x128_S4x256x128

theorem drop_apply (x : FVec Ideal S1x1024x128 .f32) (r : Fin 1024) (d : Fin 128) :
    shapeCast S1024x128 x shapeCasts_S1x1024x128_S1024x128 (ix2 r d) = x (ix3 0 r d) := by
  refine congrArg x (Shape.reshapeEquiv_eq_of_rowMajor _ ?_)
  rw [rowMajor_val3 _ (1024 * 128) 128 rfl rfl, rowMajor_val2 _ 128 rfl]
  show 0 * (1024 * 128) + r.val * 128 + d.val = r.val * 128 + d.val
  omega

theorem lift_apply (x : FVec Ideal S1024x128 .f32) (r : Fin 1024) (d : Fin 128) :
    shapeCast S1x1024x128 x shapeCasts_S1024x128_S1x1024x128 (ix3 0 r d) = x (ix2 r d) := by
  refine congrArg x (Shape.reshapeEquiv_eq_of_rowMajor _ ?_)
  rw [rowMajor_val3 _ (1024 * 128) 128 rfl rfl, rowMajor_val2 _ 128 rfl]
  show r.val * 128 + d.val = 0 * (1024 * 128) + r.val * 128 + d.val
  omega

theorem kRow_apply (kv : FVec Ideal S2x1024x128 .f32) (b : Fin 4) (s : Fin 256) (d : Fin 128) : kRow kv (ix3 b s d) = kv (ix3 0 (row b s) d) := by
  unfold kRow
  rw [unflat128_apply, drop_apply]
  pointwise

theorem vRow_apply (kv : FVec Ideal S2x1024x128 .f32) (b : Fin 4) (s : Fin 256) (d : Fin 128) :
    vRow (F := Ideal) kv (ix3 b s d) = kv (ix3 1 (row b s) d) := by
  unfold vRow
  refine (unflat128_apply _ b s d).trans ((drop_apply _ (row b s) d).trans ?_)
  pointwise

/-- The head's scores. -/
def scores (q k : FVec Ideal S4x256x128 .f32) (qp kp : FVec Ideal S4x256x64 .f32) : FVec Ideal S4x256x256 .f32 :=
  mulf (addf (Host.dotGeneral dot_S4x256x128_S4x256x128_S4x256x256_2_2_1_1_0_0 none q k)
      (Host.dotGeneral dot_S4x256x64_S4x256x64_S4x256x256_2_2_1_1_0_0 none qp kp))
    (broadcastInDim S4x256x256 ![] bcast_S_S4x256x256 (constant S_ .f32 0x3D93CD3A#32))

/-- The exponentials. -/
def exps (S : FVec Ideal S4x256x256 .f32) : FVec Ideal S4x256x256 .f32 :=
  Host.exp (subf S (broadcastInDim S4x256x256 ![0, 1, 2] bcast_S4x256x1_S4x256x256_0_1_2
    (broadcastInDim S4x256x1 ![0, 1] bcast_S4x256_S4x256x1_0_1
      (Host.reduce FloatOps.maximumf S (constant S_ .f32 0xFF800000#32) reducesTo_S4x256x256_S4x256_d2 h_S_))))

/-- The weights. -/
def probs (E : FVec Ideal S4x256x256 .f32) : FVec Ideal S4x256x256 .f32 :=
  Host.divf E (broadcastInDim S4x256x256 ![0, 1, 2] bcast_S4x256x1_S4x256x256_0_1_2
    (broadcastInDim S4x256x1 ![0, 1] bcast_S4x256_S4x256x1_0_1
      (Host.reduceAdd E (constant S_ .f32 0x00000000#32) reducesTo_S4x256x256_S4x256_d2 h_S_)))

theorem scores_apply (q k : FVec Ideal S4x256x128 .f32) (qp kp : FVec Ideal S4x256x64 .f32) (b : Fin 4) (s t : Fin 256) :
    scores q k qp kp (ix3 b s t)
      = score (fun s d => q (ix3 b s d)) (fun s d => k (ix3 b s d)) (fun s d => qp (ix3 b s d)) (fun s d => kp (ix3 b s d)) s t := by
  pointwise [scores, score]

theorem exps_apply (S : FVec Ideal S4x256x256 .f32) (b : Fin 4) (s t : Fin 256) : exps S (ix3 b s t) = ex (fun s t => S (ix3 b s t)) s t := by
  pointwise [exps, ex, top]

theorem probs_apply (S : FVec Ideal S4x256x256 .f32) (b : Fin 4) (s t : Fin 256) :
    probs (exps S) (ix3 b s t) = prob (fun s t => S (ix3 b s t)) s t := by
  unfold prob
  simp only [← exps_apply]
  generalize exps S = E
  pointwise [probs]

theorem pvOut_apply (P : FVec Ideal S4x256x256 .f32) (kv : FVec Ideal S2x1024x128 .f32) (b : Fin 4) (s : Fin 256) (d : Fin 128) :
    pvOut (F := Ideal) P kv (ix3 b s d) = out (fun s t => P (ix3 b s t)) (fun t d => kv (ix3 1 (row b t) d)) s d := by
  unfold pvOut out
  simp only [← vRow_apply]
  generalize vRow (F := Ideal) kv = v
  pointwise

/-! ## The gathered outputs -/

/-- The heads side by side. -/
def joined (y : FVec Ideal S32x1024x128 .f32) : FVec Ideal S1024x4096 .f32 :=
  shapeCast S1024x4096 (transpose S1024x32x128 [1, 0, 2] y transposes_S32x1024x128_S1024x32x128_1_0_2 : FVec Ideal S1024x32x128 .f32)
    shapeCasts_S1024x32x128_S1024x4096

theorem joined_apply (y : FVec Ideal S32x1024x128 .f32) (h : Fin 32) (r : Fin 1024) (d : Fin 128) :
    joined y (ix2 r (col h d)) = y (ix3 h r d) := by
  unfold joined
  refine (congrArg (transpose S1024x32x128 [1, 0, 2] y transposes_S32x1024x128_S1024x32x128_1_0_2 : FVec Ideal S1024x32x128 .f32)
    (Shape.reshapeEquiv_eq_of_rowMajor (y := ix3 r h d) _ ?_)).trans ?_
  · rw [rowMajor_val3 _ (32 * 128) 128 rfl rfl, rowMajor_val2 _ 4096 rfl]
    show r.val * (32 * 128) + h.val * 128 + d.val = r.val * 4096 + (128 * h.val + d.val)
    omega
  · pointwise

/-- The product with the last weights. -/
def last (y : FVec Ideal S1024x4096 .f32) (w : FVec Ideal S4096x4096 .f32) : FVec Ideal S4x256x4096 .f32 :=
  shapeCast S4x256x4096 (Host.dotGeneral dot_S1024x4096_S4096x4096_S1024x4096_1_0_0_1_n_n none y w : FVec Ideal S1024x4096 .f32)
    shapeCasts_S1024x4096_S4x256x4096

theorem last_apply (y : FVec Ideal S1024x4096 .f32) (w : FVec Ideal S4096x4096 .f32) (b : Fin 4) (s : Fin 256) (n : Fin 4096) :
    last y w (ix3 b s n) = ∑ j : Fin 4096, y (ix2 (row b s) j) * w (ix2 j n) := by
  unfold last
  rw [unflat_apply]
  pointwise

/-! ## The reduce-scatter's sum -/

/-- The device whose row arrives after `k` steps. -/
def back (d : Bool) (k : ℕ) (c : Dev nD) : Dev nD := ⟨(c.val + (if d then 1 else 31) * k) % 32, Nat.mod_lt _ (by decide)⟩

theorem back_zero (d : Bool) (c : Dev nD) : back d 0 c = c := by
  have hc : c.val < 32 := c.isLt
  refine Fin.ext ?_
  show (c.val + _ * 0) % 32 = c.val
  rw [Nat.mul_zero]
  omega

theorem back_fro (d : Bool) (k : ℕ) (c : Dev nD) : back d k (fro (false, d) c) = back d (k + 1) c := by
  cases d
  · refine Fin.ext ?_
    show ((c.val + 31) % 32 + 31 * k) % 32 = (c.val + 31 * (k + 1)) % 32
    omega
  · refine Fin.ext ?_
    show ((c.val + 1) % 32 + 1 * k) % 32 = (c.val + 1 * (k + 1)) % 32
    omega

/-- The head whose row device `c` adds to at step `s`. -/
def headAt (d : Bool) (s : ℕ) (c : Dev nD) : Dev nD :=
  if d then ⟨(c.val + s + 1) % 32, Nat.mod_lt _ (by decide)⟩ else ⟨(c.val + 63 - s) % 32, Nat.mod_lt _ (by decide)⟩

theorem headAt_zero (d : Bool) (c : Dev nD) : headAt d 0 c = fro (false, d) c := by
  cases d
  · refine Fin.ext ?_
    show (c.val + 63 - 0) % 32 = (c.val + 31) % 32
    omega
  · refine Fin.ext ?_
    show (c.val + 0 + 1) % 32 = (c.val + 1) % 32
    omega

theorem headAt_succ (d : Bool) (s : ℕ) (c : Dev nD) : headAt d (s + 1) c = rowIx d s c := by
  unfold headAt rowIx
  cases d
  · refine Fin.ext ?_
    show (c.val + 63 - (s + 1)) % 32 = (c.val + 62 - s) % 32
    omega
  · rfl

theorem headAt_fro (d : Bool) (s : ℕ) (hs : s < 31) (c : Dev nD) : headAt d s (fro (false, d) c) = headAt d (s + 1) c := by
  cases d
  · refine Fin.ext ?_
    show ((c.val + 31) % 32 + 63 - s) % 32 = (c.val + 63 - (s + 1)) % 32
    omega
  · refine Fin.ext ?_
    show ((c.val + 1) % 32 + s + 1) % 32 = (c.val + (s + 1) + 1) % 32
    omega

theorem headAt_last (d : Bool) (c : Dev nD) : headAt d 31 c = c := by
  have hc : c.val < 32 := c.isLt
  cases d
  · refine Fin.ext ?_
    show (c.val + 63 - 31) % 32 = c.val
    omega
  · refine Fin.ext ?_
    show (c.val + 31 + 1) % 32 = c.val
    omega

/-- The two rows of a head. -/
def rowNo (d : Bool) : Fin 2 := if d then 1 else 0

theorem drop4_apply (x : FVec Ideal S1x1x1024x128 .f32) (r : Fin 1024) (d : Fin 128) :
    shapeCast S1024x128 x shapeCasts_S1x1x1024x128_S1024x128 (ix2 r d) = x (ix4 0 0 r d) := by
  refine congrArg x (Shape.reshapeEquiv_eq_of_rowMajor _ ?_)
  rw [rowMajor_val4 _ (1 * (1024 * 128)) (1024 * 128) 128 rfl rfl rfl, rowMajor_val2 _ 128 rfl]
  show 0 * (1 * (1024 * 128)) + 0 * (1024 * 128) + r.val * 128 + d.val = r.val * 128 + d.val
  omega

theorem rowOf_apply (X : FVec Ideal S32x2x1024x128 .f32) (j : Dev nD) (d : Bool) (r : Fin 1024) (l : Fin 128) :
    rowOf (F := Ideal) X j d (ix4 0 0 r l) = X (ix4 j (rowNo d) r l) := by
  refine congrArg X (funext fun a => Fin.ext ?_)
  fin_cases a
  · show j.val + 1 * 0 = j.val
    omega
  · show d.toNat + 1 * 0 = (rowNo d).val
    cases d <;> rfl
  · show 0 + 1 * r.val = r.val
    omega
  · show 0 + 1 * l.val = l.val
    omega

theorem firstRow_apply (w : FVec Ideal S1x1x1024x128 .f32) (r : Fin 1024) (l : Fin 128) :
    firstRow (F := Ideal) w (ix3 0 r l) = w (ix4 0 0 r l) := by
  unfold firstRow
  rw [lift_apply, drop4_apply]

theorem addRow_apply (v : FVec Ideal S1x1024x128 .f32) (w : FVec Ideal S1x1x1024x128 .f32) (r : Fin 1024) (l : Fin 128) :
    addRow (F := Ideal) v w (ix3 0 r l) = v (ix3 0 r l) + w (ix4 0 0 r l) := by
  unfold addRow
  rw [lift_apply]
  show (shapeCast S1024x128 v shapeCasts_S1x1024x128_S1024x128 (ix2 r l) : EReal) + shapeCast S1024x128 w shapeCasts_S1x1x1024x128_S1024x128 (ix2 r l) = _
  rw [drop_apply, drop4_apply]

/-- What has been summed at step `s`. -/
theorem rsA_sum (kv : Dev nD → FVec Ideal S32x2x1024x128 .f32) (d : Bool) (r : Fin 1024) (l : Fin 128) (s : ℕ) (hs : s < 32) : ∀ c : Dev nD,
    rsA (F := Ideal) kv d s c (ix3 0 r l) = ∑ k ∈ Finset.range (s + 1), kv (back d k c) (ix4 (headAt d s c) (rowNo d) r l) := by
  induction s with
  | zero =>
    intro c
    rw [rsA]
    show firstRow (F := Ideal) _ _ = _
    rw [firstRow_apply, rowOf_apply, Finset.sum_range_one, back_zero, headAt_zero]
  | succ s ih =>
    intro c
    rw [rsA]
    show addRow (F := Ideal) _ _ _ = _
    rw [addRow_apply, rowOf_apply, ih (by omega), Finset.sum_range_succ' _ (s + 1), back_zero, headAt_fro d s (by omega), headAt_succ]
    simp only [back_fro]

theorem back_inj (d : Bool) (c : Dev nD) : Function.Injective fun k : Fin 32 => back d k.val c := by
  intro a b h
  have h' := congrArg Fin.val h
  refine Fin.ext ?_
  have ha := a.isLt
  have hb := b.isLt
  cases d
  · change (c.val + 31 * a.val) % 32 = (c.val + 31 * b.val) % 32 at h'
    omega
  · change (c.val + 1 * a.val) % 32 = (c.val + 1 * b.val) % 32 at h'
    omega

theorem sum_back (d : Bool) (c : Dev nD) (f : Dev nD → EReal) : ∑ k ∈ Finset.range 32, f (back d k c) = ∑ e : Dev nD, f e := by
  rw [Finset.sum_range fun k => f (back d k c)]
  exact Function.Bijective.sum_comp (Finite.injective_iff_bijective.mp (back_inj d c)) f

/-- The reduce-scatter sums the devices' blocks. -/
theorem rsOut_apply (kv : Dev nD → FVec Ideal S32x2x1024x128 .f32) (c : Dev nD) (d : Bool) (r : Fin 1024) (l : Fin 128) :
    rsOut (F := Ideal) kv c (ix3 (rowNo d) r l) = ∑ e : Dev nD, kv e (ix4 c (rowNo d) r l) := by
  have h : rsOut (F := Ideal) kv c (ix3 (rowNo d) r l) = rsA (F := Ideal) kv d 31 c (ix3 0 r l) := by
    have hi : inBlk (ix3 (rowNo d) r l) = ix3 0 r l := by
      funext a
      fin_cases a <;> rfl
    unfold rsOut
    rw [hi]
    cases d <;> rfl
  rw [h, rsA_sum kv d r l 31 (by decide) c, headAt_last, sum_back d c fun e => kv e (ix4 c (rowNo d) r l)]

/-- The all-gather places the devices' blocks. -/
theorem agOut_apply (x : Dev nD → FVec Ideal S1024x128 .f32) (h : Dev nD) (r : Fin 1024) (d : Fin 128) :
    agOut (F := Ideal) x (ix3 h r d) = x h (ix2 r d) := by
  have hi : inBlock (ix3 h r d) = ix3 0 r d := by
    funext a
    fin_cases a <;> rfl
  unfold agOut
  rw [hi]
  unfold rowX
  show shapeCast S1x1024x128 (shapeCast S1024x128 (x h) shapeCasts_S1024x128_S1024x128 : FVec Ideal S1024x128 .f32) shapeCasts_S1024x128_S1x1024x128 (ix3 0 r d) = _
  rw [lift_apply]
  pointwise

end Cert.KernelIdeal.Ring
-- ==== Proof.KerHost.lean ====
/- What the kernel's host operations leave in the buffers that matter. -/
module

public import proofs.«01_k».proof.Proof.KerVal

@[expose] public section

set_option maxRecDepth 65536

noncomputable section

namespace Cert.KernelIdeal.Ring

open Cert.KernelIdeal Cert.KernelIdeal.Gen

open Idealize.ShloMosaic
open Idealize.ShloMosaic.TcCoe
open Idealize.SL.Sem

variable (m : (ℓ : Loc nD τ sig) → Buf (Elt Ideal) ℓ) (c : Dev nD)

set_option maxHeartbeats 2000000 in
/-- The first operations leave the partial products, head by head. -/
theorem kvOf_eq : kvOf m c = blocks
    (up (lat (m ((c.tc : Thread nD τ).loc main_arg0)) (m ((c.tc : Thread nD τ).loc main_arg1))) (m ((c.tc : Thread nD τ).loc main_arg2)))
    (up (lat (m ((c.tc : Thread nD τ).loc main_arg0)) (m ((c.tc : Thread nD τ).loc main_arg1))) (m ((c.tc : Thread nD τ).loc main_arg3))) := by
  unfold kvOf
  after_results_simp <;> rfl

set_option maxHeartbeats 2000000 in
theorem V1_v1 : V1 m c main_v1 = (shapeCast S1024x4096 (m ((c.tc : Thread nD τ).loc main_arg0)) shapeCasts_S4x256x4096_S1024x4096 : FVec Ideal S1024x4096 .f32) := by
  after_results_simp <;> rfl

set_option maxHeartbeats 4000000 in
/-- The operations between the reduce-scatter and the weighted values leave the weights. -/
theorem V3_v47 : V3 m (outs m) c main_v47 = probs (exps (scores
    (query (m ((c.tc : Thread nD τ).loc main_arg0)) (colsQ (m ((c.tc : Thread nD τ).loc main_arg4)) c))
    (kRow (rsOut (kvOf m) c))
    (posn (m ((c.tc : Thread nD τ).loc main_arg0)) (colsP (m ((c.tc : Thread nD τ).loc main_arg5)) c))
    (posn (m ((c.tc : Thread nD τ).loc main_arg0)) (m ((c.tc : Thread nD τ).loc main_arg6))))) := by
  have h1 : V2 m (outs m) c main_v1 = (shapeCast S1024x4096 (m ((c.tc : Thread nD τ).loc main_arg0)) shapeCasts_S4x256x4096_S1024x4096 : FVec Ideal S1024x4096 .f32) :=
    (V2_of m (outs m) c main_v1 (by decide)).trans (V1_v1 m c)
  have h4 : V2 m (outs m) c main_arg4 = m ((c.tc : Thread nD τ).loc main_arg4) :=
    (V2_of m (outs m) c main_arg4 (by decide)).trans (V1_of m c main_arg4 (by decide))
  have h5 : V2 m (outs m) c main_arg5 = m ((c.tc : Thread nD τ).loc main_arg5) :=
    (V2_of m (outs m) c main_arg5 (by decide)).trans (V1_of m c main_arg5 (by decide))
  have h6 : V2 m (outs m) c main_arg6 = m ((c.tc : Thread nD τ).loc main_arg6) :=
    (V2_of m (outs m) c main_arg6 (by decide)).trans (V1_of m c main_arg6 (by decide))
  have h10 := V2_v10 m c
  unfold V3
  generalize V2 m (outs m) c = V at h1 h4 h5 h6 h10
  rw [← h4, ← h5, ← h6, ← h10]
  unfold query posn lat
  rw [← h1]
  after_results_simp_entrywise
  rfl

theorem V3_v10 : V3 m (outs m) c main_v10 = rsOut (kvOf m) c := (V3_of m (outs m) c main_v10 (by decide)).trans (V2_v10 m c)

/-- The block the device enters the all-gather with: its head's outputs. -/
theorem xOf_val : xOf m c = (shapeCast S1024x128 (pvOut (V3 m (outs m) c main_v47) (V3 m (outs m) c main_v10)) shapeCasts_S4x256x128_S1024x128 : FVec Ideal S1024x128 .f32) := by
  rw [xOf_eq, ← V4_v48]
  after_results_simp <;> rfl

/-- The last operations leave the product of the gathered outputs with the last weights. -/
theorem V7_v54 : V7 m (outs m) c main_v54 = last (joined (agOut (xOf m))) (m ((c.tc : Thread nD τ).loc main_arg7)) := by
  have h7 : V6 m (outs m) c main_arg7 = m ((c.tc : Thread nD τ).loc main_arg7) :=
    (V6_of m (outs m) c main_arg7 (by decide)).trans <| (V5_of m (outs m) c main_arg7 (by decide)).trans <|
      (V4_of m (outs m) c main_arg7 (by decide)).trans <| (V3_of m (outs m) c main_arg7 (by decide)).trans <|
      (V2_of m (outs m) c main_arg7 (by decide)).trans (V1_of m c main_arg7 (by decide))
  rw [← h7, ← V6_v50 m c]
  after_results_simp <;> rfl

end Cert.KernelIdeal.Ring
-- ==== Proof.Value.lean ====
/- The kernel's result is the reference's. -/
module

public import proofs.«01_k».proof.Proof.RefVal
public import proofs.«01_k».proof.Proof.KerHost
public import Idealize.ShloMosaic.Lib.Layout

@[expose] public section

set_option maxRecDepth 65536

noncomputable section

namespace Cert.Value

open Idealize.ShloMosaic
open Idealize.ShloMosaic.TcCoe
open Idealize.SL.Sem
open Cert.Att
open Cert.KernelIdeal.Ring (row col)
open Cert.KernelIdeal (S4x256x4096 S4096x4096 S4096x128 S128x4096 S4096x2048 S4096x64 S32x2x1024x128 S1024x128 S4x256x256)

/-! ## The devices' parts of the weights -/

/-- The columns a device holds, -/
abbrev cols (W : FVec Ideal S4096x4096 .f32) (c : Fin 32) : FVec Ideal S4096x128 .f32 :=
  Layout.block ⟨2, ![4096, 128]⟩ ⟨2, ![4096, 4096]⟩ 1 32 c W
/-- and the rows. -/
abbrev rows (W : FVec Ideal S4096x4096 .f32) (c : Fin 32) : FVec Ideal S128x4096 .f32 :=
  Layout.block ⟨2, ![128, 4096]⟩ ⟨2, ![4096, 4096]⟩ 0 32 c W

theorem cols_apply (W : FVec Ideal S4096x4096 .f32) (c : Fin 32) (k : Fin 4096) (j : Fin 128) : cols W c (ix2 k j) = W (ix2 k (col c j)) := by
  refine congrArg W (funext fun a => Fin.ext ?_)
  match a with
  | ⟨0, _⟩ => rfl
  | ⟨1, _⟩ => exact congrArg (· + j.val) (Nat.mul_comm c.val 128)

theorem rows_apply (W : FVec Ideal S4096x4096 .f32) (c : Fin 32) (j : Fin 128) (n : Fin 4096) : rows W c (ix2 j n) = W (ix2 (col c j) n) := by
  refine congrArg W (funext fun a => Fin.ext ?_)
  match a with
  | ⟨0, _⟩ => exact congrArg (· + j.val) (Nat.mul_comm c.val 128)
  | ⟨1, _⟩ => rfl

/-! ## The values -/

variable (X : FVec Ideal S4x256x4096 .f32) (Wd Wk Wv Wq Wo : FVec Ideal S4096x4096 .f32) (Wp : FVec Ideal S4096x2048 .f32) (Wr : FVec Ideal S4096x64 .f32)

/-- The devices' partial products sum to the whole product: the contraction over the 4096 latents is cut among the devices. -/
theorem sum_up (W : FVec Ideal S4096x4096 .f32) (b : Fin 4) (s : Fin 256) (n : Fin 4096) :
    ∑ e : Fin 32, KernelIdeal.Ring.up (KernelIdeal.Ring.lat X (cols Wd e)) (rows W e) (ix2 (row b s) n)
      = ReferenceIdeal.Ring.proj (ReferenceIdeal.Ring.proj X Wd) W (ix3 b s n) := by
  rw [ReferenceIdeal.Ring.proj_apply, Fin.sum_univ_tiles 32 128 rfl]
  refine Finset.sum_congr rfl fun e _ => ?_
  rw [KernelIdeal.Ring.up_apply]
  refine Finset.sum_congr rfl fun j _ => ?_
  have hj : (⟨e.val * 128 + j.val, by omega⟩ : Fin 4096) = col e j := Fin.ext (congrArg (· + j.val) (Nat.mul_comm e.val 128))
  rw [hj, KernelIdeal.Ring.lat_apply, ReferenceIdeal.Ring.proj_apply, rows_apply]
  simp only [cols_apply]

/-- The blocks device `e` enters the reduce-scatter with. -/
abbrev part (e : Fin 32) : FVec Ideal S32x2x1024x128 .f32 := KernelIdeal.Ring.blocks
  (KernelIdeal.Ring.up (KernelIdeal.Ring.lat X (cols Wd e)) (rows Wk e)) (KernelIdeal.Ring.up (KernelIdeal.Ring.lat X (cols Wd e)) (rows Wv e))

/-- The reduced keys are the reference's, of the device's head, -/
theorem keys_eq (c : Fin 32) (b : Fin 4) (s : Fin 256) (d : Fin 128) :
    KernelIdeal.Ring.rsOut (F := Ideal) (part X Wd Wk Wv) c (ix3 0 (row b s) d)
      = ReferenceIdeal.Ring.heads (ReferenceIdeal.Ring.proj (ReferenceIdeal.Ring.proj X Wd) Wk) (ix4 b s c d) := by
  rw [ReferenceIdeal.Ring.heads_apply, ← sum_up]
  refine (KernelIdeal.Ring.rsOut_apply (part X Wd Wk Wv) c false (row b s) d).trans (Finset.sum_congr rfl fun e _ => ?_)
  exact KernelIdeal.Ring.blocks_fst _ _ c (row b s) d

/-- and so are the reduced values. -/
theorem vals_eq (c : Fin 32) (b : Fin 4) (s : Fin 256) (d : Fin 128) :
    KernelIdeal.Ring.rsOut (F := Ideal) (part X Wd Wk Wv) c (ix3 1 (row b s) d)
      = ReferenceIdeal.Ring.heads (ReferenceIdeal.Ring.proj (ReferenceIdeal.Ring.proj X Wd) Wv) (ix4 b s c d) := by
  rw [ReferenceIdeal.Ring.heads_apply, ← sum_up]
  refine (KernelIdeal.Ring.rsOut_apply (part X Wd Wk Wv) c true (row b s) d).trans (Finset.sum_congr rfl fun e _ => ?_)
  exact KernelIdeal.Ring.blocks_snd _ _ c (row b s) d

/-- The device's scores. -/
abbrev scoresK (c : Fin 32) : FVec Ideal S4x256x256 .f32 := KernelIdeal.Ring.scores
  (KernelIdeal.Ring.query X (KernelIdeal.Ring.colsQ Wq c)) (KernelIdeal.Ring.kRow (KernelIdeal.Ring.rsOut (F := Ideal) (part X Wd Wk Wv) c))
  (KernelIdeal.Ring.posn X (KernelIdeal.Ring.colsP Wp c)) (KernelIdeal.Ring.posn X Wr)

/-- The reference's scores. -/
abbrev scoresR : FVec Ideal ReferenceIdeal.S4x32x256x256 .f32 := ReferenceIdeal.Ring.scores
  (ReferenceIdeal.Ring.heads (ReferenceIdeal.Ring.proj X Wq)) (ReferenceIdeal.Ring.heads (ReferenceIdeal.Ring.proj (ReferenceIdeal.Ring.proj X Wd) Wk))
  (ReferenceIdeal.Ring.qpos X Wp) (ReferenceIdeal.Ring.kpos X Wr)

/-- The device's scores are the reference's, of its head. -/
theorem scores_eq (c : Fin 32) (b : Fin 4) (s t : Fin 256) : scoresK X Wd Wk Wv Wq Wp Wr c (ix3 b s t) = scoresR X Wd Wk Wq Wp Wr (ix4 b c s t) := by
  unfold scoresK scoresR
  rw [KernelIdeal.Ring.scores_apply, ReferenceIdeal.Ring.scores_apply]
  simp only [KernelIdeal.Ring.query_apply, KernelIdeal.Ring.kRow_apply, KernelIdeal.Ring.posn_apply, KernelIdeal.Ring.colsQ_apply,
    KernelIdeal.Ring.colsP_apply, keys_eq, ReferenceIdeal.Ring.qpos_apply, ReferenceIdeal.Ring.kpos_apply]
  congr 1
  funext s d
  rw [ReferenceIdeal.Ring.heads_apply, ReferenceIdeal.Ring.proj_apply]

/-- The device's outputs. -/
abbrev outK (c : Fin 32) : FVec Ideal S1024x128 .f32 := shapeCast S1024x128
  (KernelIdeal.Ring.pvOut (F := Ideal) (KernelIdeal.Ring.probs (KernelIdeal.Ring.exps (scoresK X Wd Wk Wv Wq Wp Wr c)))
    (KernelIdeal.Ring.rsOut (F := Ideal) (part X Wd Wk Wv) c)) KernelIdeal.Gen.shapeCasts_S4x256x128_S1024x128

/-- The reference's outputs, head by head. -/
abbrev outR : FVec Ideal ReferenceIdeal.S4x256x32x128 .f32 := ReferenceIdeal.Ring.weighted
  (ReferenceIdeal.Ring.heads (ReferenceIdeal.Ring.proj (ReferenceIdeal.Ring.proj X Wd) Wv))
  (ReferenceIdeal.Ring.probs (ReferenceIdeal.Ring.exps (scoresR X Wd Wk Wq Wp Wr)))

/-- The device's outputs are the reference's, of its head. -/
theorem out_eq (c : Fin 32) (b : Fin 4) (s : Fin 256) (d : Fin 128) :
    outK X Wd Wk Wv Wq Wp Wr c (ix2 (row b s) d) = outR X Wd Wk Wv Wq Wp Wr (ix4 b s c d) := by
  refine (KernelIdeal.Ring.flat128_apply _ b s d).trans ?_
  unfold outR
  rw [KernelIdeal.Ring.pvOut_apply, ReferenceIdeal.Ring.weighted_apply]
  simp only [KernelIdeal.Ring.probs_apply, ReferenceIdeal.Ring.probs_apply, scores_eq, vals_eq]

/-- The results agree. -/
theorem result_eq : KernelIdeal.Ring.last (KernelIdeal.Ring.joined (KernelIdeal.Ring.agOut (F := Ideal) (outK X Wd Wk Wv Wq Wp Wr))) Wo
    = ReferenceIdeal.Ring.proj (ReferenceIdeal.Ring.joined (outR X Wd Wk Wv Wq Wp Wr)) Wo := by
  funext i
  have hi : i = ix3 (i 0) (i 1) (i 2) := by
    funext a
    fin_cases a <;> rfl
  rw [hi]
  generalize i 0 = b
  generalize i 1 = s
  generalize i 2 = n
  refine (KernelIdeal.Ring.last_apply _ Wo b s n).trans (.trans ?_ (ReferenceIdeal.Ring.proj_apply _ Wo b s n).symm)
  refine Finset.sum_congr rfl fun j _ => congrArg (· * Wo (ix2 j n)) ?_
  obtain ⟨h, d, rfl⟩ : ∃ (h : Fin 32) (d : Fin 128), j = col h d :=
    ⟨⟨j.val / 128, by omega⟩, ⟨j.val % 128, Nat.mod_lt _ (by decide)⟩, Fin.ext (by show j.val = 128 * (j.val / 128) + j.val % 128; omega)⟩
  exact (KernelIdeal.Ring.joined_apply _ h (row b s) d).trans <| (KernelIdeal.Ring.agOut_apply _ h (row b s) d).trans <|
    (out_eq X Wd Wk Wv Wq Wp Wr h b s d).trans (ReferenceIdeal.Ring.joined_apply _ b s h d).symm

/-! ## The claim -/

/-- Where the devices' arguments are their parts of the reference's, every device's result is the reference's. -/
theorem kernel_eq (m : (ℓ : Loc KernelIdeal.nD KernelIdeal.τ KernelIdeal.sig) → Buf (Elt Ideal) ℓ)
    (h : ∀ c : Dev KernelIdeal.nD,
      m ((c.tc : Thread KernelIdeal.nD KernelIdeal.τ).loc KernelIdeal.main_arg0) = X
      ∧ m ((c.tc : Thread KernelIdeal.nD KernelIdeal.τ).loc KernelIdeal.main_arg1) = cols Wd c
      ∧ m ((c.tc : Thread KernelIdeal.nD KernelIdeal.τ).loc KernelIdeal.main_arg2) = rows Wk c
      ∧ m ((c.tc : Thread KernelIdeal.nD KernelIdeal.τ).loc KernelIdeal.main_arg3) = rows Wv c
      ∧ m ((c.tc : Thread KernelIdeal.nD KernelIdeal.τ).loc KernelIdeal.main_arg4) = Wq
      ∧ m ((c.tc : Thread KernelIdeal.nD KernelIdeal.τ).loc KernelIdeal.main_arg5) = Wp
      ∧ m ((c.tc : Thread KernelIdeal.nD KernelIdeal.τ).loc KernelIdeal.main_arg6) = Wr
      ∧ m ((c.tc : Thread KernelIdeal.nD KernelIdeal.τ).loc KernelIdeal.main_arg7) = Wo) (c : Dev KernelIdeal.nD) :
    KernelIdeal.Gen.V7 m (KernelIdeal.Ring.outs m) c KernelIdeal.main_v54
      = ReferenceIdeal.Ring.proj (ReferenceIdeal.Ring.joined (outR X Wd Wk Wv Wq Wp Wr)) Wo := by
  have hkv : KernelIdeal.Ring.kvOf m = part X Wd Wk Wv := by
    funext e
    obtain ⟨h0, h1, h2, h3, -⟩ := h e
    rw [KernelIdeal.Ring.kvOf_eq, h0, h1, h2, h3]
  have hx : KernelIdeal.Ring.xOf m = outK X Wd Wk Wv Wq Wp Wr := by
    funext e
    obtain ⟨h0, -, -, -, h4, h5, h6, -⟩ := h e
    rw [KernelIdeal.Ring.xOf_val, KernelIdeal.Ring.V3_v47, KernelIdeal.Ring.V3_v10, hkv, h0, h4, h5, h6]
  rw [KernelIdeal.Ring.V7_v54, hx, (h c).2.2.2.2.2.2.2]
  exact result_eq X Wd Wk Wv Wq Wo Wp Wr

/-- Every device's result is the reference's. -/
theorem algebraic : Cert.algebraic_KernelIdeal_ReferenceIdeal := by
  intro m g m' g' _ h
  refine ⟨ReferenceIdeal.Value.res_main_v29 m' 0, ?_, ?_⟩
  · refine (θ_run _ _ _).mono (fun r hr c => ⟨(hr.1 c).trans ?_, hr.2.1 c⟩) (KernelIdeal.Ring.run_result m g)
    exact (kernel_eq _ _ _ _ _ _ _ _ m h c).trans (ReferenceIdeal.Ring.result_eq m' 0).symm
  · exact (θ_run _ _ _).mono (fun r hr => hr 0) (ReferenceIdeal.Value.run m' g')

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frame
public import proofs.«01_k».proof.Proof.Float.Frame
public import proofs.«01_k».proof.Proof.Ref
public import proofs.«01_k».proof.Proof.Value

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  fun m g _ => Cert.Kernel.Ring.frame m g,
  fun m g _ => Cert.KernelIdeal.Ring.frame m g,
  Cert.ReferenceIdeal.Ring.frame,
  trivial,
  Cert.Value.algebraic⟩

end Cert.Proof

end
